-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_unbiased [hPre_finite_unbiased : Cert.Pre_finite_unbiased.Facts] (m : (ℓ : Loc Cert.KernelIdeal.nD Cert.KernelIdeal.τ Cert.KernelIdeal.sig) → Buf (Elt Ideal) ℓ) : Prop :=
  ∀ c : Dev Cert.KernelIdeal.nD,
    (Cert.Pre_finite_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_finite_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_finite_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 = (fun _ => 1#1)
    ∧ (Cert.Pre_finite_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.1 = (fun _ => 1#1)
    ∧ (Cert.Pre_finite_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.1 = (fun _ => 1#1)
    ∧ (Cert.Pre_finite_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.1 = (fun _ => 1#1)
    ∧ (Cert.Pre_finite_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.1 = (fun _ => 1#1)
    ∧ (Cert.Pre_finite_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.1 = (fun _ => 1#1)
    ∧ (Cert.Pre_finite_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.1 = (fun _ => 1#1)
    ∧ (Cert.Pre_finite_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.1 = (fun _ => 1#1)
    ∧ (Cert.Pre_finite_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2.1 = (fun _ => 1#1)
    ∧ (Cert.Pre_finite_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2.2.1 = (fun _ => 1#1)
    ∧ (Cert.Pre_finite_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2.2.2.1 = (fun _ => 1#1)
    ∧ (Cert.Pre_finite_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_unbiased [hPre_finite_unbiased : Cert.Pre_finite_unbiased.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_finite_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_finite_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.1 = (fun _ => 1#1)
    ∧ (Cert.Pre_finite_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.1 = (fun _ => 1#1)
    ∧ (Cert.Pre_finite_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.1 = (fun _ => 1#1)
    ∧ (Cert.Pre_finite_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.1 = (fun _ => 1#1)
    ∧ (Cert.Pre_finite_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.1 = (fun _ => 1#1)
    ∧ (Cert.Pre_finite_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.1 = (fun _ => 1#1)
    ∧ (Cert.Pre_finite_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.1 = (fun _ => 1#1)
    ∧ (Cert.Pre_finite_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.1 = (fun _ => 1#1)
    ∧ (Cert.Pre_finite_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.2.1 = (fun _ => 1#1)
    ∧ (Cert.Pre_finite_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.2.2.1 = (fun _ => 1#1)
    ∧ (Cert.Pre_finite_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.2.2.2.1 = (fun _ => 1#1)
    ∧ (Cert.Pre_finite_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite_unbiased [hKernelIdeal : Cert.KernelIdeal.Facts] [hPre_finite_unbiased : Cert.Pre_finite_unbiased.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_unbiased m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite_unbiased [hReferenceIdeal : Cert.ReferenceIdeal.Facts] [hPre_finite_unbiased : Cert.Pre_finite_unbiased.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_unbiased m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_unbiased [hKernelIdeal : Cert.KernelIdeal.Facts] [hReferenceIdeal : Cert.ReferenceIdeal.Facts] [hPre_finite_unbiased : Cert.Pre_finite_unbiased.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_unbiased m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7_18) = v0 c
          ∧ r.2.mem ((c.tc : Thread Cert.ReferenceIdeal.nD Cert.ReferenceIdeal.τ).loc Cert.ReferenceIdeal.main_v7_19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_unbiased : Cert.Pre_finite_unbiased.Facts),
    quiescent_Kernel (hKernel := hKernel)
    ∧ quiescent_KernelIdeal (hKernelIdeal := hKernelIdeal)
    ∧ quiescent_KernelIdeal_pre_finite_unbiased (hKernelIdeal := hKernelIdeal) (hPre_finite_unbiased := hPre_finite_unbiased)
    ∧ quiescent_ReferenceIdeal (hReferenceIdeal := hReferenceIdeal)
    ∧ quiescent_ReferenceIdeal_pre_finite_unbiased (hReferenceIdeal := hReferenceIdeal) (hPre_finite_unbiased := hPre_finite_unbiased)
    ∧ preserves_Kernel_KernelIdeal
    ∧ algebraic_KernelIdeal_ReferenceIdeal_pre_finite_unbiased (hKernelIdeal := hKernelIdeal) (hReferenceIdeal := hReferenceIdeal) (hPre_finite_unbiased := hPre_finite_unbiased)
-- ==== Pre_finite_unbiased.lean ====
abbrev S50x256x128 : Shape := ⟨3, ![50, 256, 128]⟩
abbrev S1x256x128 : Shape := ⟨3, ![1, 256, 128]⟩
abbrev S128x256 : Shape := ⟨2, ![128, 256]⟩
abbrev S128 : Shape := ⟨1, ![128]⟩
abbrev S1 : Shape := ⟨1, ![1]⟩
abbrev S512x128 : Shape := ⟨2, ![512, 128]⟩
abbrev S512 : Shape := ⟨1, ![512]⟩
abbrev S1x512 : Shape := ⟨2, ![1, 512]⟩
abbrev S384x128 : Shape := ⟨2, ![384, 128]⟩
abbrev S384 : Shape := ⟨1, ![384]⟩
abbrev S_ : Shape := ⟨0, ![]⟩

class Facts : Prop where
  bcast_S_S50x256x128 : S_.BroadcastsInDim S50x256x128 (![] : Fin 0 → Fin S50x256x128.rank)
  bcast_S_S1x256x128 : S_.BroadcastsInDim S1x256x128 (![] : Fin 0 → Fin S1x256x128.rank)
  bcast_S_S128x256 : S_.BroadcastsInDim S128x256 (![] : Fin 0 → Fin S128x256.rank)
  bcast_S_S512x128 : S_.BroadcastsInDim S512x128 (![] : Fin 0 → Fin S512x128.rank)
  bcast_S_S1x512 : S_.BroadcastsInDim S1x512 (![] : Fin 0 → Fin S1x512.rank)
  bcast_S_S1 : S_.BroadcastsInDim S1 (![] : Fin 0 → Fin S1.rank)
  bcast_S_S128 : S_.BroadcastsInDim S128 (![] : Fin 0 → Fin S128.rank)
  bcast_S_S512 : S_.BroadcastsInDim S512 (![] : Fin 0 → Fin S512.rank)
  bcast_S_S384 : S_.BroadcastsInDim S384 (![] : Fin 0 → Fin S384.rank)

variable [Facts]

def fn_part2 {F : FTy → Type} [FloatOps F] (main_arg13 : FVec F S384 .f32) (main_v2 : IVec S50x256x128 1) (main_v5 : IVec S1x256x128 1) (main_v8 : IVec S128x256 1) (main_v11 : IVec S512x128 1) (main_v14 : IVec S1x512 1) (main_v17 : IVec S1 1) (main_v20 : IVec S1 1) (main_v23 : IVec S1 1) (main_v25 : IVec S1 1) (main_v27 : IVec S1 1) (main_v29 : IVec S128 1) (main_v31 : IVec S512 1) (main_v33 : IVec S384 1) (main_cst_12 : FVec F S_ .f32) : IVec S50x256x128 1 × IVec S1x256x128 1 × IVec S128x256 1 × IVec S512x128 1 × IVec S1x512 1 × IVec S1 1 × IVec S1 1 × IVec S1 1 × IVec S1 1 × IVec S1 1 × IVec S128 1 × IVec S512 1 × IVec S384 1 × IVec S384 1 :=
  let main_v34 : FVec F S384 .f32 := broadcastInDim S384 ![] bcast_S_S384 main_cst_12
  let main_v35 : IVec S384 1 := cmpf .oeq main_arg13 main_v34
  (main_v2, main_v5, main_v8, main_v11, main_v14, main_v17, main_v20, main_v23, main_v25, main_v27, main_v29, main_v31, main_v33, main_v35)

def fn_part1 {F : FTy → Type} [FloatOps F] (main_arg3 : FVec F S128 .f32) (main_arg4 : FVec F S1 .f32) (main_arg6 : FVec F S512 .f32) (main_arg7 : FVec F S1 .f32) (main_arg9 : FVec F S1 .f32) (main_arg12 : FVec F S384 .f32) (main_arg13 : FVec F S384 .f32) (main_v2 : IVec S50x256x128 1) (main_v5 : IVec S1x256x128 1) (main_v8 : IVec S128x256 1) (main_v11 : IVec S512x128 1) (main_v14 : IVec S1x512 1) (main_v17 : IVec S1 1) : IVec S50x256x128 1 × IVec S1x256x128 1 × IVec S128x256 1 × IVec S512x128 1 × IVec S1x512 1 × IVec S1 1 × IVec S1 1 × IVec S1 1 × IVec S1 1 × IVec S1 1 × IVec S128 1 × IVec S512 1 × IVec S384 1 × IVec S384 1 :=
  let main_v18 : FVec F S1 .f32 := Host.absf main_arg7
  let main_cst_5 : FVec F S_ .f32 := constant S_ .f32 0x7F800000#32
  let main_v19 : FVec F S1 .f32 := broadcastInDim S1 ![] bcast_S_S1 main_cst_5
  let main_v20 : IVec S1 1 := cmpf .olt main_v18 main_v19
  let main_v21 : FVec F S1 .f32 := Host.absf main_arg9
  let main_cst_6 : FVec F S_ .f32 := constant S_ .f32 0x7F800000#32
  let main_v22 : FVec F S1 .f32 := broadcastInDim S1 ![] bcast_S_S1 main_cst_6
  let main_v23 : IVec S1 1 := cmpf .olt main_v21 main_v22
  let main_cst_7 : FVec F S_ .f32 := constant S_ .f32 0x3F800000#32
  let main_v24 : FVec F S1 .f32 := broadcastInDim S1 ![] bcast_S_S1 main_cst_7
  let main_v25 : IVec S1 1 := cmpf .ole main_arg4 main_v24
  let main_cst_8 : FVec F S_ .f32 := constant S_ .f32 0x3F800000#32
  let main_v26 : FVec F S1 .f32 := broadcastInDim S1 ![] bcast_S_S1 main_cst_8
  let main_v27 : IVec S1 1 := cmpf .ole main_arg7 main_v26
  let main_cst_9 : FVec F S_ .f32 := constant S_ .f32 0x00000000#32
  let main_v28 : FVec F S128 .f32 := broadcastInDim S128 ![] bcast_S_S128 main_cst_9
  let main_v29 : IVec S128 1 := cmpf .oeq main_arg3 main_v28
  let main_cst_10 : FVec F S_ .f32 := constant S_ .f32 0x00000000#32
  let main_v30 : FVec F S512 .f32 := broadcastInDim S512 ![] bcast_S_S512 main_cst_10
  let main_v31 : IVec S512 1 := cmpf .oeq main_arg6 main_v30
  let main_cst_11 : FVec F S_ .f32 := constant S_ .f32 0x00000000#32
  let main_v32 : FVec F S384 .f32 := broadcastInDim S384 ![] bcast_S_S384 main_cst_11
  let main_v33 : IVec S384 1 := cmpf .oeq main_arg12 main_v32
  let main_cst_12 : FVec F S_ .f32 := constant S_ .f32 0x00000000#32
  fn_part2 (F := F) main_arg13 main_v2 main_v5 main_v8 main_v11 main_v14 main_v17 main_v20 main_v23 main_v25 main_v27 main_v29 main_v31 main_v33 main_cst_12

def fn {F : FTy → Type} [FloatOps F] (main_arg0 : FVec F S50x256x128 .f32) (main_arg1 : FVec F S1x256x128 .f32) (main_arg2 : FVec F S128x256 .f32) (main_arg3 : FVec F S128 .f32) (main_arg4 : FVec F S1 .f32) (main_arg5 : FVec F S512x128 .f32) (main_arg6 : FVec F S512 .f32) (main_arg7 : FVec F S1 .f32) (main_arg8 : FVec F S1x512 .f32) (main_arg9 : FVec F S1 .f32) (main_arg10 : FVec F S384x128 .f32) (main_arg11 : FVec F S384x128 .f32) (main_arg12 : FVec F S384 .f32) (main_arg13 : FVec F S384 .f32) : IVec S50x256x128 1 × IVec S1x256x128 1 × IVec S128x256 1 × IVec S512x128 1 × IVec S1x512 1 × IVec S1 1 × IVec S1 1 × IVec S1 1 × IVec S1 1 × IVec S1 1 × IVec S128 1 × IVec S512 1 × IVec S384 1 × IVec S384 1 :=
  let main_v0 : FVec F S50x256x128 .f32 := Host.absf main_arg0
  let main_cst : FVec F S_ .f32 := constant S_ .f32 0x7F800000#32
  let main_v1 : FVec F S50x256x128 .f32 := broadcastInDim S50x256x128 ![] bcast_S_S50x256x128 main_cst
  let main_v2 : IVec S50x256x128 1 := cmpf .olt main_v0 main_v1
  let main_v3 : FVec F S1x256x128 .f32 := Host.absf main_arg1
  let main_cst_0 : FVec F S_ .f32 := constant S_ .f32 0x7F800000#32
  let main_v4 : FVec F S1x256x128 .f32 := broadcastInDim S1x256x128 ![] bcast_S_S1x256x128 main_cst_0
  let main_v5 : IVec S1x256x128 1 := cmpf .olt main_v3 main_v4
  let main_v6 : FVec F S128x256 .f32 := Host.absf main_arg2
  let main_cst_1 : FVec F S_ .f32 := constant S_ .f32 0x7F800000#32
  let main_v7 : FVec F S128x256 .f32 := broadcastInDim S128x256 ![] bcast_S_S128x256 main_cst_1
  let main_v8 : IVec S128x256 1 := cmpf .olt main_v6 main_v7
  let main_v9 : FVec F S512x128 .f32 := Host.absf main_arg5
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_v12 : FVec F S1x512 .f32 := Host.absf main_arg8
  let main_cst_3 : FVec F S_ .f32 := constant S_ .f32 0x7F800000#32
  let main_v13 : FVec F S1x512 .f32 := broadcastInDim S1x512 ![] bcast_S_S1x512 main_cst_3
  let main_v14 : IVec S1x512 1 := cmpf .olt main_v12 main_v13
  let main_v15 : FVec F S1 .f32 := Host.absf main_arg4
  let main_cst_4 : FVec F S_ .f32 := constant S_ .f32 0x7F800000#32
  let main_v16 : FVec F S1 .f32 := broadcastInDim S1 ![] bcast_S_S1 main_cst_4
  let main_v17 : IVec S1 1 := cmpf .olt main_v15 main_v16
  fn_part1 (F := F) main_arg3 main_arg4 main_arg6 main_arg7 main_arg9 main_arg12 main_arg13 main_v2 main_v5 main_v8 main_v11 main_v14 main_v17
-- ==== Kernel.lean ====
abbrev S50x256x128 : Shape := ⟨3, ![50, 256, 128]⟩
abbrev S1x256x128 : Shape := ⟨3, ![1, 256, 128]⟩
abbrev S128x256 : Shape := ⟨2, ![128, 256]⟩
abbrev S128 : Shape := ⟨1, ![128]⟩
abbrev S1 : Shape := ⟨1, ![1]⟩
abbrev S512x128 : Shape := ⟨2, ![512, 128]⟩
abbrev S512 : Shape := ⟨1, ![512]⟩
abbrev S1x512 : Shape := ⟨2, ![1, 512]⟩
abbrev S384x128 : Shape := ⟨2, ![384, 128]⟩
abbrev S384 : Shape := ⟨1, ![384]⟩
abbrev S128x50x256 : Shape := ⟨3, ![128, 50, 256]⟩
abbrev S128x12800 : Shape := ⟨2, ![128, 12800]⟩
abbrev S256x128 : Shape := ⟨2, ![256, 128]⟩
abbrev S1x1 : Shape := ⟨2, ![1, 1]⟩
abbrev S10x256 : Shape := ⟨2, ![10, 256]⟩
abbrev S64x256 : Shape := ⟨2, ![64, 256]⟩
abbrev S512x12800 : Shape := ⟨2, ![512, 12800]⟩
abbrev S1x12800 : Shape := ⟨2, ![1, 12800]⟩
abbrev S128x128 : Shape := ⟨2, ![128, 128]⟩
abbrev S128x6400 : Shape := ⟨2, ![128, 6400]⟩
abbrev S512x6400 : Shape := ⟨2, ![512, 6400]⟩
abbrev S1x256 : Shape := ⟨2, ![1, 256]⟩
abbrev S256 : Shape := ⟨1, ![256]⟩
abbrev S384x256 : Shape := ⟨2, ![384, 256]⟩
abbrev S256x10 : Shape := ⟨2, ![256, 10]⟩

abbrev nBuf : Space → Nat
  | .hbm => 24
  | .vmem => 15
  | .smem => 0
  | _ => 0

abbrev bufTy : (tb : Table) → Fin (tcTables nBuf tb) → BufTy
  | .hbm, ⟨0, _⟩ => ⟨S50x256x128, .f32⟩
  | .hbm, ⟨1, _⟩ => ⟨S1x256x128, .f32⟩
  | .hbm, ⟨2, _⟩ => ⟨S128x256, .f32⟩
  | .hbm, ⟨3, _⟩ => ⟨S128, .f32⟩
  | .hbm, ⟨4, _⟩ => ⟨S1, .f32⟩
  | .hbm, ⟨5, _⟩ => ⟨S512x128, .f32⟩
  | .hbm, ⟨6, _⟩ => ⟨S512, .f32⟩
  | .hbm, ⟨7, _⟩ => ⟨S1, .f32⟩
  | .hbm, ⟨8, _⟩ => ⟨S1x512, .f32⟩
  | .hbm, ⟨9, _⟩ => ⟨S1, .f32⟩
  | .hbm, ⟨10, _⟩ => ⟨S384x128, .f32⟩
  | .hbm, ⟨11, _⟩ => ⟨S384x128, .f32⟩
  | .hbm, ⟨12, _⟩ => ⟨S384, .f32⟩
  | .hbm, ⟨13, _⟩ => ⟨S384, .f32⟩
  | .hbm, ⟨14, _⟩ => ⟨S128x50x256, .f32⟩
  | .hbm, ⟨15, _⟩ => ⟨S128x12800, .f32⟩
  | .hbm, ⟨16, _⟩ => ⟨S256x128, .f32⟩
  | .hbm, ⟨17, _⟩ => ⟨S128x256, .f32⟩
  | .hbm, ⟨18, _⟩ => ⟨S1x1, .f32⟩
  | .hbm, ⟨19, _⟩ => ⟨S1x1, .f32⟩
  | .hbm, ⟨20, _⟩ => ⟨S10x256, .f32⟩
  | .hbm, ⟨21, _⟩ => ⟨S10x256, .f32⟩
  | .hbm, ⟨22, _⟩ => ⟨S256x10, .f32⟩
  | .hbm, ⟨23, _⟩ => ⟨S256x10, .f32⟩
  | .local _ .vmem, ⟨0, _⟩ => ⟨S128x12800, .f32⟩
  | .local _ .vmem, ⟨1, _⟩ => ⟨S128x256, .f32⟩
  | .local _ .vmem, ⟨2, _⟩ => ⟨S128x256, .f32⟩
  | .local _ .vmem, ⟨3, _⟩ => ⟨S512x128, .f32⟩
  | .local _ .vmem, ⟨4, _⟩ => ⟨S1x512, .f32⟩
  | .local _ .vmem, ⟨5, _⟩ => ⟨S1x1, .f32⟩
  | .local _ .vmem, ⟨6, _⟩ => ⟨S1x1, .f32⟩
  | .local _ .vmem, ⟨7, _⟩ => ⟨S384x128, .f32⟩
  | .local _ .vmem, ⟨8, _⟩ => ⟨S384x128, .f32⟩
  | .local _ .vmem, ⟨9, _⟩ => ⟨S10x256, .f32⟩
  | .local _ .vmem, ⟨10, _⟩ => ⟨S10x256, .f32⟩
  | .local _ .vmem, ⟨11, _⟩ => ⟨S128x12800, .f32⟩
  | .local _ .vmem, ⟨12, _⟩ => ⟨S64x256, .f32⟩
  | .local _ .vmem, ⟨13, _⟩ => ⟨S512x12800, .bf16⟩
  | .local _ .vmem, ⟨14, _⟩ => ⟨S1x12800, .f32⟩
  | _, _ => ⟨S50x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6_0 : Ref sig .tc := ⟨.hbm, 20, rfl⟩
abbrev main_v6_1 : Ref sig .tc := ⟨.hbm, 21, rfl⟩
abbrev main_v7 : Ref sig .tc := ⟨.hbm, 22, rfl⟩
abbrev main_v8 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c2_i32 : BitVec 32 := 2#32
  let v32 : BitVec 32 := Scalar.addi c0_i32 c2_i32
  let c1_i32 : BitVec 32 := 1#32
  ⟨c0_i32, v32, c1_i32⟩
def k0_off1 (k0_t1 : Fin k0_t1_loop.trips) : Fin 2 → Nat :=
  let c0_348 : Index := 0#32
  let c0_i32 : BitVec 32 := 0#32
  let c1_i32 : BitVec 32 := 1#32
  let arg15 : BitVec 32 := Scf.iv c0_i32 c1_i32 k0_t1
  let c25_i32 : BitVec 32 := 25#32
  let v621 : BitVec 32 := Scalar.muli arg15 c25_i32
  let c256_i32 : BitVec 32 := 256#32
  let v622 : BitVec 32 := Scalar.muli v621 c256_i32
  let v623 : Index := Scalar.indexCast v622
  ![0, v623.toNat]
def k0_off2 (k0_t1 : Fin k0_t1_loop.trips) : Fin 2 → Nat :=
  let c0_352 : Index := 0#32
  let c0_i32 : BitVec 32 := 0#32
  let c1_i32 : BitVec 32 := 1#32
  let arg15 : BitVec 32 := Scf.iv c0_i32 c1_i32 k0_t1
  let c25_i32_350 : BitVec 32 := 25#32
  let v635 : BitVec 32 := Scalar.muli arg15 c25_i32_350
  let c256_i32_351 : BitVec 32 := 256#32
  let v636 : BitVec 32 := Scalar.muli v635 c256_i32_351
  let v637 : Index := Scalar.indexCast v636
  ![0, v637.toNat]
@[reducible] def k0_t2_loop : Scf.Loop 32 :=
  let c0_i32_27 : BitVec 32 := 0#32
  let c50_i32 : BitVec 32 := 50#32
  let v38 : BitVec 32 := Scalar.addi c0_i32_27 c50_i32
  let c1_i32_28 : BitVec 32 := 1#32
  ⟨c0_i32_27, v38, c1_i32_28⟩
def k0_off3 (k0_t2 : Fin k0_t2_loop.trips) : Fin 2 → Nat :=
  let c0_348 : Index := 0#32
  let c0_i32_27 : BitVec 32 := 0#32
  let c1_i32_28 : BitVec 32 := 1#32
  let arg15 : BitVec 32 := Scf.iv c0_i32_27 c1_i32_28 k0_t2
  let c256_i32 : BitVec 32 := 256#32
  let v621 : BitVec 32 := Scalar.muli arg15 c256_i32
  let v622 : Index := Scalar.indexCast v621
  ![0, v622.toNat]
def k0_off4 (k0_t2 : Fin k0_t2_loop.trips) : Fin 2 → Nat :=
  let c0_i32_27 : BitVec 32 := 0#32
  let c1_i32_28 : BitVec 32 := 1#32
  let arg15 : BitVec 32 := Scf.iv c0_i32_27 c1_i32_28 k0_t2
  let v624 : Index := Scalar.indexCast arg15
  let c0_349 : Index := 0#32
  ![v624.toNat, 0]
@[reducible] def k0_t3_loop : Scf.Loop 32 :=
  let c0_i32_39 : BitVec 32 := 0#32
  let c50_i32_40 : BitVec 32 := 50#32
  let v64 : BitVec 32 := Scalar.addi c0_i32_39 c50_i32_40
  let c1_i32_41 : BitVec 32 := 1#32
  ⟨c0_i32_39, v64, c1_i32_41⟩
def k0_off5 (k0_t3 : Fin k0_t3_loop.trips) : Fin 2 → Nat :=
  let c0_348 : Index := 0#32
  let c0_i32_39 : BitVec 32 := 0#32
  let c1_i32_41 : BitVec 32 := 1#32
  let arg15 : BitVec 32 := Scf.iv c0_i32_39 c1_i32_41 k0_t3
  let c256_i32 : BitVec 32 := 256#32
  let v623 : BitVec 32 := Scalar.muli arg15 c256_i32
  let v624 : Index := Scalar.indexCast v623
  ![0, v624.toNat]
@[reducible] def k0_t4_loop : Scf.Loop 32 :=
  let c0_i32_51 : BitVec 32 := 0#32
  let c2_i32_52 : BitVec 32 := 2#32
  let v94 : BitVec 32 := Scalar.addi c0_i32_51 c2_i32_52
  let c1_i32_53 : BitVec 32 := 1#32
  ⟨c0_i32_51, v94, c1_i32_53⟩
def k0_off6 (k0_t4 : Fin k0_t4_loop.trips) : Fin 2 → Nat :=
  let c0_348 : Index := 0#32
  let c0_i32_51 : BitVec 32 := 0#32
  let c1_i32_53 : BitVec 32 := 1#32
  let arg15 : BitVec 32 := Scf.iv c0_i32_51 c1_i32_53 k0_t4
  let c25_i32 : BitVec 32 := 25#32
  let v621 : BitVec 32 := Scalar.muli arg15 c25_i32
  let c256_i32 : BitVec 32 := 256#32
  let v622 : BitVec 32 := Scalar.muli v621 c256_i32
  let v623 : Index := Scalar.indexCast v622
  ![0, v623.toNat]
def k0_off7 (k0_t4 : Fin k0_t4_loop.trips) : Fin 2 → Nat :=
  let c0_352 : Index := 0#32
  let c0_i32_51 : BitVec 32 := 0#32
  let c1_i32_53 : BitVec 32 := 1#32
  let arg15 : BitVec 32 := Scf.iv c0_i32_51 c1_i32_53 k0_t4
  let c25_i32_350 : BitVec 32 := 25#32
  let v635 : BitVec 32 := Scalar.muli arg15 c25_i32_350
  let c256_i32_351 : BitVec 32 := 256#32
  let v636 : BitVec 32 := Scalar.muli v635 c256_i32_351
  let v637 : Index := Scalar.indexCast v636
  ![0, v637.toNat]
@[reducible] def k0_t5_loop : Scf.Loop 32 :=
  let c0_i32_60 : BitVec 32 := 0#32
  let c50_i32_61 : BitVec 32 := 50#32
  let v100 : BitVec 32 := Scalar.addi c0_i32_60 c50_i32_61
  let c1_i32_62 : BitVec 32 := 1#32
  ⟨c0_i32_60, v100, c1_i32_62⟩
def k0_off8 (k0_t5 : Fin k0_t5_loop.trips) : Fin 2 → Nat :=
  let c0_348 : Index := 0#32
  let c0_i32_60 : BitVec 32 := 0#32
  let c1_i32_62 : BitVec 32 := 1#32
  let arg15 : BitVec 32 := Scf.iv c0_i32_60 c1_i32_62 k0_t5
  let c256_i32 : BitVec 32 := 256#32
  let v621 : BitVec 32 := Scalar.muli arg15 c256_i32
  let v622 : Index := Scalar.indexCast v621
  ![0, v622.toNat]
def k0_off9 (k0_t5 : Fin k0_t5_loop.trips) : Fin 2 → Nat :=
  let c0_i32_60 : BitVec 32 := 0#32
  let c1_i32_62 : BitVec 32 := 1#32
  let arg15 : BitVec 32 := Scf.iv c0_i32_60 c1_i32_62 k0_t5
  let v624 : Index := Scalar.indexCast arg15
  let c0_349 : Index := 0#32
  ![v624.toNat, 0]
@[reducible] def k0_t6_loop : Scf.Loop 32 :=
  let c0_i32_74 : BitVec 32 := 0#32
  let c50_i32_75 : BitVec 32 := 50#32
  let v126 : BitVec 32 := Scalar.addi c0_i32_74 c50_i32_75
  let c1_i32_76 : BitVec 32 := 1#32
  ⟨c0_i32_74, v126, c1_i32_76⟩
def k0_off10 (k0_t6 : Fin k0_t6_loop.trips) : Fin 2 → Nat :=
  let c0_348 : Index := 0#32
  let c0_i32_74 : BitVec 32 := 0#32
  let c1_i32_76 : BitVec 32 := 1#32
  let arg15 : BitVec 32 := Scf.iv c0_i32_74 c1_i32_76 k0_t6
  let c256_i32 : BitVec 32 := 256#32
  let v623 : BitVec 32 := Scalar.muli arg15 c256_i32
  let v624 : Index := Scalar.indexCast v623
  ![0, v624.toNat]
@[reducible] def k0_t7_loop : Scf.Loop 32 :=
  let c0_i32_85 : BitVec 32 := 0#32
  let c2_i32_86 : BitVec 32 := 2#32
  let v156 : BitVec 32 := Scalar.addi c0_i32_85 c2_i32_86
  let c1_i32_87 : BitVec 32 := 1#32
  ⟨c0_i32_85, v156, c1_i32_87⟩
def k0_off11 (k0_t7 : Fin k0_t7_loop.trips) : Fin 2 → Nat :=
  let c0_348 : Index := 0#32
  let c0_i32_85 : BitVec 32 := 0#32
  let c1_i32_87 : BitVec 32 := 1#32
  let arg15 : BitVec 32 := Scf.iv c0_i32_85 c1_i32_87 k0_t7
  let c25_i32 : BitVec 32 := 25#32
  let v621 : BitVec 32 := Scalar.muli arg15 c25_i32
  let c256_i32 : BitVec 32 := 256#32
  let v622 : BitVec 32 := Scalar.muli v621 c256_i32
  let v623 : Index := Scalar.indexCast v622
  ![0, v623.toNat]
def k0_off12 (k0_t7 : Fin k0_t7_loop.trips) : Fin 2 → Nat :=
  let c0_352 : Index := 0#32
  let c0_i32_85 : BitVec 32 := 0#32
  let c1_i32_87 : BitVec 32 := 1#32
  let arg15 : BitVec 32 := Scf.iv c0_i32_85 c1_i32_87 k0_t7
  let c25_i32_350 : BitVec 32 := 25#32
  let v635 : BitVec 32 := Scalar.muli arg15 c25_i32_350
  let c256_i32_351 : BitVec 32 := 256#32
  let v636 : BitVec 32 := Scalar.muli v635 c256_i32_351
  let v637 : Index := Scalar.indexCast v636
  ![0, v637.toNat]
@[reducible] def k0_t8_loop : Scf.Loop 32 :=
  let c0_i32_94 : BitVec 32 := 0#32
  let c50_i32_95 : BitVec 32 := 50#32
  let v162 : BitVec 32 := Scalar.addi c0_i32_94 c50_i32_95
  let c1_i32_96 : BitVec 32 := 1#32
  ⟨c0_i32_94, v162, c1_i32_96⟩
def k0_off13 (k0_t8 : Fin k0_t8_loop.trips) : Fin 2 → Nat :=
  let c0_348 : Index := 0#32
  let c0_i32_94 : BitVec 32 := 0#32
  let c1_i32_96 : BitVec 32 := 1#32
  let arg15 : BitVec 32 := Scf.iv c0_i32_94 c1_i32_96 k0_t8
  let c256_i32 : BitVec 32 := 256#32
  let v621 : BitVec 32 := Scalar.muli arg15 c256_i32
  let v622 : Index := Scalar.indexCast v621
  ![0, v622.toNat]
def k0_off14 (k0_t8 : Fin k0_t8_loop.trips) : Fin 2 → Nat :=
  let c0_i32_94 : BitVec 32 := 0#32
  let c1_i32_96 : BitVec 32 := 1#32
  let arg15 : BitVec 32 := Scf.iv c0_i32_94 c1_i32_96 k0_t8
  let v624 : Index := Scalar.indexCast arg15
  let c0_349 : Index := 0#32
  ![v624.toNat, 0]
@[reducible] def k0_t9_loop : Scf.Loop 32 :=
  let c0_i32_108 : BitVec 32 := 0#32
  let c50_i32_109 : BitVec 32 := 50#32
  let v188 : BitVec 32 := Scalar.addi c0_i32_108 c50_i32_109
  let c1_i32_110 : BitVec 32 := 1#32
  ⟨c0_i32_108, v188, c1_i32_110⟩
def k0_off15 (k0_t9 : Fin k0_t9_loop.trips) : Fin 2 → Nat :=
  let c0_348 : Index := 0#32
  let c0_i32_108 : BitVec 32 := 0#32
  let c1_i32_110 : BitVec 32 := 1#32
  let arg15 : BitVec 32 := Scf.iv c0_i32_108 c1_i32_110 k0_t9
  let c256_i32 : BitVec 32 := 256#32
  let v623 : BitVec 32 := Scalar.muli arg15 c256_i32
  let v624 : Index := Scalar.indexCast v623
  ![0, v624.toNat]
@[reducible] def k0_t10_loop : Scf.Loop 32 :=
  let c0_i32_119 : BitVec 32 := 0#32
  let c2_i32_120 : BitVec 32 := 2#32
  let v218 : BitVec 32 := Scalar.addi c0_i32_119 c2_i32_120
  let c1_i32_121 : BitVec 32 := 1#32
  ⟨c0_i32_119, v218, c1_i32_121⟩
def k0_off16 (k0_t10 : Fin k0_t10_loop.trips) : Fin 2 → Nat :=
  let c0_348 : Index := 0#32
  let c0_i32_119 : BitVec 32 := 0#32
  let c1_i32_121 : BitVec 32 := 1#32
  let arg15 : BitVec 32 := Scf.iv c0_i32_119 c1_i32_121 k0_t10
  let c25_i32 : BitVec 32 := 25#32
  let v621 : BitVec 32 := Scalar.muli arg15 c25_i32
  let c256_i32 : BitVec 32 := 256#32
  let v622 : BitVec 32 := Scalar.muli v621 c256_i32
  let v623 : Index := Scalar.indexCast v622
  ![0, v623.toNat]
def k0_off17 (k0_t10 : Fin k0_t10_loop.trips) : Fin 2 → Nat :=
  let c0_352 : Index := 0#32
  let c0_i32_119 : BitVec 32 := 0#32
  let c1_i32_121 : BitVec 32 := 1#32
  let arg15 : BitVec 32 := Scf.iv c0_i32_119 c1_i32_121 k0_t10
  let c25_i32_350 : BitVec 32 := 25#32
  let v635 : BitVec 32 := Scalar.muli arg15 c25_i32_350
  let c256_i32_351 : BitVec 32 := 256#32
  let v636 : BitVec 32 := Scalar.muli v635 c256_i32_351
  let v637 : Index := Scalar.indexCast v636
  ![0, v637.toNat]
@[reducible] def k0_t11_loop : Scf.Loop 32 :=
  let c0_i32_128 : BitVec 32 := 0#32
  let c50_i32_129 : BitVec 32 := 50#32
  let v224 : BitVec 32 := Scalar.addi c0_i32_128 c50_i32_129
  let c1_i32_130 : BitVec 32 := 1#32
  ⟨c0_i32_128, v224, c1_i32_130⟩
def k0_off18 (k0_t11 : Fin k0_t11_loop.trips) : Fin 2 → Nat :=
  let c0_348 : Index := 0#32
  let c0_i32_128 : BitVec 32 := 0#32
  let c1_i32_130 : BitVec 32 := 1#32
  let arg15 : BitVec 32 := Scf.iv c0_i32_128 c1_i32_130 k0_t11
  let c256_i32 : BitVec 32 := 256#32
  let v621 : BitVec 32 := Scalar.muli arg15 c256_i32
  let v622 : Index := Scalar.indexCast v621
  ![0, v622.toNat]
def k0_off19 (k0_t11 : Fin k0_t11_loop.trips) : Fin 2 → Nat :=
  let c0_i32_128 : BitVec 32 := 0#32
  let c1_i32_130 : BitVec 32 := 1#32
  let arg15 : BitVec 32 := Scf.iv c0_i32_128 c1_i32_130 k0_t11
  let v624 : Index := Scalar.indexCast arg15
  let c0_349 : Index := 0#32
  ![v624.toNat, 0]
@[reducible] def k0_t12_loop : Scf.Loop 32 :=
  let c0_i32_142 : BitVec 32 := 0#32
  let c50_i32_143 : BitVec 32 := 50#32
  let v250 : BitVec 32 := Scalar.addi c0_i32_142 c50_i32_143
  let c1_i32_144 : BitVec 32 := 1#32
  ⟨c0_i32_142, v250, c1_i32_144⟩
def k0_off20 (k0_t12 : Fin k0_t12_loop.trips) : Fin 2 → Nat :=
  let c0_348 : Index := 0#32
  let c0_i32_142 : BitVec 32 := 0#32
  let c1_i32_144 : BitVec 32 := 1#32
  let arg15 : BitVec 32 := Scf.iv c0_i32_142 c1_i32_144 k0_t12
  let c256_i32 : BitVec 32 := 256#32
  let v623 : BitVec 32 := Scalar.muli arg15 c256_i32
  let v624 : Index := Scalar.indexCast v623
  ![0, v624.toNat]
@[reducible] def k0_t13_loop : Scf.Loop 32 :=
  let c0_i32_153 : BitVec 32 := 0#32
  let c2_i32_154 : BitVec 32 := 2#32
  let v280 : BitVec 32 := Scalar.addi c0_i32_153 c2_i32_154
  let c1_i32_155 : BitVec 32 := 1#32
  ⟨c0_i32_153, v280, c1_i32_155⟩
def k0_off21 (k0_t13 : Fin k0_t13_loop.trips) : Fin 2 → Nat :=
  let c0_348 : Index := 0#32
  let c0_i32_153 : BitVec 32 := 0#32
  let c1_i32_155 : BitVec 32 := 1#32
  let arg15 : BitVec 32 := Scf.iv c0_i32_153 c1_i32_155 k0_t13
  let c25_i32 : BitVec 32 := 25#32
  let v621 : BitVec 32 := Scalar.muli arg15 c25_i32
  let c256_i32 : BitVec 32 := 256#32
  let v622 : BitVec 32 := Scalar.muli v621 c256_i32
  let v623 : Index := Scalar.indexCast v622
  ![0, v623.toNat]
def k0_off22 (k0_t13 : Fin k0_t13_loop.trips) : Fin 2 → Nat :=
  let c0_352 : Index := 0#32
  let c0_i32_153 : BitVec 32 := 0#32
  let c1_i32_155 : BitVec 32 := 1#32
  let arg15 : BitVec 32 := Scf.iv c0_i32_153 c1_i32_155 k0_t13
  let c25_i32_350 : BitVec 32 := 25#32
  let v635 : BitVec 32 := Scalar.muli arg15 c25_i32_350
  let c256_i32_351 : BitVec 32 := 256#32
  let v636 : BitVec 32 := Scalar.muli v635 c256_i32_351
  let v637 : Index := Scalar.indexCast v636
  ![0, v637.toNat]
@[reducible] def k0_t14_loop : Scf.Loop 32 :=
  let c0_i32_162 : BitVec 32 := 0#32
  let c50_i32_163 : BitVec 32 := 50#32
  let v286 : BitVec 32 := Scalar.addi c0_i32_162 c50_i32_163
  let c1_i32_164 : BitVec 32 := 1#32
  ⟨c0_i32_162, v286, c1_i32_164⟩
def k0_off23 (k0_t14 : Fin k0_t14_loop.trips) : Fin 2 → Nat :=
  let c0_348 : Index := 0#32
  let c0_i32_162 : BitVec 32 := 0#32
  let c1_i32_164 : BitVec 32 := 1#32
  let arg15 : BitVec 32 := Scf.iv c0_i32_162 c1_i32_164 k0_t14
  let c256_i32 : BitVec 32 := 256#32
  let v621 : BitVec 32 := Scalar.muli arg15 c256_i32
  let v622 : Index := Scalar.indexCast v621
  ![0, v622.toNat]
def k0_off24 (k0_t14 : Fin k0_t14_loop.trips) : Fin 2 → Nat :=
  let c0_i32_162 : BitVec 32 := 0#32
  let c1_i32_164 : BitVec 32 := 1#32
  let arg15 : BitVec 32 := Scf.iv c0_i32_162 c1_i32_164 k0_t14
  let v624 : Index := Scalar.indexCast arg15
  let c0_349 : Index := 0#32
  ![v624.toNat, 0]
@[reducible] def k0_t15_loop : Scf.Loop 32 :=
  let c0_i32_176 : BitVec 32 := 0#32
  let c50_i32_177 : BitVec 32 := 50#32
  let v312 : BitVec 32 := Scalar.addi c0_i32_176 c50_i32_177
  let c1_i32_178 : BitVec 32 := 1#32
  ⟨c0_i32_176, v312, c1_i32_178⟩
def k0_off25 (k0_t15 : Fin k0_t15_loop.trips) : Fin 2 → Nat :=
  let c0_348 : Index := 0#32
  let c0_i32_176 : BitVec 32 := 0#32
  let c1_i32_178 : BitVec 32 := 1#32
  let arg15 : BitVec 32 := Scf.iv c0_i32_176 c1_i32_178 k0_t15
  let c256_i32 : BitVec 32 := 256#32
  let v623 : BitVec 32 := Scalar.muli arg15 c256_i32
  let v624 : Index := Scalar.indexCast v623
  ![0, v624.toNat]
@[reducible] def k0_t16_loop : Scf.Loop 32 :=
  let c0_i32_187 : BitVec 32 := 0#32
  let c2_i32_188 : BitVec 32 := 2#32
  let v342 : BitVec 32 := Scalar.addi c0_i32_187 c2_i32_188
  let c1_i32_189 : BitVec 32 := 1#32
  ⟨c0_i32_187, v342, c1_i32_189⟩
def k0_off26 (k0_t16 : Fin k0_t16_loop.trips) : Fin 2 → Nat :=
  let c0_348 : Index := 0#32
  let c0_i32_187 : BitVec 32 := 0#32
  let c1_i32_189 : BitVec 32 := 1#32
  let arg15 : BitVec 32 := Scf.iv c0_i32_187 c1_i32_189 k0_t16
  let c25_i32 : BitVec 32 := 25#32
  let v621 : BitVec 32 := Scalar.muli arg15 c25_i32
  let c256_i32 : BitVec 32 := 256#32
  let v622 : BitVec 32 := Scalar.muli v621 c256_i32
  let v623 : Index := Scalar.indexCast v622
  ![0, v623.toNat]
def k0_off27 (k0_t16 : Fin k0_t16_loop.trips) : Fin 2 → Nat :=
  let c0_352 : Index := 0#32
  let c0_i32_187 : BitVec 32 := 0#32
  let c1_i32_189 : BitVec 32 := 1#32
  let arg15 : BitVec 32 := Scf.iv c0_i32_187 c1_i32_189 k0_t16
  let c25_i32_350 : BitVec 32 := 25#32
  let v635 : BitVec 32 := Scalar.muli arg15 c25_i32_350
  let c256_i32_351 : BitVec 32 := 256#32
  let v636 : BitVec 32 := Scalar.muli v635 c256_i32_351
  let v637 : Index := Scalar.indexCast v636
  ![0, v637.toNat]
@[reducible] def k0_t17_loop : Scf.Loop 32 :=
  let c0_i32_196 : BitVec 32 := 0#32
  let c50_i32_197 : BitVec 32 := 50#32
  let v348 : BitVec 32 := Scalar.addi c0_i32_196 c50_i32_197
  let c1_i32_198 : BitVec 32 := 1#32
  ⟨c0_i32_196, v348, c1_i32_198⟩
def k0_off28 (k0_t17 : Fin k0_t17_loop.trips) : Fin 2 → Nat :=
  let c0_348 : Index := 0#32
  let c0_i32_196 : BitVec 32 := 0#32
  let c1_i32_198 : BitVec 32 := 1#32
  let arg15 : BitVec 32 := Scf.iv c0_i32_196 c1_i32_198 k0_t17
  let c256_i32 : BitVec 32 := 256#32
  let v621 : BitVec 32 := Scalar.muli arg15 c256_i32
  let v622 : Index := Scalar.indexCast v621
  ![0, v622.toNat]
def k0_off29 (k0_t17 : Fin k0_t17_loop.trips) : Fin 2 → Nat :=
  let c0_i32_196 : BitVec 32 := 0#32
  let c1_i32_198 : BitVec 32 := 1#32
  let arg15 : BitVec 32 := Scf.iv c0_i32_196 c1_i32_198 k0_t17
  let v624 : Index := Scalar.indexCast arg15
  let c0_349 : Index := 0#32
  ![v624.toNat, 0]
@[reducible] def k0_t18_loop : Scf.Loop 32 :=
  let c0_i32_210 : BitVec 32 := 0#32
  let c50_i32_211 : BitVec 32 := 50#32
  let v374 : BitVec 32 := Scalar.addi c0_i32_210 c50_i32_211
  let c1_i32_212 : BitVec 32 := 1#32
  ⟨c0_i32_210, v374, c1_i32_212⟩
def k0_off30 (k0_t18 : Fin k0_t18_loop.trips) : Fin 2 → Nat :=
  let c0_348 : Index := 0#32
  let c0_i32_210 : BitVec 32 := 0#32
  let c1_i32_212 : BitVec 32 := 1#32
  let arg15 : BitVec 32 := Scf.iv c0_i32_210 c1_i32_212 k0_t18
  let c256_i32 : BitVec 32 := 256#32
  let v623 : BitVec 32 := Scalar.muli arg15 c256_i32
  let v624 : Index := Scalar.indexCast v623
  ![0, v624.toNat]
@[reducible] def k0_t19_loop : Scf.Loop 32 :=
  let c0_i32_221 : BitVec 32 := 0#32
  let c2_i32_222 : BitVec 32 := 2#32
  let v404 : BitVec 32 := Scalar.addi c0_i32_221 c2_i32_222
  let c1_i32_223 : BitVec 32 := 1#32
  ⟨c0_i32_221, v404, c1_i32_223⟩
def k0_off31 (k0_t19 : Fin k0_t19_loop.trips) : Fin 2 → Nat :=
  let c0_348 : Index := 0#32
  let c0_i32_221 : BitVec 32 := 0#32
  let c1_i32_223 : BitVec 32 := 1#32
  let arg15 : BitVec 32 := Scf.iv c0_i32_221 c1_i32_223 k0_t19
  let c25_i32 : BitVec 32 := 25#32
  let v621 : BitVec 32 := Scalar.muli arg15 c25_i32
  let c256_i32 : BitVec 32 := 256#32
  let v622 : BitVec 32 := Scalar.muli v621 c256_i32
  let v623 : Index := Scalar.indexCast v622
  ![0, v623.toNat]
def k0_off32 (k0_t19 : Fin k0_t19_loop.trips) : Fin 2 → Nat :=
  let c0_352 : Index := 0#32
  let c0_i32_221 : BitVec 32 := 0#32
  let c1_i32_223 : BitVec 32 := 1#32
  let arg15 : BitVec 32 := Scf.iv c0_i32_221 c1_i32_223 k0_t19
  let c25_i32_350 : BitVec 32 := 25#32
  let v635 : BitVec 32 := Scalar.muli arg15 c25_i32_350
  let c256_i32_351 : BitVec 32 := 256#32
  let v636 : BitVec 32 := Scalar.muli v635 c256_i32_351
  let v637 : Index := Scalar.indexCast v636
  ![0, v637.toNat]
@[reducible] def k0_t20_loop : Scf.Loop 32 :=
  let c0_i32_230 : BitVec 32 := 0#32
  let c50_i32_231 : BitVec 32 := 50#32
  let v410 : BitVec 32 := Scalar.addi c0_i32_230 c50_i32_231
  let c1_i32_232 : BitVec 32 := 1#32
  ⟨c0_i32_230, v410, c1_i32_232⟩
def k0_off33 (k0_t20 : Fin k0_t20_loop.trips) : Fin 2 → Nat :=
  let c0_348 : Index := 0#32
  let c0_i32_230 : BitVec 32 := 0#32
  let c1_i32_232 : BitVec 32 := 1#32
  let arg15 : BitVec 32 := Scf.iv c0_i32_230 c1_i32_232 k0_t20
  let c256_i32 : BitVec 32 := 256#32
  let v621 : BitVec 32 := Scalar.muli arg15 c256_i32
  let v622 : Index := Scalar.indexCast v621
  ![0, v622.toNat]
def k0_off34 (k0_t20 : Fin k0_t20_loop.trips) : Fin 2 → Nat :=
  let c0_i32_230 : BitVec 32 := 0#32
  let c1_i32_232 : BitVec 32 := 1#32
  let arg15 : BitVec 32 := Scf.iv c0_i32_230 c1_i32_232 k0_t20
  let v624 : Index := Scalar.indexCast arg15
  let c0_349 : Index := 0#32
  ![v624.toNat, 0]
@[reducible] def k0_t21_loop : Scf.Loop 32 :=
  let c0_i32_244 : BitVec 32 := 0#32
  let c50_i32_245 : BitVec 32 := 50#32
  let v436 : BitVec 32 := Scalar.addi c0_i32_244 c50_i32_245
  let c1_i32_246 : BitVec 32 := 1#32
  ⟨c0_i32_244, v436, c1_i32_246⟩
def k0_off35 (k0_t21 : Fin k0_t21_loop.trips) : Fin 2 → Nat :=
  let c0_348 : Index := 0#32
  let c0_i32_244 : BitVec 32 := 0#32
  let c1_i32_246 : BitVec 32 := 1#32
  let arg15 : BitVec 32 := Scf.iv c0_i32_244 c1_i32_246 k0_t21
  let c256_i32 : BitVec 32 := 256#32
  let v623 : BitVec 32 := Scalar.muli arg15 c256_i32
  let v624 : Index := Scalar.indexCast v623
  ![0, v624.toNat]
@[reducible] def k0_t22_loop : Scf.Loop 32 :=
  let c0_i32_255 : BitVec 32 := 0#32
  let c2_i32_256 : BitVec 32 := 2#32
  let v466 : BitVec 32 := Scalar.addi c0_i32_255 c2_i32_256
  let c1_i32_257 : BitVec 32 := 1#32
  ⟨c0_i32_255, v466, c1_i32_257⟩
def k0_off36 (k0_t22 : Fin k0_t22_loop.trips) : Fin 2 → Nat :=
  let c0_348 : Index := 0#32
  let c0_i32_255 : BitVec 32 := 0#32
  let c1_i32_257 : BitVec 32 := 1#32
  let arg15 : BitVec 32 := Scf.iv c0_i32_255 c1_i32_257 k0_t22
  let c25_i32 : BitVec 32 := 25#32
  let v621 : BitVec 32 := Scalar.muli arg15 c25_i32
  let c256_i32 : BitVec 32 := 256#32
  let v622 : BitVec 32 := Scalar.muli v621 c256_i32
  let v623 : Index := Scalar.indexCast v622
  ![0, v623.toNat]
def k0_off37 (k0_t22 : Fin k0_t22_loop.trips) : Fin 2 → Nat :=
  let c0_352 : Index := 0#32
  let c0_i32_255 : BitVec 32 := 0#32
  let c1_i32_257 : BitVec 32 := 1#32
  let arg15 : BitVec 32 := Scf.iv c0_i32_255 c1_i32_257 k0_t22
  let c25_i32_350 : BitVec 32 := 25#32
  let v635 : BitVec 32 := Scalar.muli arg15 c25_i32_350
  let c256_i32_351 : BitVec 32 := 256#32
  let v636 : BitVec 32 := Scalar.muli v635 c256_i32_351
  let v637 : Index := Scalar.indexCast v636
  ![0, v637.toNat]
@[reducible] def k0_t23_loop : Scf.Loop 32 :=
  let c0_i32_264 : BitVec 32 := 0#32
  let c50_i32_265 : BitVec 32 := 50#32
  let v472 : BitVec 32 := Scalar.addi c0_i32_264 c50_i32_265
  let c1_i32_266 : BitVec 32 := 1#32
  ⟨c0_i32_264, v472, c1_i32_266⟩
def k0_off38 (k0_t23 : Fin k0_t23_loop.trips) : Fin 2 → Nat :=
  let c0_348 : Index := 0#32
  let c0_i32_264 : BitVec 32 := 0#32
  let c1_i32_266 : BitVec 32 := 1#32
  let arg15 : BitVec 32 := Scf.iv c0_i32_264 c1_i32_266 k0_t23
  let c256_i32 : BitVec 32 := 256#32
  let v621 : BitVec 32 := Scalar.muli arg15 c256_i32
  let v622 : Index := Scalar.indexCast v621
  ![0, v622.toNat]
def k0_off39 (k0_t23 : Fin k0_t23_loop.trips) : Fin 2 → Nat :=
  let c0_i32_264 : BitVec 32 := 0#32
  let c1_i32_266 : BitVec 32 := 1#32
  let arg15 : BitVec 32 := Scf.iv c0_i32_264 c1_i32_266 k0_t23
  let v624 : Index := Scalar.indexCast arg15
  let c0_349 : Index := 0#32
  ![v624.toNat, 0]
@[reducible] def k0_t24_loop : Scf.Loop 32 :=
  let c0_i32_278 : BitVec 32 := 0#32
  let c50_i32_279 : BitVec 32 := 50#32
  let v498 : BitVec 32 := Scalar.addi c0_i32_278 c50_i32_279
  let c1_i32_280 : BitVec 32 := 1#32
  ⟨c0_i32_278, v498, c1_i32_280⟩
def k0_off40 (k0_t24 : Fin k0_t24_loop.trips) : Fin 2 → Nat :=
  let c0_348 : Index := 0#32
  let c0_i32_278 : BitVec 32 := 0#32
  let c1_i32_280 : BitVec 32 := 1#32
  let arg15 : BitVec 32 := Scf.iv c0_i32_278 c1_i32_280 k0_t24
  let c256_i32 : BitVec 32 := 256#32
  let v623 : BitVec 32 := Scalar.muli arg15 c256_i32
  let v624 : Index := Scalar.indexCast v623
  ![0, v624.toNat]
@[reducible] def k0_t25_loop : Scf.Loop 32 :=
  let c0_i32_289 : BitVec 32 := 0#32
  let c2_i32_290 : BitVec 32 := 2#32
  let v528 : BitVec 32 := Scalar.addi c0_i32_289 c2_i32_290
  let c1_i32_291 : BitVec 32 := 1#32
  ⟨c0_i32_289, v528, c1_i32_291⟩
def k0_off41 (k0_t25 : Fin k0_t25_loop.trips) : Fin 2 → Nat :=
  let c0_348 : Index := 0#32
  let c0_i32_289 : BitVec 32 := 0#32
  let c1_i32_291 : BitVec 32 := 1#32
  let arg15 : BitVec 32 := Scf.iv c0_i32_289 c1_i32_291 k0_t25
  let c25_i32 : BitVec 32 := 25#32
  let v621 : BitVec 32 := Scalar.muli arg15 c25_i32
  let c256_i32 : BitVec 32 := 256#32
  let v622 : BitVec 32 := Scalar.muli v621 c256_i32
  let v623 : Index := Scalar.indexCast v622
  ![0, v623.toNat]
def k0_off42 (k0_t25 : Fin k0_t25_loop.trips) : Fin 2 → Nat :=
  let c0_352 : Index := 0#32
  let c0_i32_289 : BitVec 32 := 0#32
  let c1_i32_291 : BitVec 32 := 1#32
  let arg15 : BitVec 32 := Scf.iv c0_i32_289 c1_i32_291 k0_t25
  let c25_i32_350 : BitVec 32 := 25#32
  let v635 : BitVec 32 := Scalar.muli arg15 c25_i32_350
  let c256_i32_351 : BitVec 32 := 256#32
  let v636 : BitVec 32 := Scalar.muli v635 c256_i32_351
  let v637 : Index := Scalar.indexCast v636
  ![0, v637.toNat]
@[reducible] def k0_t26_loop : Scf.Loop 32 :=
  let c0_i32_298 : BitVec 32 := 0#32
  let c50_i32_299 : BitVec 32 := 50#32
  let v534 : BitVec 32 := Scalar.addi c0_i32_298 c50_i32_299
  let c1_i32_300 : BitVec 32 := 1#32
  ⟨c0_i32_298, v534, c1_i32_300⟩
def k0_off43 (k0_t26 : Fin k0_t26_loop.trips) : Fin 2 → Nat :=
  let c0_348 : Index := 0#32
  let c0_i32_298 : BitVec 32 := 0#32
  let c1_i32_300 : BitVec 32 := 1#32
  let arg15 : BitVec 32 := Scf.iv c0_i32_298 c1_i32_300 k0_t26
  let c256_i32 : BitVec 32 := 256#32
  let v621 : BitVec 32 := Scalar.muli arg15 c256_i32
  let v622 : Index := Scalar.indexCast v621
  ![0, v622.toNat]
def k0_off44 (k0_t26 : Fin k0_t26_loop.trips) : Fin 2 → Nat :=
  let c0_i32_298 : BitVec 32 := 0#32
  let c1_i32_300 : BitVec 32 := 1#32
  let arg15 : BitVec 32 := Scf.iv c0_i32_298 c1_i32_300 k0_t26
  let v624 : Index := Scalar.indexCast arg15
  let c0_349 : Index := 0#32
  ![v624.toNat, 0]
@[reducible] def k0_t27_loop : Scf.Loop 32 :=
  let c0_i32_312 : BitVec 32 := 0#32
  let c50_i32_313 : BitVec 32 := 50#32
  let v560 : BitVec 32 := Scalar.addi c0_i32_312 c50_i32_313
  let c1_i32_314 : BitVec 32 := 1#32
  ⟨c0_i32_312, v560, c1_i32_314⟩
def k0_off45 (k0_t27 : Fin k0_t27_loop.trips) : Fin 2 → Nat :=
  let c0_348 : Index := 0#32
  let c0_i32_312 : BitVec 32 := 0#32
  let c1_i32_314 : BitVec 32 := 1#32
  let arg15 : BitVec 32 := Scf.iv c0_i32_312 c1_i32_314 k0_t27
  let c256_i32 : BitVec 32 := 256#32
  let v623 : BitVec 32 := Scalar.muli arg15 c256_i32
  let v624 : Index := Scalar.indexCast v623
  ![0, v624.toNat]
@[reducible] def k0_t28_loop : Scf.Loop 32 :=
  let c0_i32_323 : BitVec 32 := 0#32
  let c2_i32_324 : BitVec 32 := 2#32
  let v590 : BitVec 32 := Scalar.addi c0_i32_323 c2_i32_324
  let c1_i32_325 : BitVec 32 := 1#32
  ⟨c0_i32_323, v590, c1_i32_325⟩
def k0_off46 (k0_t28 : Fin k0_t28_loop.trips) : Fin 2 → Nat :=
  let c0_348 : Index := 0#32
  let c0_i32_323 : BitVec 32 := 0#32
  let c1_i32_325 : BitVec 32 := 1#32
  let arg15 : BitVec 32 := Scf.iv c0_i32_323 c1_i32_325 k0_t28
  let c25_i32 : BitVec 32 := 25#32
  let v621 : BitVec 32 := Scalar.muli arg15 c25_i32
  let c256_i32 : BitVec 32 := 256#32
  let v622 : BitVec 32 := Scalar.muli v621 c256_i32
  let v623 : Index := Scalar.indexCast v622
  ![0, v623.toNat]
def k0_off47 (k0_t28 : Fin k0_t28_loop.trips) : Fin 2 → Nat :=
  let c0_352 : Index := 0#32
  let c0_i32_323 : BitVec 32 := 0#32
  let c1_i32_325 : BitVec 32 := 1#32
  let arg15 : BitVec 32 := Scf.iv c0_i32_323 c1_i32_325 k0_t28
  let c25_i32_350 : BitVec 32 := 25#32
  let v635 : BitVec 32 := Scalar.muli arg15 c25_i32_350
  let c256_i32_351 : BitVec 32 := 256#32
  let v636 : BitVec 32 := Scalar.muli v635 c256_i32_351
  let v637 : Index := Scalar.indexCast v636
  ![0, v637.toNat]
@[reducible] def k0_t29_loop : Scf.Loop 32 :=
  let c0_i32_332 : BitVec 32 := 0#32
  let c50_i32_333 : BitVec 32 := 50#32
  let v596 : BitVec 32 := Scalar.addi c0_i32_332 c50_i32_333
  let c1_i32_334 : BitVec 32 := 1#32
  ⟨c0_i32_332, v596, c1_i32_334⟩
def k0_off48 (k0_t29 : Fin k0_t29_loop.trips) : Fin 2 → Nat :=
  let c0_348 : Index := 0#32
  let c0_i32_332 : BitVec 32 := 0#32
  let c1_i32_334 : BitVec 32 := 1#32
  let arg15 : BitVec 32 := Scf.iv c0_i32_332 c1_i32_334 k0_t29
  let c256_i32 : BitVec 32 := 256#32
  let v621 : BitVec 32 := Scalar.muli arg15 c256_i32
  let v622 : Index := Scalar.indexCast v621
  ![0, v622.toNat]
def k0_off49 (k0_t29 : Fin k0_t29_loop.trips) : Fin 2 → Nat :=
  let c0_i32_332 : BitVec 32 := 0#32
  let c1_i32_334 : BitVec 32 := 1#32
  let arg15 : BitVec 32 := Scf.iv c0_i32_332 c1_i32_334 k0_t29
  let v624 : Index := Scalar.indexCast arg15
  let c0_349 : Index := 0#32
  ![v624.toNat, 0]
abbrev stage0_0 : Fin 1 → Memref sig .tc .vmem S128x12800 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S384x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S384x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S10x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S10x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S50x256x128 : Shape := ⟨3, ![50, 256, 128]⟩
abbrev S1x256x128 : Shape := ⟨3, ![1, 256, 128]⟩
abbrev S128x256 : Shape := ⟨2, ![128, 256]⟩
abbrev S128 : Shape := ⟨1, ![128]⟩
abbrev S1 : Shape := ⟨1, ![1]⟩
abbrev S512x128 : Shape := ⟨2, ![512, 128]⟩
abbrev S512 : Shape := ⟨1, ![512]⟩
abbrev S1x512 : Shape := ⟨2, ![1, 512]⟩
abbrev S384x128 : Shape := ⟨2, ![384, 128]⟩
abbrev S384 : Shape := ⟨1, ![384]⟩
abbrev S256 : Shape := ⟨1, ![256]⟩
abbrev S50 : Shape := ⟨1, ![50]⟩
abbrev S1x50 : Shape := ⟨2, ![1, 50]⟩
abbrev S1x1x1x50 : Shape := ⟨4, ![1, 1, 1, 50]⟩
abbrev S256x1x1x50 : Shape := ⟨4, ![256, 1, 1, 50]⟩
abbrev S256x50 : Shape := ⟨2, ![256, 50]⟩
abbrev S_ : Shape := ⟨0, ![]⟩
abbrev S256x10 : Shape := ⟨2, ![256, 10]⟩
abbrev S50x256x256 : Shape := ⟨3, ![50, 256, 256]⟩
abbrev S256x128 : Shape := ⟨2, ![256, 128]⟩
abbrev S1x1x128 : Shape := ⟨3, ![1, 1, 128]⟩
abbrev S1x1x1 : Shape := ⟨3, ![1, 1, 1]⟩
abbrev S128x512 : Shape := ⟨2, ![128, 512]⟩
abbrev S50x256x512 : Shape := ⟨3, ![50, 256, 512]⟩
abbrev S1x1x512 : Shape := ⟨3, ![1, 1, 512]⟩
abbrev S512x1 : Shape := ⟨2, ![512, 1]⟩
abbrev S50x256x1 : Shape := ⟨3, ![50, 256, 1]⟩
abbrev S50x256 : Shape := ⟨2, ![50, 256]⟩
abbrev S256x1 : Shape := ⟨2, ![256, 1]⟩
abbrev S256x2 : Shape := ⟨2, ![256, 2]⟩
abbrev S128x384 : Shape := ⟨2, ![128, 384]⟩
abbrev S256x384 : Shape := ⟨2, ![256, 384]⟩
abbrev S1x384 : Shape := ⟨2, ![1, 384]⟩
abbrev S10 : Shape := ⟨1, ![10]⟩
abbrev S1x10 : Shape := ⟨2, ![1, 10]⟩

abbrev nBuf : Space → Nat
  | .hbm => 207
  | .vmem => 0
  | .smem => 0
  | _ => 0

abbrev hbmTy0_0 (i : Nat) : BufTy := match i % 128 with
  | 0 => ⟨S50x256x128, .f32⟩
  | 1 => ⟨S1x256x128, .f32⟩
  | 2 => ⟨S128x256, .f32⟩
  | 3 => ⟨S128, .f32⟩
  | 4 => ⟨S1, .f32⟩
  | 5 => ⟨S512x128, .f32⟩
  | 6 => ⟨S512, .f32⟩
  | 7 => ⟨S1, .f32⟩
  | 8 => ⟨S1x512, .f32⟩
  | 9 => ⟨S1, .f32⟩
  | 10 => ⟨S384x128, .f32⟩
  | 11 => ⟨S384x128, .f32⟩
  | 12 => ⟨S384, .f32⟩
  | 13 => ⟨S384, .f32⟩
  | 14 => ⟨S256, .i32⟩
  | 15 => ⟨S50, .f32⟩
  | 16 => ⟨S1x50, .f32⟩
  | 17 => ⟨S1x1x1x50, .f32⟩
  | 18 => ⟨S256x1x1x50, .f32⟩
  | 19 => ⟨S256x50, .f32⟩
  | 20 => ⟨S_, .f32⟩
  | 21 => ⟨S256x10, .f32⟩
  | 22 => ⟨S_, .i32⟩
  | 23 => ⟨S_, .i32⟩
  | 24 => ⟨S50x256x128, .f32⟩
  | 25 => ⟨S128x256, .f32⟩
  | 26 => ⟨S128, .f32⟩
  | 27 => ⟨S1, .f32⟩
  | 28 => ⟨S512x128, .f32⟩
  | 29 => ⟨S512, .f32⟩
  | 30 => ⟨S1, .f32⟩
  | 31 => ⟨S1x512, .f32⟩
  | 32 => ⟨S1, .f32⟩
  | 33 => ⟨S256, .i32⟩
  | 34 => ⟨S384x128, .f32⟩
  | 35 => ⟨S384, .f32⟩
  | 36 => ⟨S384x128, .f32⟩
  | 37 => ⟨S384, .f32⟩
  | 38 => ⟨S_, .i32⟩
  | 39 => ⟨S_, .i32⟩
  | 40 => ⟨S256x50, .f32⟩
  | 41 => ⟨S1x256x128, .f32⟩
  | 42 => ⟨S256x10, .f32⟩
  | 43 => ⟨S256x10, .f32⟩
  | 44 => ⟨S_, .i32⟩
  | 45 => ⟨S_, .i1⟩
  | 46 => ⟨S_, .i32⟩
  | 47 => ⟨S_, .i32⟩
  | 48 => ⟨S50x256x128, .f32⟩
  | 49 => ⟨S50x256x256, .f32⟩
  | 50 => ⟨S256x128, .f32⟩
  | 51 => ⟨S50x256x128, .f32⟩
  | 52 => ⟨S1x1x128, .f32⟩
  | 53 => ⟨S50x256x128, .f32⟩
  | 54 => ⟨S50x256x128, .f32⟩
  | 55 => ⟨S_, .f32⟩
  | 56 => ⟨S50x256x128, .f32⟩
  | 57 => ⟨S50x256x128, .i1⟩
  | 58 => ⟨S1x1x1, .f32⟩
  | 59 => ⟨S50x256x128, .f32⟩
  | 60 => ⟨S50x256x128, .f32⟩
  | 61 => ⟨S50x256x128, .f32⟩
  | 62 => ⟨S128x512, .f32⟩
  | 63 => ⟨S50x256x512, .f32⟩
  | 64 => ⟨S1x1x512, .f32⟩
  | 65 => ⟨S50x256x512, .f32⟩
  | 66 => ⟨S50x256x512, .f32⟩
  | 67 => ⟨S_, .f32⟩
  | 68 => ⟨S50x256x512, .f32⟩
  | 69 => ⟨S50x256x512, .i1⟩
  | 70 => ⟨S1x1x1, .f32⟩
  | 71 => ⟨S50x256x512, .f32⟩
  | 72 => ⟨S50x256x512, .f32⟩
  | 73 => ⟨S50x256x512, .f32⟩
  | 74 => ⟨S512x1, .f32⟩
  | 75 => ⟨S50x256x1, .f32⟩
  | 76 => ⟨S1x1x1, .f32⟩
  | 77 => ⟨S50x256x1, .f32⟩
  | 78 => ⟨S50x256x1, .f32⟩
  | 79 => ⟨S50x256, .f32⟩
  | 80 => ⟨S256x50, .f32⟩
  | 81 => ⟨S_, .f32⟩
  | 82 => ⟨S256x50, .f32⟩
  | 83 => ⟨S256x50, .i1⟩
  | 84 => ⟨S_, .f32⟩
  | 85 => ⟨S256x50, .f32⟩
  | 86 => ⟨S256x50, .f32⟩
  | 87 => ⟨S_, .f32⟩
  | 88 => ⟨S256, .f32⟩
  | 89 => ⟨S_, .f32⟩
  | 90 => ⟨S256, .f32⟩
  | 91 => ⟨S256, .f32⟩
  | 92 => ⟨S256x1, .f32⟩
  | 93 => ⟨S_, .f32⟩
  | 94 => ⟨S_, .f32⟩
  | 95 => ⟨S256x50, .f32⟩
  | 96 => ⟨S256x50, .f32⟩
  | 97 => ⟨S256x50, .f32⟩
  | 98 => ⟨S256x50, .f32⟩
  | 99 => ⟨S256x50, .f32⟩
  | 100 => ⟨S_, .f32⟩
  | 101 => ⟨S256x50, .f32⟩
  | 102 => ⟨S256x50, .f32⟩
  | 103 => ⟨S_, .f32⟩
  | 104 => ⟨S256, .f32⟩
  | 105 => ⟨S256x1, .f32⟩
  | 106 => ⟨S256x50, .f32⟩
  | 107 => ⟨S256x50, .f32⟩
  | 108 => ⟨S_, .i32⟩
  | 109 => ⟨S_, .f32⟩
  | 110 => ⟨S256x50, .f32⟩
  | 111 => ⟨S256x50, .f32⟩
  | 112 => ⟨S256x1, .f32⟩
  | 113 => ⟨S256x1, .i32⟩
  | 114 => ⟨S256, .f32⟩
  | 115 => ⟨S256, .i32⟩
  | 116 => ⟨S50, .i32⟩
  | 117 => ⟨S1x50, .i32⟩
  | 118 => ⟨S256x1, .i32⟩
  | 119 => ⟨S256x50, .i32⟩
  | 120 => ⟨S256x50, .i32⟩
  | 121 => ⟨S256x50, .i1⟩
  | 122 => ⟨S_, .i32⟩
  | 123 => ⟨S_, .i32⟩
  | 124 => ⟨S_, .f32⟩
  | 125 => ⟨S_, .f32⟩
  | 126 => ⟨S256x50, .f32⟩
  | 127 => ⟨S256x50, .f32⟩
  | _ => ⟨S50x256x128, .f32⟩

abbrev hbmTy0_1 (i : Nat) : BufTy := match i % 128 with
  | 0 => ⟨S_, .i32⟩
  | 1 => ⟨S256, .i32⟩
  | 2 => ⟨S256, .i1⟩
  | 3 => ⟨S_, .i32⟩
  | 4 => ⟨S256, .i32⟩
  | 5 => ⟨S256, .i32⟩
  | 6 => ⟨S256, .i32⟩
  | 7 => ⟨S_, .i32⟩
  | 8 => ⟨S256, .i32⟩
  | 9 => ⟨S256, .i1⟩
  | 10 => ⟨S_, .i32⟩
  | 11 => ⟨S256, .i32⟩
  | 12 => ⟨S256, .i32⟩
  | 13 => ⟨S256, .i32⟩
  | 14 => ⟨S256x1, .i32⟩
  | 15 => ⟨S256x1, .i32⟩
  | 16 => ⟨S256x2, .i32⟩
  | 17 => ⟨S256x128, .f32⟩
  | 18 => ⟨S256x128, .f32⟩
  | 19 => ⟨S128x384, .f32⟩
  | 20 => ⟨S256x384, .f32⟩
  | 21 => ⟨S1x384, .f32⟩
  | 22 => ⟨S256x384, .f32⟩
  | 23 => ⟨S256x384, .f32⟩
  | 24 => ⟨S128x384, .f32⟩
  | 25 => ⟨S256x384, .f32⟩
  | 26 => ⟨S1x384, .f32⟩
  | 27 => ⟨S256x384, .f32⟩
  | 28 => ⟨S256x384, .f32⟩
  | 29 => ⟨S256x128, .f32⟩
  | 30 => ⟨S256x128, .f32⟩
  | 31 => ⟨S256x128, .f32⟩
  | 32 => ⟨S256x128, .f32⟩
  | 33 => ⟨S256x128, .f32⟩
  | 34 => ⟨S256x128, .f32⟩
  | 35 => ⟨S256x128, .f32⟩
  | 36 => ⟨S256x128, .f32⟩
  | 37 => ⟨S256x128, .f32⟩
  | 38 => ⟨S_, .f32⟩
  | 39 => ⟨S256x128, .f32⟩
  | 40 => ⟨S256x128, .f32⟩
  | 41 => ⟨S_, .f32⟩
  | 42 => ⟨S256x128, .f32⟩
  | 43 => ⟨S256x128, .f32⟩
  | 44 => ⟨S256x128, .f32⟩
  | 45 => ⟨S256x128, .f32⟩
  | 46 => ⟨S256x128, .f32⟩
  | 47 => ⟨S_, .f32⟩
  | 48 => ⟨S256x128, .f32⟩
  | 49 => ⟨S256x128, .f32⟩
  | 50 => ⟨S_, .f32⟩
  | 51 => ⟨S256x128, .f32⟩
  | 52 => ⟨S256x128, .f32⟩
  | 53 => ⟨S256x128, .f32⟩
  | 54 => ⟨S256x128, .f32⟩
  | 55 => ⟨S256x128, .f32⟩
  | 56 => ⟨S_, .f32⟩
  | 57 => ⟨S256x128, .f32⟩
  | 58 => ⟨S256x128, .f32⟩
  | 59 => ⟨S256x128, .f32⟩
  | 60 => ⟨S256x128, .f32⟩
  | 61 => ⟨S256x128, .f32⟩
  | 62 => ⟨S1x256x128, .f32⟩
  | 63 => ⟨S10, .i32⟩
  | 64 => ⟨S1x10, .i32⟩
  | 65 => ⟨S_, .i32⟩
  | 66 => ⟨S1x10, .i32⟩
  | 67 => ⟨S1x10, .i1⟩
  | 68 => ⟨S256, .f32⟩
  | 69 => ⟨S256x1, .f32⟩
  | 70 => ⟨S256x10, .i1⟩
  | 71 => ⟨S256x10, .f32⟩
  | 72 => ⟨S256x10, .f32⟩
  | 73 => ⟨S256x1, .f32⟩
  | 74 => ⟨S256x10, .i1⟩
  | 75 => ⟨S256x10, .f32⟩
  | 76 => ⟨S256x10, .f32⟩
  | 77 => ⟨S_, .i32⟩
  | 78 => ⟨S_, .i32⟩
  | _ => ⟨S50x256x128, .f32⟩

abbrev hbmTy (i : Nat) : BufTy := match i / 128 with
  | 0 => hbmTy0_0 i
  | 1 => hbmTy0_1 i
  | _ => ⟨S50x256x128, .f32⟩

abbrev bufTy : (tb : Table) → Fin (tcTables nBuf tb) → BufTy
  | .hbm, ⟨i, _⟩ => hbmTy i
  | _, _ => ⟨S50x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_c : Ref sig .tc := ⟨.hbm, 22, rfl⟩
abbrev main_c_0 : Ref sig .tc := ⟨.hbm, 23, rfl⟩
abbrev main_v7_0 : Ref sig .tc := ⟨.hbm, 24, rfl⟩
abbrev main_v7_1 : Ref sig .tc := ⟨.hbm, 25, rfl⟩
abbrev main_v7_2 : Ref sig .tc := ⟨.hbm, 26, rfl⟩
abbrev main_v7_3 : Ref sig .tc := ⟨.hbm, 27, rfl⟩
abbrev main_v7_4 : Ref sig .tc := ⟨.hbm, 28, rfl⟩
abbrev main_v7_5 : Ref sig .tc := ⟨.hbm, 29, rfl⟩
abbrev main_v7_6 : Ref sig .tc := ⟨.hbm, 30, rfl⟩
abbrev main_v7_7 : Ref sig .tc := ⟨.hbm, 31, rfl⟩
abbrev main_v7_8 : Ref sig .tc := ⟨.hbm, 32, rfl⟩
abbrev main_v7_9 : Ref sig .tc := ⟨.hbm, 33, rfl⟩
abbrev main_v7_10 : Ref sig .tc := ⟨.hbm, 34, rfl⟩
abbrev main_v7_11 : Ref sig .tc := ⟨.hbm, 35, rfl⟩
abbrev main_v7_12 : Ref sig .tc := ⟨.hbm, 36, rfl⟩
abbrev main_v7_13 : Ref sig .tc := ⟨.hbm, 37, rfl⟩
abbrev main_v7_14 : Ref sig .tc := ⟨.hbm, 38, rfl⟩
abbrev main_v7_15 : Ref sig .tc := ⟨.hbm, 39, rfl⟩
abbrev main_v7_16 : Ref sig .tc := ⟨.hbm, 40, rfl⟩
abbrev main_v7_17 : Ref sig .tc := ⟨.hbm, 41, rfl⟩
abbrev main_v7_18 : Ref sig .tc := ⟨.hbm, 42, rfl⟩
abbrev main_v7_19 : Ref sig .tc := ⟨.hbm, 43, rfl⟩
abbrev main_while0c_c_20 : Ref sig .tc := ⟨.hbm, 44, rfl⟩
abbrev main_while0c_v8 : Ref sig .tc := ⟨.hbm, 45, rfl⟩
abbrev main_while0b_c_20 : Ref sig .tc := ⟨.hbm, 46, rfl⟩
abbrev main_while0b_v8 : Ref sig .tc := ⟨.hbm, 47, rfl⟩
abbrev main_while0b_v9 : Ref sig .tc := ⟨.hbm, 48, rfl⟩
abbrev main_while0b_v10 : Ref sig .tc := ⟨.hbm, 49, rfl⟩
abbrev main_while0b_v11 : Ref sig .tc := ⟨.hbm, 50, rfl⟩
abbrev main_while0b_v12 : Ref sig .tc := ⟨.hbm, 51, rfl⟩
abbrev main_while0b_v13 : Ref sig .tc := ⟨.hbm, 52, rfl⟩
abbrev main_while0b_v14 : Ref sig .tc := ⟨.hbm, 53, rfl⟩
abbrev main_while0b_v15 : Ref sig .tc := ⟨.hbm, 54, rfl⟩
abbrev main_while0b_cst_21 : Ref sig .tc := ⟨.hbm, 55, rfl⟩
abbrev main_while0b_v16 : Ref sig .tc := ⟨.hbm, 56, rfl⟩
abbrev main_while0b_v17 : Ref sig .tc := ⟨.hbm, 57, rfl⟩
abbrev main_while0b_v18 : Ref sig .tc := ⟨.hbm, 58, rfl⟩
abbrev main_while0b_v19 : Ref sig .tc := ⟨.hbm, 59, rfl⟩
abbrev main_while0b_v20 : Ref sig .tc := ⟨.hbm, 60, rfl⟩
abbrev main_while0b_v21 : Ref sig .tc := ⟨.hbm, 61, rfl⟩
abbrev main_while0b_v22 : Ref sig .tc := ⟨.hbm, 62, rfl⟩
abbrev main_while0b_v23 : Ref sig .tc := ⟨.hbm, 63, rfl⟩
abbrev main_while0b_v24 : Ref sig .tc := ⟨.hbm, 64, rfl⟩
abbrev main_while0b_v25 : Ref sig .tc := ⟨.hbm, 65, rfl⟩
abbrev main_while0b_v26 : Ref sig .tc := ⟨.hbm, 66, rfl⟩
abbrev main_while0b_cst_22 : Ref sig .tc := ⟨.hbm, 67, rfl⟩
abbrev main_while0b_v27 : Ref sig .tc := ⟨.hbm, 68, rfl⟩
abbrev main_while0b_v28 : Ref sig .tc := ⟨.hbm, 69, rfl⟩
abbrev main_while0b_v29 : Ref sig .tc := ⟨.hbm, 70, rfl⟩
abbrev main_while0b_v30 : Ref sig .tc := ⟨.hbm, 71, rfl⟩
abbrev main_while0b_v31 : Ref sig .tc := ⟨.hbm, 72, rfl⟩
abbrev main_while0b_v32 : Ref sig .tc := ⟨.hbm, 73, rfl⟩
abbrev main_while0b_v33 : Ref sig .tc := ⟨.hbm, 74, rfl⟩
abbrev main_while0b_v34 : Ref sig .tc := ⟨.hbm, 75, rfl⟩
abbrev main_while0b_v35 : Ref sig .tc := ⟨.hbm, 76, rfl⟩
abbrev main_while0b_v36 : Ref sig .tc := ⟨.hbm, 77, rfl⟩
abbrev main_while0b_v37 : Ref sig .tc := ⟨.hbm, 78, rfl⟩
abbrev main_while0b_v38 : Ref sig .tc := ⟨.hbm, 79, rfl⟩
abbrev main_while0b_v39 : Ref sig .tc := ⟨.hbm, 80, rfl⟩
abbrev main_while0b_cst_23 : Ref sig .tc := ⟨.hbm, 81, rfl⟩
abbrev main_while0b_v40 : Ref sig .tc := ⟨.hbm, 82, rfl⟩
abbrev main_while0b_v41 : Ref sig .tc := ⟨.hbm, 83, rfl⟩
abbrev main_while0b_cst_24 : Ref sig .tc := ⟨.hbm, 84, rfl⟩
abbrev main_while0b_call2_v0 : Ref sig .tc := ⟨.hbm, 85, rfl⟩
abbrev main_while0b_v42 : Ref sig .tc := ⟨.hbm, 86, rfl⟩
abbrev main_while0b_cst_25 : Ref sig .tc := ⟨.hbm, 87, rfl⟩
abbrev main_while0b_v43 : Ref sig .tc := ⟨.hbm, 88, rfl⟩
abbrev main_while0b_cst_26 : Ref sig .tc := ⟨.hbm, 89, rfl⟩
abbrev main_while0b_v44 : Ref sig .tc := ⟨.hbm, 90, rfl⟩
abbrev main_while0b_v45 : Ref sig .tc := ⟨.hbm, 91, rfl⟩
abbrev main_while0b_v46 : Ref sig .tc := ⟨.hbm, 92, rfl⟩
abbrev main_while0b_cst_27 : Ref sig .tc := ⟨.hbm, 93, rfl⟩
abbrev main_while0b_call3_v0 : Ref sig .tc := ⟨.hbm, 94, rfl⟩
abbrev main_while0b_call3_v1 : Ref sig .tc := ⟨.hbm, 95, rfl⟩
abbrev main_while0b_v47 : Ref sig .tc := ⟨.hbm, 96, rfl⟩
abbrev main_while0b_v48 : Ref sig .tc := ⟨.hbm, 97, rfl⟩
abbrev main_while0b_v49 : Ref sig .tc := ⟨.hbm, 98, rfl⟩
abbrev main_while0b_v50 : Ref sig .tc := ⟨.hbm, 99, rfl⟩
abbrev main_while0b_cst_28 : Ref sig .tc := ⟨.hbm, 100, rfl⟩
abbrev main_while0b_call4_v0 : Ref sig .tc := ⟨.hbm, 101, rfl⟩
abbrev main_while0b_v51 : Ref sig .tc := ⟨.hbm, 102, rfl⟩
abbrev main_while0b_cst_29 : Ref sig .tc := ⟨.hbm, 103, rfl⟩
abbrev main_while0b_v52 : Ref sig .tc := ⟨.hbm, 104, rfl⟩
abbrev main_while0b_v53 : Ref sig .tc := ⟨.hbm, 105, rfl⟩
abbrev main_while0b_v54 : Ref sig .tc := ⟨.hbm, 106, rfl⟩
abbrev main_while0b_v55 : Ref sig .tc := ⟨.hbm, 107, rfl⟩
abbrev main_while0b_c_30 : Ref sig .tc := ⟨.hbm, 108, rfl⟩
abbrev main_while0b_call5_v0 : Ref sig .tc := ⟨.hbm, 109, rfl⟩
abbrev main_while0b_call5_v1 : Ref sig .tc := ⟨.hbm, 110, rfl⟩
abbrev main_while0b_v56 : Ref sig .tc := ⟨.hbm, 111, rfl⟩
abbrev main_while0b_values : Ref sig .tc := ⟨.hbm, 112, rfl⟩
abbrev main_while0b_indices : Ref sig .tc := ⟨.hbm, 113, rfl⟩
abbrev main_while0b_v57 : Ref sig .tc := ⟨.hbm, 114, rfl⟩
abbrev main_while0b_v58 : Ref sig .tc := ⟨.hbm, 115, rfl⟩
abbrev main_while0b_v59 : Ref sig .tc := ⟨.hbm, 116, rfl⟩
abbrev main_while0b_v60 : Ref sig .tc := ⟨.hbm, 117, rfl⟩
abbrev main_while0b_v61 : Ref sig .tc := ⟨.hbm, 118, rfl⟩
abbrev main_while0b_v62 : Ref sig .tc := ⟨.hbm, 119, rfl⟩
abbrev main_while0b_v63 : Ref sig .tc := ⟨.hbm, 120, rfl⟩
abbrev main_while0b_v64 : Ref sig .tc := ⟨.hbm, 121, rfl⟩
abbrev main_while0b_c_31 : Ref sig .tc := ⟨.hbm, 122, rfl⟩
abbrev main_while0b_v65 : Ref sig .tc := ⟨.hbm, 123, rfl⟩
abbrev main_while0b_v66 : Ref sig .tc := ⟨.hbm, 124, rfl⟩
abbrev main_while0b_v67 : Ref sig .tc := ⟨.hbm, 125, rfl⟩
abbrev main_while0b_call6_v0 : Ref sig .tc := ⟨.hbm, 126, rfl⟩
abbrev main_while0b_v68 : Ref sig .tc := ⟨.hbm, 127, rfl⟩
abbrev main_while0b_c_32 : Ref sig .tc := ⟨.hbm, 128, rfl⟩
abbrev main_while0b_v69 : Ref sig .tc := ⟨.hbm, 129, rfl⟩
abbrev main_while0b_v70 : Ref sig .tc := ⟨.hbm, 130, rfl⟩
abbrev main_while0b_c_33 : Ref sig .tc := ⟨.hbm, 131, rfl⟩
abbrev main_while0b_v71 : Ref sig .tc := ⟨.hbm, 132, rfl⟩
abbrev main_while0b_v72 : Ref sig .tc := ⟨.hbm, 133, rfl⟩
abbrev main_while0b_v73 : Ref sig .tc := ⟨.hbm, 134, rfl⟩
abbrev main_while0b_c_34 : Ref sig .tc := ⟨.hbm, 135, rfl⟩
abbrev main_while0b_v74 : Ref sig .tc := ⟨.hbm, 136, rfl⟩
abbrev main_while0b_v75 : Ref sig .tc := ⟨.hbm, 137, rfl⟩
abbrev main_while0b_c_35 : Ref sig .tc := ⟨.hbm, 138, rfl⟩
abbrev main_while0b_v76 : Ref sig .tc := ⟨.hbm, 139, rfl⟩
abbrev main_while0b_v77 : Ref sig .tc := ⟨.hbm, 140, rfl⟩
abbrev main_while0b_v78 : Ref sig .tc := ⟨.hbm, 141, rfl⟩
abbrev main_while0b_v79 : Ref sig .tc := ⟨.hbm, 142, rfl⟩
abbrev main_while0b_v80 : Ref sig .tc := ⟨.hbm, 143, rfl⟩
abbrev main_while0b_v81 : Ref sig .tc := ⟨.hbm, 144, rfl⟩
abbrev main_while0b_v82 : Ref sig .tc := ⟨.hbm, 145, rfl⟩
abbrev main_while0b_v83 : Ref sig .tc := ⟨.hbm, 146, rfl⟩
abbrev main_while0b_v84 : Ref sig .tc := ⟨.hbm, 147, rfl⟩
abbrev main_while0b_v85 : Ref sig .tc := ⟨.hbm, 148, rfl⟩
abbrev main_while0b_v86 : Ref sig .tc := ⟨.hbm, 149, rfl⟩
abbrev main_while0b_v87 : Ref sig .tc := ⟨.hbm, 150, rfl⟩
abbrev main_while0b_v88 : Ref sig .tc := ⟨.hbm, 151, rfl⟩
abbrev main_while0b_v89 : Ref sig .tc := ⟨.hbm, 152, rfl⟩
abbrev main_while0b_v90 : Ref sig .tc := ⟨.hbm, 153, rfl⟩
abbrev main_while0b_v91 : Ref sig .tc := ⟨.hbm, 154, rfl⟩
abbrev main_while0b_v92 : Ref sig .tc := ⟨.hbm, 155, rfl⟩
abbrev main_while0b_v93 : Ref sig .tc := ⟨.hbm, 156, rfl⟩
abbrev main_while0b_v94 : Ref sig .tc := ⟨.hbm, 157, rfl⟩
abbrev main_while0b_v95 : Ref sig .tc := ⟨.hbm, 158, rfl⟩
abbrev main_while0b_v96 : Ref sig .tc := ⟨.hbm, 159, rfl⟩
abbrev main_while0b_v97 : Ref sig .tc := ⟨.hbm, 160, rfl⟩
abbrev main_while0b_v98 : Ref sig .tc := ⟨.hbm, 161, rfl⟩
abbrev main_while0b_v99 : Ref sig .tc := ⟨.hbm, 162, rfl⟩
abbrev main_while0b_v100 : Ref sig .tc := ⟨.hbm, 163, rfl⟩
abbrev main_while0b_v101 : Ref sig .tc := ⟨.hbm, 164, rfl⟩
abbrev main_while0b_v102 : Ref sig .tc := ⟨.hbm, 165, rfl⟩
abbrev main_while0b_cst_36 : Ref sig .tc := ⟨.hbm, 166, rfl⟩
abbrev main_while0b_v103 : Ref sig .tc := ⟨.hbm, 167, rfl⟩
abbrev main_while0b_v104 : Ref sig .tc := ⟨.hbm, 168, rfl⟩
abbrev main_while0b_cst_37 : Ref sig .tc := ⟨.hbm, 169, rfl⟩
abbrev main_while0b_v105 : Ref sig .tc := ⟨.hbm, 170, rfl⟩
abbrev main_while0b_v106 : Ref sig .tc := ⟨.hbm, 171, rfl⟩
abbrev main_while0b_v107 : Ref sig .tc := ⟨.hbm, 172, rfl⟩
abbrev main_while0b_v108 : Ref sig .tc := ⟨.hbm, 173, rfl⟩
abbrev main_while0b_v109 : Ref sig .tc := ⟨.hbm, 174, rfl⟩
abbrev main_while0b_cst_38 : Ref sig .tc := ⟨.hbm, 175, rfl⟩
abbrev main_while0b_v110 : Ref sig .tc := ⟨.hbm, 176, rfl⟩
abbrev main_while0b_v111 : Ref sig .tc := ⟨.hbm, 177, rfl⟩
abbrev main_while0b_cst_39 : Ref sig .tc := ⟨.hbm, 178, rfl⟩
abbrev main_while0b_v112 : Ref sig .tc := ⟨.hbm, 179, rfl⟩
abbrev main_while0b_v113 : Ref sig .tc := ⟨.hbm, 180, rfl⟩
abbrev main_while0b_v114 : Ref sig .tc := ⟨.hbm, 181, rfl⟩
abbrev main_while0b_v115 : Ref sig .tc := ⟨.hbm, 182, rfl⟩
abbrev main_while0b_v116 : Ref sig .tc := ⟨.hbm, 183, rfl⟩
abbrev main_while0b_cst_40 : Ref sig .tc := ⟨.hbm, 184, rfl⟩
abbrev main_while0b_v117 : Ref sig .tc := ⟨.hbm, 185, rfl⟩
abbrev main_while0b_v118 : Ref sig .tc := ⟨.hbm, 186, rfl⟩
abbrev main_while0b_v119 : Ref sig .tc := ⟨.hbm, 187, rfl⟩
abbrev main_while0b_v120 : Ref sig .tc := ⟨.hbm, 188, rfl⟩
abbrev main_while0b_v121 : Ref sig .tc := ⟨.hbm, 189, rfl⟩
abbrev main_while0b_v122 : Ref sig .tc := ⟨.hbm, 190, rfl⟩
abbrev main_while0b_v123 : Ref sig .tc := ⟨.hbm, 191, rfl⟩
abbrev main_while0b_v124 : Ref sig .tc := ⟨.hbm, 192, rfl⟩
abbrev main_while0b_v125 : Ref sig .tc := ⟨.hbm, 193, rfl⟩
abbrev main_while0b_v126 : Ref sig .tc := ⟨.hbm, 194, rfl⟩
abbrev main_while0b_v127 : Ref sig .tc := ⟨.hbm, 195, rfl⟩
abbrev main_while0b_v128 : Ref sig .tc := ⟨.hbm, 196, rfl⟩
abbrev main_while0b_v129 : Ref sig .tc := ⟨.hbm, 197, rfl⟩
abbrev main_while0b_call7_v0 : Ref sig .tc := ⟨.hbm, 198, rfl⟩
abbrev main_while0b_call7_v1 : Ref sig .tc := ⟨.hbm, 199, rfl⟩
abbrev main_while0b_v130 : Ref sig .tc := ⟨.hbm, 200, rfl⟩
abbrev main_while0b_v131 : Ref sig .tc := ⟨.hbm, 201, rfl⟩
abbrev main_while0b_call8_v0 : Ref sig .tc := ⟨.hbm, 202, rfl⟩
abbrev main_while0b_call8_v1 : Ref sig .tc := ⟨.hbm, 203, rfl⟩
abbrev main_while0b_v132 : Ref sig .tc := ⟨.hbm, 204, rfl⟩
abbrev main_while0b_c_41 : Ref sig .tc := ⟨.hbm, 205, rfl⟩
abbrev main_while0b_v133 : Ref sig .tc := ⟨.hbm, 206, rfl⟩

abbrev nD : Nat := 1
abbrev τ : Topo := Topo.v7x

variable {F : FTy → Type} [FloatOps F]

abbrev main_while0_count : Scf.Loop 32 := ⟨0#32, 10#32, 1#32⟩
-- ==== Proof.KernelIdealBody.lean ====
/- The kernel's body: it runs to its end, whatever its operands hold. -/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Claim

@[expose] public section

-- membership in a rectangle of production extents recurses once per coordinate of the long axes
set_option maxRecDepth 16384

noncomputable section

namespace Cert.KernelIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 2492000 in
/-- The body's triple: on whole staging memrefs — the inputs' at their contents,
    the FORGOTTEN outputs' (9, 10) at anything, handed back at some contents nothing names —
    the body runs to the continuation holding the inputs' as they were, the scratch at some contents: the printed functions are their skeletons (`Gen.*_eq_skeleton`),
    which `sl_exec` runs (Lib/Exec.lean). -/
theorem kernelRun0_A (c : Dev nD) (arg0 : Memref sig .tc .vmem S128x12800 .f32) (harg0 : arg0.IsWhole) (arg1 : Memref sig .tc .vmem S128x256 .f32) (harg1 : arg1.IsWhole) (arg2 : Memref sig .tc .vmem S128x256 .f32) (harg2 : arg2.IsWhole) (arg3 : Memref sig .tc .vmem S512x128 .f32) (harg3 : arg3.IsWhole) (arg4 : Memref sig .tc .vmem S1x512 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S384x128 .f32) (harg7 : arg7.IsWhole) (arg8 : Memref sig .tc .vmem S384x128 .f32) (harg8 : arg8.IsWhole) (arg9 : Memref sig .tc .vmem S10x256 .f32) (harg9 : arg9.IsWhole) (arg10 : Memref sig .tc .vmem S10x256 .f32) (harg10 : arg10.IsWhole) (arg11 : Memref sig .tc .vmem S128x12800 .f32) (harg11 : arg11.IsWhole) (arg12 : Memref sig .tc .vmem S64x256 .f32) (harg12 : arg12.IsWhole) (arg13 : Memref sig .tc .vmem S512x12800 .bf16) (harg13 : arg13.IsWhole) (arg14 : Memref sig .tc .vmem S1x12800 .f32) (harg14 : arg14.IsWhole)
    (x0 : Vec F S128x12800 .f32) (x1 : Vec F S128x256 .f32) (x2 : Vec F S128x256 .f32) (x3 : Vec F S512x128 .f32) (x4 : Vec F S1x512 .f32) (x5 : Vec F S1x1 .f32) (x6 : Vec F S1x1 .f32) (x7 : Vec F S384x128 .f32) (x8 : Vec F S384x128 .f32) :
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0__mega_kernel arg0 harg0 arg1 harg1 arg2 harg2 arg3 harg3 arg4 harg4 arg5 harg5 arg6 harg6 arg7 harg7 arg8 harg8 arg9 harg9 arg10 harg10 arg11 harg11 arg12 harg12 arg13 harg13 arg14 harg14) K := by
    intro E K
    simp only [cc0__mega_kernel_eq_skeleton]; unfold cc0__mega_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, Hk⟩
    obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Launch

end
-- ==== Proof.KernelIdealLaunch.lean ====
/- The launch of the kernel: every argument array ends unchanged. -/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Claim
public import proofs.«01_k».proof.Proof.KernelIdealBody

@[expose] public section

-- membership in a rectangle of production extents recurses once per coordinate of the long axes
set_option maxRecDepth 16384

noncomputable section

namespace Cert.KernelIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers the lines after the region WRITE, as references: results computed from contents the run does not name
    (an operand the body wrote by its own DMA, or a forgotten output), so nothing is stated of them either. -/
def T0 : Finset (Ref sig .tc) := {main_v7, main_v8}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- From a run whose outputs are forgotten: the argument arrays end unchanged. -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      (Pipeline.RDat.FramePostR.arr_in h c 2 rfl).trans ((hA c 2).trans (V_main_arg2 m c)),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      (Pipeline.RDat.FramePostR.arr_in h c 3 rfl).trans ((hA c 3).trans (V_main_arg5 m c)),
      ((h c).2 main_arg6 (Finset.mem_sdiff.mpr ⟨Pipeline.mem_restRefs_of main_arg6 (by decide) (by decide), by decide⟩)).trans (V_main_arg6 m c),
      ((h c).2 main_arg7 (Finset.mem_sdiff.mpr ⟨Pipeline.mem_restRefs_of main_arg7 (by decide) (by decide), by decide⟩)).trans (V_main_arg7 m c),
      (Pipeline.RDat.FramePostR.arr_in h c 4 rfl).trans ((hA c 4).trans (V_main_arg8 m c)),
      ((h c).2 main_arg9 (Finset.mem_sdiff.mpr ⟨Pipeline.mem_restRefs_of main_arg9 (by decide) (by decide), by decide⟩)).trans (V_main_arg9 m c),
      (Pipeline.RDat.FramePostR.arr_in h c 7 rfl).trans ((hA c 7).trans (V_main_arg10 m c)),
      (Pipeline.RDat.FramePostR.arr_in h c 8 rfl).trans ((hA c 8).trans (V_main_arg11 m c)),
      ((h c).2 main_arg12 (Finset.mem_sdiff.mpr ⟨Pipeline.mem_restRefs_of main_arg12 (by decide) (by decide), by decide⟩)).trans (V_main_arg12 m c),
      ((h c).2 main_arg13 (Finset.mem_sdiff.mpr ⟨Pipeline.mem_restRefs_of main_arg13 (by decide) (by decide), by decide⟩)).trans (V_main_arg13 m c)⟩) h

/-- Each window's current staging memref at point `t`, spelled as the pipeline passes it (`bodyAt0`), and its wholeness. -/
abbrev ms0_0 (t : Fin cfg0.N) : Memref sig .tc .vmem S128x12800 .f32 := win0_0.stage (cfg0.slots t 0)
abbrev hs0_0 (t : Fin cfg0.N) : (ms0_0 t).IsWhole := hstage0_0 0
abbrev ms0_1 (t : Fin cfg0.N) : Memref sig .tc .vmem S128x256 .f32 := win0_1.stage (cfg0.slots t 1)
abbrev hs0_1 (t : Fin cfg0.N) : (ms0_1 t).IsWhole := hstage0_1 0
abbrev ms0_2 (t : Fin cfg0.N) : Memref sig .tc .vmem S128x256 .f32 := win0_2.stage (cfg0.slots t 2)
abbrev hs0_2 (t : Fin cfg0.N) : (ms0_2 t).IsWhole := hstage0_2 0
abbrev ms0_3 (t : Fin cfg0.N) : Memref sig .tc .vmem S512x128 .f32 := win0_3.stage (cfg0.slots t 3)
abbrev hs0_3 (t : Fin cfg0.N) : (ms0_3 t).IsWhole := hstage0_3 0
abbrev ms0_4 (t : Fin cfg0.N) : Memref sig .tc .vmem S1x512 .f32 := win0_4.stage (cfg0.slots t 4)
abbrev hs0_4 (t : Fin cfg0.N) : (ms0_4 t).IsWhole := hstage0_4 0
abbrev ms0_5 (t : Fin cfg0.N) : Memref sig .tc .vmem S1x1 .f32 := win0_5.stage (cfg0.slots t 5)
abbrev hs0_5 (t : Fin cfg0.N) : (ms0_5 t).IsWhole := hstage0_5 0
abbrev ms0_6 (t : Fin cfg0.N) : Memref sig .tc .vmem S1x1 .f32 := win0_6.stage (cfg0.slots t 6)
abbrev hs0_6 (t : Fin cfg0.N) : (ms0_6 t).IsWhole := hstage0_6 0
abbrev ms0_7 (t : Fin cfg0.N) : Memref sig .tc .vmem S384x128 .f32 := win0_7.stage (cfg0.slots t 7)
abbrev hs0_7 (t : Fin cfg0.N) : (ms0_7 t).IsWhole := hstage0_7 0
abbrev ms0_8 (t : Fin cfg0.N) : Memref sig .tc .vmem S384x128 .f32 := win0_8.stage (cfg0.slots t 8)
abbrev hs0_8 (t : Fin cfg0.N) : (ms0_8 t).IsWhole := hstage0_8 0
abbrev ms0_9 (t : Fin cfg0.N) : Memref sig .tc .vmem S10x256 .f32 := win0_9.stage (cfg0.slots t 9)
abbrev hs0_9 (t : Fin cfg0.N) : (ms0_9 t).IsWhole := hstage0_9 0
abbrev ms0_10 (t : Fin cfg0.N) : Memref sig .tc .vmem S10x256 .f32 := win0_10.stage (cfg0.slots t 10)
abbrev hs0_10 (t : Fin cfg0.N) : (ms0_10 t).IsWhole := hstage0_10 0
/-- The scratch operands: whole scoped buffers of the kernel's own, passed beside the windows. -/
abbrev scM0_0 : Memref sig .tc .vmem S128x12800 .f32 := Memref.whole cc0_scratch0
abbrev scM0_1 : Memref sig .tc .vmem S64x256 .f32 := Memref.whole cc0_scratch1
abbrev scM0_2 : Memref sig .tc .vmem S512x12800 .bf16 := Memref.whole cc0_scratch2
abbrev scM0_3 : Memref sig .tc .vmem S1x12800 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-! ## The pipeline's proof data -/

/-- The output windows this certificate FORGETS (9, 10): nothing reads what the kernel leaves in them, so nothing
    of it is named (Lib/Pipeline/Dat.lean `Dat.toRForget`). -/
def forgets0 : Fin 11 → Bool := fun w => w.val == 9 || w.val == 10

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ (∃ d, owns (c : Thread nD τ) (ms0_9 t) fullShare d)
    ∗ (∃ d, owns (c : Thread nD τ) (ms0_10 t) fullShare d))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply ((kernelRun0_A c _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [HS0]; · iexact HS0
  isplitl [HS1]; · iexact HS1
  isplitl [HS2]; · iexact HS2
  isplitl [HS3]; · iexact HS3
  iintro ⟨H0, H1, H2, H3, H4, H5, H6, H7, H8, H9, H10, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 9, 10) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of_forget m ρ (fun c => (dats m 0 c).toRForget forgets0) (A_eq m) (run_main m ρ)

/-- THE FRAME: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_main_quiescent m ρ))

end Cert.KernelIdeal.Launch

end
-- ==== Proof.Trips.lean ====
/- What one trip of each of the body's loops does. -/
module

public import proofs.«01_k».proof.Proof.Gen.KernelIdeal.Loops
public import Idealize.ShloMosaic.Lib.VecWindow

@[expose] public section

set_option maxRecDepth 16384

noncomputable section

namespace Cert.KernelIdeal.Trips

open Idealize.ShloMosaic Idealize.ShloMosaic.TcCoe
open Cert.KernelIdeal.Gen

variable {F : FTy → Type} [FloatOps F] [Named F]

variable (𝒱 : Variants) (c : Dev nD) (bd : Option 𝒱.V) (arg0 : Memref sig .tc .vmem S128x12800 .f32) (harg0 : arg0.IsWhole) (arg1 : Memref sig .tc .vmem S128x256 .f32) (harg1 : arg1.IsWhole) (arg2 : Memref sig .tc .vmem S128x256 .f32) (harg2 : arg2.IsWhole) (arg3 : Memref sig .tc .vmem S512x128 .f32) (harg3 : arg3.IsWhole) (arg4 : Memref sig .tc .vmem S1x512 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S384x128 .f32) (harg7 : arg7.IsWhole) (arg8 : Memref sig .tc .vmem S384x128 .f32) (harg8 : arg8.IsWhole) (arg9 : Memref sig .tc .vmem S10x256 .f32) (harg9 : arg9.IsWhole) (arg10 : Memref sig .tc .vmem S10x256 .f32) (harg10 : arg10.IsWhole) (arg11 : Memref sig .tc .vmem S128x12800 .f32) (harg11 : arg11.IsWhole) (arg12 : Memref sig .tc .vmem S64x256 .f32) (harg12 : arg12.IsWhole) (arg13 : Memref sig .tc .vmem S512x12800 .bf16) (harg13 : arg13.IsWhole) (arg14 : Memref sig .tc .vmem S1x12800 .f32) (harg14 : arg14.IsWhole)

theorem trip1 (v2 : FVec F S1x1 .bf16) (v5 : FVec F S1x1 .bf16) (v11 : FVec F S512x128 .bf16) (v13 : FVec F S1x512 .bf16) (v25 : IVec S64x256 32) (v28 : IVec S64x256 1) (v31 : FVec F S128x6400 .f32) (c0_i32 : BitVec 32) (c2_i32 : BitVec 32) (X_arg11 : BufTy.Contents (Elt F) arg11.view.ty) (k : Fin k0_t1_loop.trips) :
    tripL_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v2 v5 v11 v13 v25 v28 v31 c0_i32 c2_i32 X_arg11 k = [⟨Rect.unit (s := S512x12800) (k0_off2 k) S512x6400.size (k0_off2_inb k), k0_pay14 v2 v5 v11 v31 (View.readAt (Elt F) arg11.view (Rect.unit (s := S128x12800) (k0_off1 k) S128x6400.size (k0_off1_inb k)).toLoadRect X_arg11)⟩] := by
  unfold tripL_k0_t1 trip_k0_t1; rfl

theorem trip2 (v2 : FVec F S1x1 .bf16) (v5 : FVec F S1x1 .bf16) (v11 : FVec F S512x128 .bf16) (v13 : FVec F S1x512 .bf16) (v25 : IVec S64x256 32) (v28 : IVec S64x256 1) (v31 : FVec F S128x6400 .f32) (c0_i32 : BitVec 32) (c2_i32 : BitVec 32) (X_arg14 : BufTy.Contents (Elt F) arg14.view.ty) (k : Fin k0_t2_loop.trips) :
    tripL_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v2 v5 v11 v13 v25 v28 v31 c0_i32 c2_i32 X_arg14 k = [⟨Rect.unit (s := S64x256) (k0_off4 k) S1x256.size (k0_off4_inb k), k0_pay16 (View.readAt (Elt F) arg14.view (Rect.unit (s := S1x12800) (k0_off3 k) S1x256.size (k0_off3_inb k)).toLoadRect X_arg14)⟩] := by
  unfold tripL_k0_t2 trip_k0_t2; rfl

theorem trip3 (v2 : FVec F S1x1 .bf16) (v5 : FVec F S1x1 .bf16) (v7 : FVec F S128x128 .bf16) (v11 : FVec F S512x128 .bf16) (v13 : FVec F S1x512 .bf16) (v15 : FVec F S384x128 .bf16) (v17 : FVec F S384x128 .bf16) (v27 : FVec F S128x256 .f32) (v52 : IVec S1x256 32) (v59 : FVec F S1x256 .f32) (v63 : FVec F S128x256 .f32) (c0_i32_39 : BitVec 32) (c1_i32_41 : BitVec 32) (X_arg0 : BufTy.Contents (Elt F) arg0.view.ty) (k : Fin k0_t3_loop.trips) (acc : FVec F S128x256 .f32) :
    tripR_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v2 v5 v7 v11 v13 v15 v17 v27 v52 v59 v63 c0_i32_39 c1_i32_41 X_arg0 k acc = k0_pay23 v52 c0_i32_39 c1_i32_41 k acc (View.readAt (Elt F) arg0.view (Rect.unit (s := S128x12800) (k0_off5 k) S128x256.size (k0_off5_inb k)).toLoadRect X_arg0) := by
  unfold tripR_k0_t3 trip_k0_t3; dsimp only

theorem trip4 (v2 : FVec F S1x1 .bf16) (v5 : FVec F S1x1 .bf16) (v7 : FVec F S128x128 .bf16) (v11 : FVec F S512x128 .bf16) (v13 : FVec F S1x512 .bf16) (v15 : FVec F S384x128 .bf16) (v17 : FVec F S384x128 .bf16) (v27 : FVec F S128x256 .f32) (v52 : IVec S1x256 32) (v59 : FVec F S1x256 .f32) (v63 : FVec F S128x256 .f32) (c0_i32_39 : BitVec 32) (c1_i32_41 : BitVec 32) (v65 : FVec F S128x256 .f32) (X_arg11 : BufTy.Contents (Elt F) arg11.view.ty) (k : Fin k0_t4_loop.trips) :
    tripL_k0_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v2 v5 v7 v11 v13 v15 v17 v27 v52 v59 v63 c0_i32_39 c1_i32_41 v65 X_arg11 k = [⟨Rect.unit (s := S512x12800) (k0_off7 k) S512x6400.size (k0_off7_inb k), k0_pay26 v2 v5 v7 v11 v15 v17 v27 v65 (View.readAt (Elt F) arg11.view (Rect.unit (s := S128x12800) (k0_off6 k) S128x6400.size (k0_off6_inb k)).toLoadRect X_arg11)⟩] := by
  unfold tripL_k0_t4 trip_k0_t4; rfl

theorem trip5 (v15 : FVec F S384x128 .bf16) (v17 : FVec F S384x128 .bf16) (v25 : IVec S64x256 32) (v62 : IVec S64x256 1) (v87 : FVec F S128x256 .f32) (c0_i32_60 : BitVec 32) (X_arg14 : BufTy.Contents (Elt F) arg14.view.ty) (k : Fin k0_t5_loop.trips) :
    tripL_k0_t5 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v15 v17 v25 v62 v87 c0_i32_60 X_arg14 k = [⟨Rect.unit (s := S64x256) (k0_off9 k) S1x256.size (k0_off9_inb k), k0_pay28 (View.readAt (Elt F) arg14.view (Rect.unit (s := S1x12800) (k0_off8 k) S1x256.size (k0_off8_inb k)).toLoadRect X_arg14)⟩] := by
  unfold tripL_k0_t5 trip_k0_t5; rfl

theorem trip6 (v15 : FVec F S384x128 .bf16) (v17 : FVec F S384x128 .bf16) (v25 : IVec S64x256 32) (v62 : IVec S64x256 1) (v87 : FVec F S128x256 .f32) (c0_i32_60 : BitVec 32) (v104 : Vec F S64x256 .f32) (X_arg0 : BufTy.Contents (Elt F) arg0.view.ty) (k : Fin k0_t6_loop.trips) (acc : FVec F S128x256 .f32) :
    tripR_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v15 v17 v25 v62 v87 c0_i32_60 v104 X_arg0 k acc = k0_pay35 v25 v62 v104 k acc (View.readAt (Elt F) arg0.view (Rect.unit (s := S128x12800) (k0_off10 k) S128x256.size (k0_off10_inb k)).toLoadRect X_arg0) := by
  unfold tripR_k0_t6 trip_k0_t6; dsimp only

theorem trip7 (v2 : FVec F S1x1 .bf16) (v5 : FVec F S1x1 .bf16) (v7 : FVec F S128x128 .bf16) (v11 : FVec F S512x128 .bf16) (v13 : FVec F S1x512 .bf16) (v25 : IVec S64x256 32) (v87 : FVec F S128x256 .f32) (v114 : IVec S1x256 32) (v121 : FVec F S1x256 .f32) (v124 : IVec S64x256 1) (v135 : FVec F S128x256 .f32) (v139 : FVec F S128x256 .f32) (v140 : FVec F S128x256 .f32) (v141 : FVec F S128x256 .f32) (X_arg11 : BufTy.Contents (Elt F) arg11.view.ty) (k : Fin k0_t7_loop.trips) :
    tripL_k0_t7 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v2 v5 v7 v11 v13 v25 v87 v114 v121 v124 v135 v139 v140 v141 X_arg11 k = [⟨Rect.unit (s := S512x12800) (k0_off12 k) S512x6400.size (k0_off12_inb k), k0_pay44 v2 v5 v7 v11 v87 v135 v139 v140 v141 (View.readAt (Elt F) arg11.view (Rect.unit (s := S128x12800) (k0_off11 k) S128x6400.size (k0_off11_inb k)).toLoadRect X_arg11)⟩] := by
  unfold tripL_k0_t7 trip_k0_t7; rfl

theorem trip8 (v2 : FVec F S1x1 .bf16) (v5 : FVec F S1x1 .bf16) (v7 : FVec F S128x128 .bf16) (v11 : FVec F S512x128 .bf16) (v13 : FVec F S1x512 .bf16) (v25 : IVec S64x256 32) (v87 : FVec F S128x256 .f32) (v114 : IVec S1x256 32) (v121 : FVec F S1x256 .f32) (v124 : IVec S64x256 1) (v135 : FVec F S128x256 .f32) (v139 : FVec F S128x256 .f32) (v140 : FVec F S128x256 .f32) (v141 : FVec F S128x256 .f32) (X_arg14 : BufTy.Contents (Elt F) arg14.view.ty) (k : Fin k0_t8_loop.trips) :
    tripL_k0_t8 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v2 v5 v7 v11 v13 v25 v87 v114 v121 v124 v135 v139 v140 v141 X_arg14 k = [⟨Rect.unit (s := S64x256) (k0_off14 k) S1x256.size (k0_off14_inb k), k0_pay46 (View.readAt (Elt F) arg14.view (Rect.unit (s := S1x12800) (k0_off13 k) S1x256.size (k0_off13_inb k)).toLoadRect X_arg14)⟩] := by
  unfold tripL_k0_t8 trip_k0_t8; rfl

theorem trip9 (v15 : FVec F S384x128 .bf16) (v17 : FVec F S384x128 .bf16) (v25 : IVec S64x256 32) (v124 : IVec S64x256 1) (v149 : FVec F S128x256 .f32) (v168 : FVec F S64x256 .f32) (v170 : FVec F S1x256 .f32) (v172 : IVec S64x256 1) (X_arg0 : BufTy.Contents (Elt F) arg0.view.ty) (k : Fin k0_t9_loop.trips) (acc : FVec F S128x256 .f32) :
    tripR_k0_t9 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v15 v17 v25 v124 v149 v168 v170 v172 X_arg0 k acc = k0_pay54 v25 v172 k acc (View.readAt (Elt F) arg0.view (Rect.unit (s := S128x12800) (k0_off15 k) S128x256.size (k0_off15_inb k)).toLoadRect X_arg0) := by
  unfold tripR_k0_t9 trip_k0_t9; dsimp only

theorem trip10 (v2 : FVec F S1x1 .bf16) (v5 : FVec F S1x1 .bf16) (v7 : FVec F S128x128 .bf16) (v11 : FVec F S512x128 .bf16) (v13 : FVec F S1x512 .bf16) (v25 : IVec S64x256 32) (v186 : IVec S64x256 1) (v211 : FVec F S128x256 .f32) (X_arg11 : BufTy.Contents (Elt F) arg11.view.ty) (k : Fin k0_t10_loop.trips) :
    tripL_k0_t10 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v2 v5 v7 v11 v13 v25 v186 v211 X_arg11 k = [⟨Rect.unit (s := S512x12800) (k0_off17 k) S512x6400.size (k0_off17_inb k), k0_pay57 v2 v5 v7 v11 v211 (View.readAt (Elt F) arg11.view (Rect.unit (s := S128x12800) (k0_off16 k) S128x6400.size (k0_off16_inb k)).toLoadRect X_arg11)⟩] := by
  unfold tripL_k0_t10 trip_k0_t10; rfl

theorem trip11 (v2 : FVec F S1x1 .bf16) (v5 : FVec F S1x1 .bf16) (v7 : FVec F S128x128 .bf16) (v11 : FVec F S512x128 .bf16) (v13 : FVec F S1x512 .bf16) (v25 : IVec S64x256 32) (v186 : IVec S64x256 1) (v211 : FVec F S128x256 .f32) (X_arg14 : BufTy.Contents (Elt F) arg14.view.ty) (k : Fin k0_t11_loop.trips) :
    tripL_k0_t11 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v2 v5 v7 v11 v13 v25 v186 v211 X_arg14 k = [⟨Rect.unit (s := S64x256) (k0_off19 k) S1x256.size (k0_off19_inb k), k0_pay59 (View.readAt (Elt F) arg14.view (Rect.unit (s := S1x12800) (k0_off18 k) S1x256.size (k0_off18_inb k)).toLoadRect X_arg14)⟩] := by
  unfold tripL_k0_t11 trip_k0_t11; rfl

theorem trip12 (v2 : FVec F S1x1 .bf16) (v5 : FVec F S1x1 .bf16) (v7 : FVec F S128x128 .bf16) (v11 : FVec F S512x128 .bf16) (v13 : FVec F S1x512 .bf16) (v15 : FVec F S384x128 .bf16) (v17 : FVec F S384x128 .bf16) (v211 : FVec F S128x256 .f32) (v238 : IVec S1x256 32) (v245 : FVec F S1x256 .f32) (X_arg0 : BufTy.Contents (Elt F) arg0.view.ty) (k : Fin k0_t12_loop.trips) (acc : FVec F S128x256 .f32) :
    tripR_k0_t12 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v2 v5 v7 v11 v13 v15 v17 v211 v238 v245 X_arg0 k acc = k0_pay66 v238 k acc (View.readAt (Elt F) arg0.view (Rect.unit (s := S128x12800) (k0_off20 k) S128x256.size (k0_off20_inb k)).toLoadRect X_arg0) := by
  unfold tripR_k0_t12 trip_k0_t12; dsimp only

theorem trip13 (v2 : FVec F S1x1 .bf16) (v5 : FVec F S1x1 .bf16) (v7 : FVec F S128x128 .bf16) (v11 : FVec F S512x128 .bf16) (v13 : FVec F S1x512 .bf16) (v15 : FVec F S384x128 .bf16) (v17 : FVec F S384x128 .bf16) (v211 : FVec F S128x256 .f32) (v238 : IVec S1x256 32) (v245 : FVec F S1x256 .f32) (v251 : FVec F S128x256 .f32) (X_arg11 : BufTy.Contents (Elt F) arg11.view.ty) (k : Fin k0_t13_loop.trips) :
    tripL_k0_t13 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v2 v5 v7 v11 v13 v15 v17 v211 v238 v245 v251 X_arg11 k = [⟨Rect.unit (s := S512x12800) (k0_off22 k) S512x6400.size (k0_off22_inb k), k0_pay69 v2 v5 v7 v11 v15 v17 v211 v251 (View.readAt (Elt F) arg11.view (Rect.unit (s := S128x12800) (k0_off21 k) S128x6400.size (k0_off21_inb k)).toLoadRect X_arg11)⟩] := by
  unfold tripL_k0_t13 trip_k0_t13; rfl

theorem trip14 (v15 : FVec F S384x128 .bf16) (v17 : FVec F S384x128 .bf16) (v25 : IVec S64x256 32) (v248 : IVec S64x256 1) (v273 : FVec F S128x256 .f32) (v282 : FVec F S1x12800 .f32) (v283 : Vec F S1x12800 .f32) (X_arg14 : BufTy.Contents (Elt F) arg14.view.ty) (k : Fin k0_t14_loop.trips) :
    tripL_k0_t14 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v15 v17 v25 v248 v273 v282 v283 X_arg14 k = [⟨Rect.unit (s := S64x256) (k0_off24 k) S1x256.size (k0_off24_inb k), k0_pay72 (View.readAt (Elt F) arg14.view (Rect.unit (s := S1x12800) (k0_off23 k) S1x256.size (k0_off23_inb k)).toLoadRect X_arg14)⟩] := by
  unfold tripL_k0_t14 trip_k0_t14; rfl

theorem trip15 (v15 : FVec F S384x128 .bf16) (v17 : FVec F S384x128 .bf16) (v25 : IVec S64x256 32) (v248 : IVec S64x256 1) (v273 : FVec F S128x256 .f32) (v282 : FVec F S1x12800 .f32) (v283 : Vec F S1x12800 .f32) (v290 : Vec F S64x256 .f32) (X_arg0 : BufTy.Contents (Elt F) arg0.view.ty) (k : Fin k0_t15_loop.trips) (acc : FVec F S128x256 .f32) :
    tripR_k0_t15 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v15 v17 v25 v248 v273 v282 v283 v290 X_arg0 k acc = k0_pay79 v25 v248 v290 k acc (View.readAt (Elt F) arg0.view (Rect.unit (s := S128x12800) (k0_off25 k) S128x256.size (k0_off25_inb k)).toLoadRect X_arg0) := by
  unfold tripR_k0_t15 trip_k0_t15; dsimp only

theorem trip16 (v2 : FVec F S1x1 .bf16) (v5 : FVec F S1x1 .bf16) (v7 : FVec F S128x128 .bf16) (v11 : FVec F S512x128 .bf16) (v13 : FVec F S1x512 .bf16) (v25 : IVec S64x256 32) (v273 : FVec F S128x256 .f32) (v300 : IVec S1x256 32) (v307 : FVec F S1x256 .f32) (v310 : IVec S64x256 1) (v315 : FVec F S384x256 .f32) (v317 : FVec F S384x256 .f32) (v321 : FVec F S128x256 .f32) (X_arg11 : BufTy.Contents (Elt F) arg11.view.ty) (k : Fin k0_t16_loop.trips) :
    tripL_k0_t16 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v2 v5 v7 v11 v13 v25 v273 v300 v307 v310 v315 v317 v321 X_arg11 k = [⟨Rect.unit (s := S512x12800) (k0_off27 k) S512x6400.size (k0_off27_inb k), k0_pay85 v2 v5 v7 v11 v273 v315 v317 v321 (View.readAt (Elt F) arg11.view (Rect.unit (s := S128x12800) (k0_off26 k) S128x6400.size (k0_off26_inb k)).toLoadRect X_arg11)⟩] := by
  unfold tripL_k0_t16 trip_k0_t16; rfl

theorem trip17 (v2 : FVec F S1x1 .bf16) (v5 : FVec F S1x1 .bf16) (v7 : FVec F S128x128 .bf16) (v11 : FVec F S512x128 .bf16) (v13 : FVec F S1x512 .bf16) (v25 : IVec S64x256 32) (v273 : FVec F S128x256 .f32) (v300 : IVec S1x256 32) (v307 : FVec F S1x256 .f32) (v310 : IVec S64x256 1) (v315 : FVec F S384x256 .f32) (v317 : FVec F S384x256 .f32) (v321 : FVec F S128x256 .f32) (X_arg14 : BufTy.Contents (Elt F) arg14.view.ty) (k : Fin k0_t17_loop.trips) :
    tripL_k0_t17 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v2 v5 v7 v11 v13 v25 v273 v300 v307 v310 v315 v317 v321 X_arg14 k = [⟨Rect.unit (s := S64x256) (k0_off29 k) S1x256.size (k0_off29_inb k), k0_pay87 (View.readAt (Elt F) arg14.view (Rect.unit (s := S1x12800) (k0_off28 k) S1x256.size (k0_off28_inb k)).toLoadRect X_arg14)⟩] := by
  unfold tripL_k0_t17 trip_k0_t17; rfl

theorem trip18 (v15 : FVec F S384x128 .bf16) (v17 : FVec F S384x128 .bf16) (v25 : IVec S64x256 32) (v310 : IVec S64x256 1) (v335 : FVec F S128x256 .f32) (v351 : IVec S64x256 1) (v352 : Vec F S64x256 .f32) (v353 : FVec F S64x256 .f32) (X_arg0 : BufTy.Contents (Elt F) arg0.view.ty) (k : Fin k0_t18_loop.trips) (acc : FVec F S128x256 .f32) :
    tripR_k0_t18 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v15 v17 v25 v310 v335 v351 v352 v353 X_arg0 k acc = k0_pay96 v25 v351 v352 v353 k acc (View.readAt (Elt F) arg0.view (Rect.unit (s := S128x12800) (k0_off30 k) S128x256.size (k0_off30_inb k)).toLoadRect X_arg0) := by
  unfold tripR_k0_t18 trip_k0_t18; dsimp only

theorem trip19 (v2 : FVec F S1x1 .bf16) (v5 : FVec F S1x1 .bf16) (v7 : FVec F S128x128 .bf16) (v11 : FVec F S512x128 .bf16) (v13 : FVec F S1x512 .bf16) (v25 : IVec S64x256 32) (v369 : FVec F S1x256 .f32) (v372 : IVec S64x256 1) (v397 : FVec F S128x256 .f32) (v398 : FVec F S1x256 .f32) (X_arg11 : BufTy.Contents (Elt F) arg11.view.ty) (k : Fin k0_t19_loop.trips) :
    tripL_k0_t19 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v2 v5 v7 v11 v13 v25 v369 v372 v397 v398 X_arg11 k = [⟨Rect.unit (s := S512x12800) (k0_off32 k) S512x6400.size (k0_off32_inb k), k0_pay99 v2 v5 v7 v11 v397 (View.readAt (Elt F) arg11.view (Rect.unit (s := S128x12800) (k0_off31 k) S128x6400.size (k0_off31_inb k)).toLoadRect X_arg11)⟩] := by
  unfold tripL_k0_t19 trip_k0_t19; rfl

theorem trip20 (v2 : FVec F S1x1 .bf16) (v5 : FVec F S1x1 .bf16) (v7 : FVec F S128x128 .bf16) (v11 : FVec F S512x128 .bf16) (v13 : FVec F S1x512 .bf16) (v25 : IVec S64x256 32) (v369 : FVec F S1x256 .f32) (v372 : IVec S64x256 1) (v397 : FVec F S128x256 .f32) (v398 : FVec F S1x256 .f32) (X_arg14 : BufTy.Contents (Elt F) arg14.view.ty) (k : Fin k0_t20_loop.trips) :
    tripL_k0_t20 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v2 v5 v7 v11 v13 v25 v369 v372 v397 v398 X_arg14 k = [⟨Rect.unit (s := S64x256) (k0_off34 k) S1x256.size (k0_off34_inb k), k0_pay101 (View.readAt (Elt F) arg14.view (Rect.unit (s := S1x12800) (k0_off33 k) S1x256.size (k0_off33_inb k)).toLoadRect X_arg14)⟩] := by
  unfold tripL_k0_t20 trip_k0_t20; rfl

theorem trip21 (v2 : FVec F S1x1 .bf16) (v5 : FVec F S1x1 .bf16) (v7 : FVec F S128x128 .bf16) (v11 : FVec F S512x128 .bf16) (v15 : FVec F S384x128 .bf16) (v17 : FVec F S384x128 .bf16) (v25 : IVec S64x256 32) (v372 : IVec S64x256 1) (v397 : FVec F S128x256 .f32) (v424 : IVec S1x256 32) (v429 : FVec F S1x256 .f32) (X_arg0 : BufTy.Contents (Elt F) arg0.view.ty) (k : Fin k0_t21_loop.trips) (acc : FVec F S128x256 .f32) :
    tripR_k0_t21 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v2 v5 v7 v11 v15 v17 v25 v372 v397 v424 v429 X_arg0 k acc = k0_pay109 v424 k acc (View.readAt (Elt F) arg0.view (Rect.unit (s := S128x12800) (k0_off35 k) S128x256.size (k0_off35_inb k)).toLoadRect X_arg0) := by
  unfold tripR_k0_t21 trip_k0_t21; dsimp only

theorem trip22 (v2 : FVec F S1x1 .bf16) (v5 : FVec F S1x1 .bf16) (v7 : FVec F S128x128 .bf16) (v11 : FVec F S512x128 .bf16) (v15 : FVec F S384x128 .bf16) (v17 : FVec F S384x128 .bf16) (v25 : IVec S64x256 32) (v372 : IVec S64x256 1) (v397 : FVec F S128x256 .f32) (v424 : IVec S1x256 32) (v429 : FVec F S1x256 .f32) (v437 : FVec F S128x256 .f32) (X_arg11 : BufTy.Contents (Elt F) arg11.view.ty) (k : Fin k0_t22_loop.trips) :
    tripL_k0_t22 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v2 v5 v7 v11 v15 v17 v25 v372 v397 v424 v429 v437 X_arg11 k = [⟨Rect.unit (s := S512x12800) (k0_off37 k) S512x6400.size (k0_off37_inb k), k0_pay112 v2 v5 v7 v11 v15 v17 v397 v437 (View.readAt (Elt F) arg11.view (Rect.unit (s := S128x12800) (k0_off36 k) S128x6400.size (k0_off36_inb k)).toLoadRect X_arg11)⟩] := by
  unfold tripL_k0_t22 trip_k0_t22; rfl

theorem trip23 (v13 : FVec F S1x512 .bf16) (v15 : FVec F S384x128 .bf16) (v25 : IVec S64x256 32) (v434 : IVec S64x256 1) (v459 : FVec F S128x256 .f32) (X_arg14 : BufTy.Contents (Elt F) arg14.view.ty) (k : Fin k0_t23_loop.trips) :
    tripL_k0_t23 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v13 v15 v25 v434 v459 X_arg14 k = [⟨Rect.unit (s := S64x256) (k0_off39 k) S1x256.size (k0_off39_inb k), k0_pay114 (View.readAt (Elt F) arg14.view (Rect.unit (s := S1x12800) (k0_off38 k) S1x256.size (k0_off38_inb k)).toLoadRect X_arg14)⟩] := by
  unfold tripL_k0_t23 trip_k0_t23; rfl

theorem trip24 (v13 : FVec F S1x512 .bf16) (v15 : FVec F S384x128 .bf16) (v25 : IVec S64x256 32) (v434 : IVec S64x256 1) (v459 : FVec F S128x256 .f32) (v476 : Vec F S64x256 .f32) (X_arg0 : BufTy.Contents (Elt F) arg0.view.ty) (k : Fin k0_t24_loop.trips) (acc : FVec F S128x256 .f32) :
    tripR_k0_t24 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v13 v15 v25 v434 v459 v476 X_arg0 k acc = k0_pay121 v25 v434 v476 k acc (View.readAt (Elt F) arg0.view (Rect.unit (s := S128x12800) (k0_off40 k) S128x256.size (k0_off40_inb k)).toLoadRect X_arg0) := by
  unfold tripR_k0_t24 trip_k0_t24; dsimp only

theorem trip25 (v2 : FVec F S1x1 .bf16) (v5 : FVec F S1x1 .bf16) (v7 : FVec F S128x128 .bf16) (v11 : FVec F S512x128 .bf16) (v13 : FVec F S1x512 .bf16) (v17 : FVec F S384x128 .bf16) (v25 : IVec S64x256 32) (v459 : FVec F S128x256 .f32) (v486 : IVec S1x256 32) (v493 : FVec F S1x256 .f32) (v501 : FVec F S384x256 .f32) (v502 : FVec F S128x256 .bf16) (X_arg11 : BufTy.Contents (Elt F) arg11.view.ty) (k : Fin k0_t25_loop.trips) :
    tripL_k0_t25 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v2 v5 v7 v11 v13 v17 v25 v459 v486 v493 v501 v502 X_arg11 k = [⟨Rect.unit (s := S512x12800) (k0_off42 k) S512x6400.size (k0_off42_inb k), k0_pay126 v2 v5 v7 v11 v17 v459 v501 v502 (View.readAt (Elt F) arg11.view (Rect.unit (s := S128x12800) (k0_off41 k) S128x6400.size (k0_off41_inb k)).toLoadRect X_arg11)⟩] := by
  unfold tripL_k0_t25 trip_k0_t25; rfl

theorem trip26 (v2 : FVec F S1x1 .bf16) (v5 : FVec F S1x1 .bf16) (v7 : FVec F S128x128 .bf16) (v11 : FVec F S512x128 .bf16) (v13 : FVec F S1x512 .bf16) (v17 : FVec F S384x128 .bf16) (v25 : IVec S64x256 32) (v459 : FVec F S128x256 .f32) (v486 : IVec S1x256 32) (v493 : FVec F S1x256 .f32) (v501 : FVec F S384x256 .f32) (v502 : FVec F S128x256 .bf16) (X_arg14 : BufTy.Contents (Elt F) arg14.view.ty) (k : Fin k0_t26_loop.trips) :
    tripL_k0_t26 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v2 v5 v7 v11 v13 v17 v25 v459 v486 v493 v501 v502 X_arg14 k = [⟨Rect.unit (s := S64x256) (k0_off44 k) S1x256.size (k0_off44_inb k), k0_pay128 (View.readAt (Elt F) arg14.view (Rect.unit (s := S1x12800) (k0_off43 k) S1x256.size (k0_off43_inb k)).toLoadRect X_arg14)⟩] := by
  unfold tripL_k0_t26 trip_k0_t26; rfl

theorem trip27 (v15 : FVec F S384x128 .bf16) (v17 : FVec F S384x128 .bf16) (v25 : IVec S64x256 32) (v496 : IVec S64x256 1) (v521 : FVec F S128x256 .f32) (v536 : IVec S64x256 1) (v538 : Vec F S64x256 .f32) (X_arg0 : BufTy.Contents (Elt F) arg0.view.ty) (k : Fin k0_t27_loop.trips) (acc : FVec F S128x256 .f32) :
    tripR_k0_t27 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v15 v17 v25 v496 v521 v536 v538 X_arg0 k acc = k0_pay136 v25 v496 v536 v538 k acc (View.readAt (Elt F) arg0.view (Rect.unit (s := S128x12800) (k0_off45 k) S128x256.size (k0_off45_inb k)).toLoadRect X_arg0) := by
  unfold tripR_k0_t27 trip_k0_t27; dsimp only

theorem trip28 (v2 : FVec F S1x1 .bf16) (v5 : FVec F S1x1 .bf16) (v7 : FVec F S128x128 .bf16) (v11 : FVec F S512x128 .bf16) (v13 : FVec F S1x512 .bf16) (v25 : IVec S64x256 32) (v521 : FVec F S128x256 .f32) (v548 : IVec S1x256 32) (v555 : FVec F S1x256 .f32) (v558 : IVec S64x256 1) (v573 : FVec F S128x256 .f32) (v578 : FVec F S128x256 .f32) (v580 : FVec F S128x256 .f32) (X_arg11 : BufTy.Contents (Elt F) arg11.view.ty) (k : Fin k0_t28_loop.trips) :
    tripL_k0_t28 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v2 v5 v7 v11 v13 v25 v521 v548 v555 v558 v573 v578 v580 X_arg11 k = [⟨Rect.unit (s := S512x12800) (k0_off47 k) S512x6400.size (k0_off47_inb k), k0_pay143 v2 v5 v7 v11 v521 v573 v578 v580 (View.readAt (Elt F) arg11.view (Rect.unit (s := S128x12800) (k0_off46 k) S128x6400.size (k0_off46_inb k)).toLoadRect X_arg11)⟩] := by
  unfold tripL_k0_t28 trip_k0_t28; rfl

theorem trip29 (v2 : FVec F S1x1 .bf16) (v5 : FVec F S1x1 .bf16) (v7 : FVec F S128x128 .bf16) (v11 : FVec F S512x128 .bf16) (v13 : FVec F S1x512 .bf16) (v25 : IVec S64x256 32) (v521 : FVec F S128x256 .f32) (v548 : IVec S1x256 32) (v555 : FVec F S1x256 .f32) (v558 : IVec S64x256 1) (v573 : FVec F S128x256 .f32) (v578 : FVec F S128x256 .f32) (v580 : FVec F S128x256 .f32) (X_arg14 : BufTy.Contents (Elt F) arg14.view.ty) (k : Fin k0_t29_loop.trips) :
    tripL_k0_t29 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v2 v5 v7 v11 v13 v25 v521 v548 v555 v558 v573 v578 v580 X_arg14 k = [⟨Rect.unit (s := S64x256) (k0_off49 k) S1x256.size (k0_off49_inb k), k0_pay145 (View.readAt (Elt F) arg14.view (Rect.unit (s := S1x12800) (k0_off48 k) S1x256.size (k0_off48_inb k)).toLoadRect X_arg14)⟩] := by
  unfold tripL_k0_t29 trip_k0_t29; rfl

end Cert.KernelIdeal.Trips
-- ==== Proof.Blocks.lean ====
/- Sequences of stores, block by block: what a buffer reads after them. -/
module

public import proofs.«01_k».proof.Proof.Gen.KernelIdeal.Loops
public import Idealize.ShloMosaic.Lib.VecWindow
public import Idealize.ShloMosaic.Lib.WritesUnit
public import Idealize.ShloMosaic.Lib.Pointwise.Index

@[expose] public section

set_option maxRecDepth 16384

noncomputable section

namespace Cert.KernelIdeal.Blocks

open Idealize.ShloMosaic Idealize.ShloMosaic.TcCoe
open Cert.KernelIdeal.Gen

variable {F : FTy → Type} [FloatOps F] [Named F]

section Stores

variable {κ : Kind} {sp : Space} {e : EltTy} {Val : EltTy → Type}

/-- Two blocks of 6400 columns side by side. -/
def join {α : Type} (g : ℕ → S512x6400.Idx → α) : S512x12800.Idx → α :=
  fun i => g ((i 1).val / 6400) (ix2 (i 0) ⟨(i 1).val % 6400, Nat.mod_lt _ (by decide)⟩)

/-- After storing `n` blocks of 6400 columns one by one, an element under block `k` reads block `k`. -/
theorem cols (v : View sig κ sp S512x12800 e) (f : v.ty.Contents Val) {n : ℕ} (off : Fin n → Fin 2 → ℕ)
    (inb : ∀ k a, off k a + S512x6400.size a ≤ S512x12800.size a) (w : (k : Fin n) → S512x6400.Idx → Val e)
    (P : ℕ → List (View.Piece Val S512x12800 e)) (L : List (View.Piece Val S512x12800 e)) (h0 : P 0 = [])
    (hs : ∀ k : Fin n, P (k.val + 1) = ⟨Rect.unit (s := S512x12800) (off k) S512x6400.size (inb k), w k⟩ :: P k.val)
    (hoff : ∀ k, off k = ![0, 6400 * k.val]) (i : S512x12800.Idx) (k : Fin n) (hk : (i 1).val / 6400 = k.val) :
    ∀ m, m ≤ n → k.val < m → v.read Val (v.writes Val f (P m ++ L)) i = w k (ix2 (i 0) ⟨(i 1).val % 6400, Nat.mod_lt _ (by decide)⟩)
  | 0, _, h => absurd h (Nat.not_lt_zero _)
  | m + 1, hm, h => by
    rw [hs ⟨m, hm⟩, List.cons_append]
    by_cases hkm : k.val = m
    · obtain ⟨kv, hkv⟩ := k
      simp only at hkm hk
      subst hkm
      refine View.read_writes_cons_unit_of_mem v f (inb _) _ _ i
        (ix2 (i 0) ⟨(i 1).val % 6400, Nat.mod_lt _ (by decide)⟩) (hoff _) ?_
      intro a
      fin_cases a
      · show (i 0).val = 0 + (i 0).val
        omega
      · show (i 1).val = 6400 * kv + (i 1).val % 6400
        omega
    · rw [View.read_writes_cons_unit_of_not_mem v f (inb _) _ _ i (hoff _) 1 (by
        show (i 1).val < 6400 * m ∨ 6400 * m + 6400 ≤ (i 1).val
        omega)]
      exact cols v f off inb w P L h0 hs hoff i k hk m (by omega) (by omega)

/-- Both halves stored: the whole buffer is the two blocks side by side. -/
theorem cols_join (v : View sig κ sp S512x12800 e) (f : v.ty.Contents Val) {n : ℕ} (off : Fin n → Fin 2 → ℕ)
    (inb : ∀ k a, off k a + S512x6400.size a ≤ S512x12800.size a) (w : (k : Fin n) → S512x6400.Idx → Val e)
    (P : ℕ → List (View.Piece Val S512x12800 e)) (L : List (View.Piece Val S512x12800 e)) (h0 : P 0 = [])
    (hs : ∀ k : Fin n, P (k.val + 1) = ⟨Rect.unit (s := S512x12800) (off k) S512x6400.size (inb k), w k⟩ :: P k.val)
    (hoff : ∀ k, off k = ![0, 6400 * k.val]) (hn : n = 2) (g : ℕ → S512x6400.Idx → Val e) (hg : ∀ k : Fin n, w k = g k.val)
    {off' : Fin 2 → ℕ} (inb' : ∀ a, off' a + S512x12800.size a ≤ S512x12800.size a) :
    v.readAt Val (Rect.unit (s := S512x12800) off' S512x12800.size inb').toLoadRect (v.writes Val f (P n ++ L)) = join g := by
  rw [View.readAt_full]
  funext i
  have hi : (i 1).val < 12800 := (i 1).isLt
  rw [cols v f off inb w P L h0 hs hoff i ⟨(i 1).val / 6400, by omega⟩ rfl n (le_refl _) (by show (i 1).val / 6400 < n; omega), hg]
  rfl

/-- A buffer of 64 rows of which the first 50 are the 50 blocks of a long row. -/
def pad {α : Type} (z : S64x256.Idx → α) (L : S1x12800.Idx → α) : S64x256.Idx → α :=
  fun i => if h : (i 0).val < 50 then L (ix2 0 ⟨(i 0).val * 256 + (i 1).val, by have : (i 1).val < 256 := (i 1).isLt; omega⟩) else z i

/-- After storing `m` rows one by one, a row below `m` reads what was stored there, and any other reads what was there. -/
theorem rows (v : View sig κ sp S64x256 e) (f : v.ty.Contents Val) {n : ℕ} (off : Fin n → Fin 2 → ℕ)
    (inb : ∀ k a, off k a + S1x256.size a ≤ S64x256.size a) (w : (k : Fin n) → S1x256.Idx → Val e)
    (P : ℕ → List (View.Piece Val S64x256 e)) (L : List (View.Piece Val S64x256 e)) (h0 : P 0 = [])
    (hs : ∀ k : Fin n, P (k.val + 1) = ⟨Rect.unit (s := S64x256) (off k) S1x256.size (inb k), w k⟩ :: P k.val)
    (hoff : ∀ k, off k = ![k.val, 0]) (i : S64x256.Idx) :
    ∀ m, (hm : m ≤ n) → v.read Val (v.writes Val f (P m ++ L)) i
      = if h : (i 0).val < m then w ⟨(i 0).val, by omega⟩ (ix2 0 (i 1)) else v.read Val (v.writes Val f L) i
  | 0, _ => by rw [h0, List.nil_append]; rfl
  | m + 1, hm => by
    rw [hs ⟨m, hm⟩, List.cons_append]
    by_cases hkm : (i 0).val = m
    · subst hkm
      rw [dif_pos (Nat.lt_succ_self _)]
      refine View.read_writes_cons_unit_of_mem v f (inb _) _ _ i (ix2 0 (i 1)) (hoff _) ?_
      intro a
      fin_cases a
      · show (i 0).val = (i 0).val + 0
        omega
      · show (i 1).val = 0 + (i 1).val
        omega
    · rw [View.read_writes_cons_unit_of_not_mem v f (inb _) _ _ i (hoff _) 0 (by
        show (i 0).val < m ∨ m + 1 ≤ (i 0).val
        omega), rows v f off inb w P L h0 hs hoff i m (by omega)]
      by_cases h : (i 0).val < m
      · rw [dif_pos h, dif_pos (by omega)]
      · rw [dif_neg h, dif_neg (by omega)]

/-- What rows from 50 on of the row buffer hold: what they held at the start, whatever was scattered. -/
structure Keeps (v : View sig κ sp S64x256 e) (f : v.ty.Contents Val) (L : List (View.Piece Val S64x256 e)) : Prop where
  keep : ∀ i : S64x256.Idx, 50 ≤ (i 0).val → v.read Val (v.writes Val f L) i = v.read Val f i

theorem keeps_nil (v : View sig κ sp S64x256 e) (f : v.ty.Contents Val) : Keeps v f [] := ⟨fun i _ => rfl⟩

theorem rows_keeps (v : View sig κ sp S64x256 e) (f : v.ty.Contents Val) {n : ℕ} (off : Fin n → Fin 2 → ℕ)
    (inb : ∀ k a, off k a + S1x256.size a ≤ S64x256.size a) (w : (k : Fin n) → S1x256.Idx → Val e)
    (P : ℕ → List (View.Piece Val S64x256 e)) (L : List (View.Piece Val S64x256 e)) (h0 : P 0 = [])
    (hs : ∀ k : Fin n, P (k.val + 1) = ⟨Rect.unit (s := S64x256) (off k) S1x256.size (inb k), w k⟩ :: P k.val)
    (hoff : ∀ k, off k = ![k.val, 0]) (hn : n = 50) (hL : Keeps v f L) : Keeps v f (P n ++ L) := ⟨fun i hi => by
  rw [rows v f off inb w P L h0 hs hoff i n (le_refl _), dif_neg (by omega)]
  exact hL.keep i hi⟩

/-- The 50 rows scattered: the buffer reads them over what it held. -/
theorem rows_pad (v : View sig κ sp S64x256 e) (f : v.ty.Contents Val) {n : ℕ} (off : Fin n → Fin 2 → ℕ)
    (inb : ∀ k a, off k a + S1x256.size a ≤ S64x256.size a) (w : (k : Fin n) → S1x256.Idx → Val e)
    (P : ℕ → List (View.Piece Val S64x256 e)) (L : List (View.Piece Val S64x256 e)) (h0 : P 0 = [])
    (hs : ∀ k : Fin n, P (k.val + 1) = ⟨Rect.unit (s := S64x256) (off k) S1x256.size (inb k), w k⟩ :: P k.val)
    (hoff : ∀ k, off k = ![k.val, 0]) (hn : n = 50) (hL : Keeps v f L) (R : S1x12800.Idx → Val e)
    (hw : ∀ (k : Fin n) (j : Fin 256), w k (ix2 0 j) = R (ix2 0 ⟨k.val * 256 + j.val, by omega⟩))
    {off' : Fin 2 → ℕ} (inb' : ∀ a, off' a + S64x256.size a ≤ S64x256.size a) :
    v.readAt Val (Rect.unit (s := S64x256) off' S64x256.size inb').toLoadRect (v.writes Val f (P n ++ L)) = pad (v.read Val f) R := by
  rw [View.readAt_full]
  funext i
  rw [rows v f off inb w P L h0 hs hoff i n (le_refl _)]
  unfold pad
  subst hn
  by_cases h : (i 0).val < 50
  · rw [dif_pos h, dif_pos h]
    exact hw _ (i 1)
  · rw [dif_neg h, dif_neg h]
    exact hL.keep i (by omega)

end Stores

end Cert.KernelIdeal.Blocks
-- ==== Proof.Model.lean ====
/- What the kernel's body computes, as functions: ten times the scores of all candidates, the choice, its share, and the next state. -/
module

public import proofs.«01_k».proof.Proof.Blocks
public import Idealize.ShloMosaic.Lib.Pointwise

@[expose] public section

set_option maxRecDepth 16384

noncomputable section

namespace Cert.KernelIdeal.Model

open Idealize.ShloMosaic Idealize.ShloMosaic.TcCoe
open Cert.KernelIdeal.Gen Cert.KernelIdeal.Blocks

variable {F : FTy → Type} [FloatOps F] [Named F]

/-- The candidate's block of 256 columns its number names, nothing where there is none. -/
def gat (X : Vec F S128x12800 .f32) (am : IVec S1x256 32) : FVec F S128x256 .f32 :=
  fun i => if h : (am (ix2 0 (i 1))).toNat < 50 then X (ix2 (i 0) ⟨(am (ix2 0 (i 1))).toNat * 256 + (i 1).val, by have : (i 1).val < 256 := (i 1).isLt; omega⟩)
    else (k0_pay22 (F := F)) i

theorem iv_toNat : ∀ k : Fin k0_t3_loop.trips, (Scf.iv 0#32 1#32 k).toNat = k.val := by decide +kernel

/-- One trip of the gathering: the columns whose number is the trip's take the candidate loaded. -/
theorem pay23_apply (am : IVec S1x256 32) (k : Fin k0_t3_loop.trips) (acc : FVec F S128x256 .f32) (u : Vec F S128x256 .f32) (i : S128x256.Idx) :
    k0_pay23 am 0#32 1#32 k acc u i = if (am (ix2 0 (i 1))).toNat = k.val then u i else acc i := by
  unfold k0_pay23
  idx_vars i
  pointwise
  have hk := iv_toNat k
  by_cases h : (am (ix2 0 i1)).toNat = k.val
  · refine Eq.trans ?_ (if_pos h).symm
    have e : am (ix2 0 i1) = Scf.iv 0#32 1#32 k := BitVec.eq_of_toNat_eq (h.trans hk.symm)
    rw [e]
    simp [Scalar.select, IntOp.cmpi]
  · refine Eq.trans ?_ (if_neg h).symm
    have e : am (ix2 0 i1) ≠ Scf.iv 0#32 1#32 k := fun e => h (by rw [e, hk])
    have e' : (am (ix2 0 i1) == Scf.iv 0#32 1#32 k.val) = false := beq_eq_false_iff_ne.mpr e
    simp only [Scalar.select, IntOp.cmpi, e']
    exact if_neg (by decide)

/-- Fifty trips of the gathering. -/
theorem gather_all (am : IVec S1x256 32) (X : Vec F S128x12800 .f32) (P : ℕ → FVec F S128x256 .f32) (u : Fin k0_t3_loop.trips → Vec F S128x256 .f32)
    (h0 : P 0 = k0_pay22) (hs : ∀ k : Fin k0_t3_loop.trips, P (k.val + 1) = k0_pay23 am 0#32 1#32 k (P k.val) (u k))
    (hu : ∀ (k : Fin k0_t3_loop.trips) (i : S128x256.Idx), u k i = X (ix2 (i 0) ⟨k.val * 256 + (i 1).val, by have : (i 1).val < 256 := (i 1).isLt; have := Nat.lt_of_lt_of_le k.isLt k0_t3_abs.2.1; omega⟩)) :
    P k0_t3_loop.trips = gat X am := by
  have key : ∀ m, m ≤ k0_t3_loop.trips → ∀ i, P m i = if (am (ix2 0 (i 1))).toNat < m then gat X am i else (k0_pay22 (F := F)) i := by
    intro m
    induction m with
    | zero => intro _ i; rw [h0, if_neg (Nat.not_lt_zero _)]
    | succ m ih =>
      intro hm i
      have h50 : k0_t3_loop.trips ≤ 50 := k0_t3_abs.2.1
      rw [hs ⟨m, hm⟩, pay23_apply]
      by_cases h : (am (ix2 0 (i 1))).toNat = m
      · rw [if_pos h, if_pos (by omega), hu]
        unfold gat
        rw [dif_pos (by omega)]
        subst h
        rfl
      · rw [if_neg h, ih (by omega)]
        by_cases h' : (am (ix2 0 (i 1))).toNat < m
        · rw [if_pos h', if_pos (by omega)]
        · rw [if_neg h', if_neg (by omega)]
  funext i
  rw [key _ (le_refl _)]
  split_ifs with h
  · rfl
  · have e : k0_t3_loop.trips = 50 := by decide +kernel
    rw [e] at h
    unfold gat
    rw [dif_neg h]

/-- What the body reads once: the weights in the short format, the candidates' half of the first layer, and the candidates. -/
structure Wt (F : FTy → Type) where
  v2 : FVec F S1x1 .bf16
  v5 : FVec F S1x1 .bf16
  v7 : FVec F S128x128 .bf16
  v11 : FVec F S512x128 .bf16
  v13 : FVec F S1x512 .bf16
  v15 : FVec F S384x128 .bf16
  v17 : FVec F S384x128 .bf16
  PT : Vec F S128x12800 .f32
  X : Vec F S128x12800 .f32

/-- What a step starts from: the state and which candidates are taken. -/
structure St (F : FTy → Type) where
  S : FVec F S128x256 .f32
  C : IVec S64x256 1

/-- The state's half of the first layer, once per block of 256 columns. -/
def sTc (v7 : FVec F S128x128 .bf16) (S : FVec F S128x256 .f32) : FVec F S128x6400 .f32 :=
  have v29 : FVec F S128x256 .bf16 := truncf .bf16 S bitsLt_bf16_f32
  have v30 : FVec F S128x256 .f32 := matmul dot_S128x128_S128x256_S128x256_1_0_0_1_n_n none v7 v29 (constant S128x256 .f32 0x00000000#32)
  concatenate S128x6400 1 [⟨S128x256, v30⟩, ⟨S128x256, v30⟩, ⟨S128x256, v30⟩, ⟨S128x256, v30⟩, ⟨S128x256, v30⟩, ⟨S128x256, v30⟩, ⟨S128x256, v30⟩, ⟨S128x256, v30⟩, ⟨S128x256, v30⟩, ⟨S128x256, v30⟩, ⟨S128x256, v30⟩, ⟨S128x256, v30⟩, ⟨S128x256, v30⟩, ⟨S128x256, v30⟩, ⟨S128x256, v30⟩, ⟨S128x256, v30⟩, ⟨S128x256, v30⟩, ⟨S128x256, v30⟩, ⟨S128x256, v30⟩, ⟨S128x256, v30⟩, ⟨S128x256, v30⟩, ⟨S128x256, v30⟩, ⟨S128x256, v30⟩, ⟨S128x256, v30⟩, ⟨S128x256, v30⟩] concatenates_S128x256_S128x256_S128x256_S128x256_S128x256_S128x256_S128x256_S128x256_S128x256_S128x256_S128x256_S128x256_S128x256_S128x256_S128x256_S128x256_S128x256_S128x256_S128x256_S128x256_S128x256_S128x256_S128x256_S128x256_S128x256_S128x6400_d1

/-- Block `k` of 6400 columns. -/
def blk (X : Vec F S128x12800 .f32) (k : ℕ) : Vec F S128x6400 .f32 :=
  fun i => X (ix2 (i 0) ⟨(k * 6400 + (i 1).val) % 12800, Nat.mod_lt _ (by decide)⟩)

/-- The second layer over all candidates. -/
def hid (w : Wt F) (S : FVec F S128x256 .f32) : Vec F S512x12800 .bf16 := join fun k => k0_pay14 w.v2 w.v5 w.v11 (sTc w.v7 S) (blk w.PT k)

/-- The scores of all candidates. -/
def row (w : Wt F) (S : FVec F S128x256 .f32) : Vec F S1x12800 .f32 := k0_pay15 w.v13 (hid w S)

/-- The row numbers. -/
def rowNo : IVec S64x256 32 := iota Kind.tc S64x256 32 [0] iota_S64x256_d0_w32

/-- The scores, a row per candidate. -/
def lg (w : Wt F) (z : Vec F S64x256 .f32) (S : FVec F S128x256 .f32) : Vec F S64x256 .f32 := pad z (row w S)

/-- The step's choice. -/
def am (w : Wt F) (z : Vec F S64x256 .f32) (s : St F) : IVec S1x256 32 := k0_pay19 rowNo s.C (lg w z s.S)

/-- The step's share. -/
def pi (w : Wt F) (z : Vec F S64x256 .f32) (s : St F) : FVec F S1x256 .f32 := k0_pay20 rowNo s.C (lg w z s.S)

/-- One step. -/
def next (w : Wt F) (z : Vec F S64x256 .f32) (s : St F) : St F :=
  ⟨k0_pay24 w.v15 w.v17 s.S (gat w.X (am w z s)), k0_pay21 rowNo s.C (lg w z s.S)⟩

/-- The state before step `t`. -/
def st (w : Wt F) (z : Vec F S64x256 .f32) (s : St F) : ℕ → St F
  | 0 => s
  | t + 1 => next w z (st w z s t)

theorem S_succ (w : Wt F) (z : Vec F S64x256 .f32) (s : St F) (t : ℕ) :
    (st w z s (t + 1)).S = k0_pay24 w.v15 w.v17 (st w z s t).S (gat w.X (am w z (st w z s t))) := by
  rw [st, next]

theorem C_succ (w : Wt F) (z : Vec F S64x256 .f32) (s : St F) (t : ℕ) :
    (st w z s (t + 1)).C = k0_pay21 rowNo (st w z s t).C (lg w z (st w z s t).S) := by
  rw [st, next]

end Cert.KernelIdeal.Model
-- ==== Proof.LoopValues.lean ====
/- What each of the body's loops leaves. -/
module

public import proofs.«01_k».proof.Proof.Trips
public import proofs.«01_k».proof.Proof.Model

@[expose] public section

set_option maxRecDepth 16384

noncomputable section

namespace Cert.KernelIdeal.LoopValues

open Idealize.ShloMosaic Idealize.ShloMosaic.TcCoe
open Cert.KernelIdeal.Gen Cert.KernelIdeal.Blocks

variable {F : FTy → Type} [FloatOps F] [Named F]

/-- A window of 6400 columns is a block. -/
theorem blk_window (X : Vec F S128x12800 .f32) (k : ℕ) (hk : k < 2) (inb : ∀ a, (![0, 6400 * k] : Fin 2 → ℕ) a + S128x6400.size a ≤ S128x12800.size a) :
    VecWindow.window (s := S128x12800) X ![0, 6400 * k] S128x6400.size inb = Model.blk X k := by
  funext i
  have hi : (i 1).val < 6400 := (i 1).isLt
  show X _ = X _
  refine congrArg X (funext fun a => Fin.ext ?_)
  match a with
  | ⟨0, _⟩ => show 0 + 1 * (i 0).val = (i 0).val; omega
  | ⟨1, _⟩ => show 6400 * k + 1 * (i 1).val = (k * 6400 + (i 1).val) % 12800; omega

/-- A window of 256 columns of a long row. -/
theorem row_window (R : Vec F S1x12800 .f32) (k : ℕ) (j : Fin 256) (hk : k < 50) (inb : ∀ a, (![0, 256 * k] : Fin 2 → ℕ) a + S1x256.size a ≤ S1x12800.size a) :
    k0_pay16 (VecWindow.window (s := S1x12800) R ![0, 256 * k] S1x256.size inb) (ix2 0 j) = R (ix2 0 ⟨k * 256 + j.val, by omega⟩) := by
  unfold k0_pay16
  pointwise
  show R _ = R _
  refine congrArg R (funext fun a => Fin.ext ?_)
  match a with
  | ⟨0, _⟩ => rfl
  | ⟨1, _⟩ => show 256 * k + 1 * j.val = k * 256 + j.val; omega

/-- A window of 256 columns is a candidate's block. -/
theorem gat_window (X : Vec F S128x12800 .f32) (k : ℕ) (i : S128x256.Idx) (hk : k < 50) (inb : ∀ a, (![0, 256 * k] : Fin 2 → ℕ) a + S128x256.size a ≤ S128x12800.size a) :
    VecWindow.window (s := S128x12800) X ![0, 256 * k] S128x256.size inb i = X (ix2 (i 0) ⟨k * 256 + (i 1).val, by have : (i 1).val < 256 := (i 1).isLt; omega⟩) := by
  show X _ = X _
  refine congrArg X (funext fun a => Fin.ext ?_)
  match a with
  | ⟨0, _⟩ => show 0 + 1 * (i 0).val = (i 0).val; omega
  | ⟨1, _⟩ => show 256 * k + 1 * (i 1).val = k * 256 + (i 1).val; omega

variable (𝒱 : Variants) (c : Dev nD) (bd : Option 𝒱.V) (arg0 : Memref sig .tc .vmem S128x12800 .f32) (harg0 : arg0.IsWhole) (arg1 : Memref sig .tc .vmem S128x256 .f32) (harg1 : arg1.IsWhole) (arg2 : Memref sig .tc .vmem S128x256 .f32) (harg2 : arg2.IsWhole) (arg3 : Memref sig .tc .vmem S512x128 .f32) (harg3 : arg3.IsWhole) (arg4 : Memref sig .tc .vmem S1x512 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S384x128 .f32) (harg7 : arg7.IsWhole) (arg8 : Memref sig .tc .vmem S384x128 .f32) (harg8 : arg8.IsWhole) (arg9 : Memref sig .tc .vmem S10x256 .f32) (harg9 : arg9.IsWhole) (arg10 : Memref sig .tc .vmem S10x256 .f32) (harg10 : arg10.IsWhole) (arg11 : Memref sig .tc .vmem S128x12800 .f32) (harg11 : arg11.IsWhole) (arg12 : Memref sig .tc .vmem S64x256 .f32) (harg12 : arg12.IsWhole) (arg13 : Memref sig .tc .vmem S512x12800 .bf16) (harg13 : arg13.IsWhole) (arg14 : Memref sig .tc .vmem S1x12800 .f32) (harg14 : arg14.IsWhole)

theorem hid1 (v2 : FVec F S1x1 .bf16) (v5 : FVec F S1x1 .bf16) (v11 : FVec F S512x128 .bf16) (v13 : FVec F S1x512 .bf16) (v25 : IVec S64x256 32) (v28 : IVec S64x256 1) (v31 : FVec F S128x6400 .f32) (c0_i32 : BitVec 32) (c2_i32 : BitVec 32) (X_arg11 : BufTy.Contents (Elt F) arg11.view.ty) (f : BufTy.Contents (Elt F) arg13.view.ty) (L : List (View.Piece (Elt F) S512x12800 .bf16)) (PT : Vec F S128x12800 .f32)
    (hX : arg11.view.read (Elt F) X_arg11 = PT) {off' : Fin 2 → ℕ} (inb' : ∀ a, off' a + S512x12800.size a ≤ S512x12800.size a) :
    arg13.view.readAt (Elt F) (Rect.unit (s := S512x12800) off' S512x12800.size inb').toLoadRect (arg13.view.writes (Elt F) f
      (pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v2 v5 v11 v13 v25 v28 v31 c0_i32 c2_i32 X_arg11 k0_t1_loop.trips ++ L)) = join fun k => k0_pay14 v2 v5 v11 v31 (Model.blk PT k) :=
  cols_join arg13.view f k0_off2 k0_off2_inb _ _ L (pb_k0_t1.eq_1 ..) (fun k => (pb_k0_t1_succ ..).trans (by rw [Trips.trip1]; rfl)) k0_off2_eq (by decide +kernel) _ (fun k => by
    rw [View.readAt_unit arg11.view X_arg11 _ (k0_off1_eq k) (by rw [← k0_off1_eq k]; exact k0_off1_inb k), hX, blk_window PT k.val (lt_of_lt_of_eq k.isLt (by decide +kernel))]) inb'

theorem keep2 (v2 : FVec F S1x1 .bf16) (v5 : FVec F S1x1 .bf16) (v11 : FVec F S512x128 .bf16) (v13 : FVec F S1x512 .bf16) (v25 : IVec S64x256 32) (v28 : IVec S64x256 1) (v31 : FVec F S128x6400 .f32) (c0_i32 : BitVec 32) (c2_i32 : BitVec 32) (X_arg14 : BufTy.Contents (Elt F) arg14.view.ty) (f : BufTy.Contents (Elt F) arg12.view.ty) (L : List (View.Piece (Elt F) S64x256 .f32)) (hL : Keeps arg12.view f L) :
    Keeps arg12.view f (pb_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v2 v5 v11 v13 v25 v28 v31 c0_i32 c2_i32 X_arg14 k0_t2_loop.trips ++ L) :=
  rows_keeps arg12.view f k0_off4 k0_off4_inb _ _ L (pb_k0_t2.eq_1 ..) (fun k => (pb_k0_t2_succ ..).trans (by rw [Trips.trip2]; rfl)) k0_off4_eq (by decide +kernel) hL

theorem scat2 (v2 : FVec F S1x1 .bf16) (v5 : FVec F S1x1 .bf16) (v11 : FVec F S512x128 .bf16) (v13 : FVec F S1x512 .bf16) (v25 : IVec S64x256 32) (v28 : IVec S64x256 1) (v31 : FVec F S128x6400 .f32) (c0_i32 : BitVec 32) (c2_i32 : BitVec 32) (X_arg14 : BufTy.Contents (Elt F) arg14.view.ty) (f : BufTy.Contents (Elt F) arg12.view.ty) (L : List (View.Piece (Elt F) S64x256 .f32)) (hL : Keeps arg12.view f L) (R : Vec F S1x12800 .f32)
    (hX : arg14.view.read (Elt F) X_arg14 = R) {off' : Fin 2 → ℕ} (inb' : ∀ a, off' a + S64x256.size a ≤ S64x256.size a) :
    arg12.view.readAt (Elt F) (Rect.unit (s := S64x256) off' S64x256.size inb').toLoadRect (arg12.view.writes (Elt F) f
      (pb_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v2 v5 v11 v13 v25 v28 v31 c0_i32 c2_i32 X_arg14 k0_t2_loop.trips ++ L)) = pad (arg12.view.read (Elt F) f) R :=
  rows_pad arg12.view f k0_off4 k0_off4_inb _ _ L (pb_k0_t2.eq_1 ..) (fun k => (pb_k0_t2_succ ..).trans (by rw [Trips.trip2]; rfl)) k0_off4_eq (by decide +kernel) hL R (fun k j => by
    rw [View.readAt_unit arg14.view X_arg14 _ (k0_off3_eq k) (by rw [← k0_off3_eq k]; exact k0_off3_inb k), hX]
    exact row_window R k.val j (lt_of_lt_of_eq k.isLt (by decide +kernel)) _) inb'

theorem gat3 (v2 : FVec F S1x1 .bf16) (v5 : FVec F S1x1 .bf16) (v7 : FVec F S128x128 .bf16) (v11 : FVec F S512x128 .bf16) (v13 : FVec F S1x512 .bf16) (v15 : FVec F S384x128 .bf16) (v17 : FVec F S384x128 .bf16) (v27 : FVec F S128x256 .f32) (v52 : IVec S1x256 32) (v59 : FVec F S1x256 .f32) (v63 : FVec F S128x256 .f32) (c0_i32_39 : BitVec 32) (c1_i32_41 : BitVec 32) (x0 : Vec F S128x12800 .f32) (init : FVec F S128x256 .f32) (am : IVec S1x256 32) (hinit : init = k0_pay22)
    (hpay : ∀ (k : Fin k0_t3_loop.trips) (acc : FVec F S128x256 .f32) (u : Vec F S128x256 .f32), k0_pay23 v52 c0_i32_39 c1_i32_41 k acc (u) = k0_pay23 am 0#32 1#32 k acc u) :
    st_k0_t3 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v2 v5 v7 v11 v13 v15 v17 v27 v52 v59 v63 c0_i32_39 c1_i32_41 (harg0.unread x0) init k0_t3_loop.trips = Model.gat x0 am :=
  Model.gather_all am x0 _ (fun k => View.readAt (Elt F) arg0.view (Rect.unit (s := S128x12800) (k0_off5 k) S128x256.size (k0_off5_inb k)).toLoadRect (harg0.unread x0))
    ((st_k0_t3_zero ..).trans hinit) (fun k => (st_k0_t3_succ ..).trans ((Trips.trip3 ..).trans (hpay ..))) (fun k i => by
    rw [View.readAt_unit arg0.view _ _ (k0_off5_eq k) (by rw [← k0_off5_eq k]; exact k0_off5_inb k), harg0.read_unread]
    exact gat_window x0 k.val i (lt_of_lt_of_eq k.isLt (by decide +kernel)) _)

theorem hid4 (v2 : FVec F S1x1 .bf16) (v5 : FVec F S1x1 .bf16) (v7 : FVec F S128x128 .bf16) (v11 : FVec F S512x128 .bf16) (v13 : FVec F S1x512 .bf16) (v15 : FVec F S384x128 .bf16) (v17 : FVec F S384x128 .bf16) (v27 : FVec F S128x256 .f32) (v52 : IVec S1x256 32) (v59 : FVec F S1x256 .f32) (v63 : FVec F S128x256 .f32) (c0_i32_39 : BitVec 32) (c1_i32_41 : BitVec 32) (v65 : FVec F S128x256 .f32) (X_arg11 : BufTy.Contents (Elt F) arg11.view.ty) (f : BufTy.Contents (Elt F) arg13.view.ty) (L : List (View.Piece (Elt F) S512x12800 .bf16)) (PT : Vec F S128x12800 .f32)
    (hX : arg11.view.read (Elt F) X_arg11 = PT) {off' : Fin 2 → ℕ} (inb' : ∀ a, off' a + S512x12800.size a ≤ S512x12800.size a) :
    arg13.view.readAt (Elt F) (Rect.unit (s := S512x12800) off' S512x12800.size inb').toLoadRect (arg13.view.writes (Elt F) f
      (pb_k0_t4 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v2 v5 v7 v11 v13 v15 v17 v27 v52 v59 v63 c0_i32_39 c1_i32_41 v65 X_arg11 k0_t4_loop.trips ++ L)) = join fun k => k0_pay26 v2 v5 v7 v11 v15 v17 v27 v65 (Model.blk PT k) :=
  cols_join arg13.view f k0_off7 k0_off7_inb _ _ L (pb_k0_t4.eq_1 ..) (fun k => (pb_k0_t4_succ ..).trans (by rw [Trips.trip4]; rfl)) k0_off7_eq (by decide +kernel) _ (fun k => by
    rw [View.readAt_unit arg11.view X_arg11 _ (k0_off6_eq k) (by rw [← k0_off6_eq k]; exact k0_off6_inb k), hX, blk_window PT k.val (lt_of_lt_of_eq k.isLt (by decide +kernel))]) inb'

theorem keep5 (v15 : FVec F S384x128 .bf16) (v17 : FVec F S384x128 .bf16) (v25 : IVec S64x256 32) (v62 : IVec S64x256 1) (v87 : FVec F S128x256 .f32) (c0_i32_60 : BitVec 32) (X_arg14 : BufTy.Contents (Elt F) arg14.view.ty) (f : BufTy.Contents (Elt F) arg12.view.ty) (L : List (View.Piece (Elt F) S64x256 .f32)) (hL : Keeps arg12.view f L) :
    Keeps arg12.view f (pb_k0_t5 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v15 v17 v25 v62 v87 c0_i32_60 X_arg14 k0_t5_loop.trips ++ L) :=
  rows_keeps arg12.view f k0_off9 k0_off9_inb _ _ L (pb_k0_t5.eq_1 ..) (fun k => (pb_k0_t5_succ ..).trans (by rw [Trips.trip5]; rfl)) k0_off9_eq (by decide +kernel) hL

theorem scat5 (v15 : FVec F S384x128 .bf16) (v17 : FVec F S384x128 .bf16) (v25 : IVec S64x256 32) (v62 : IVec S64x256 1) (v87 : FVec F S128x256 .f32) (c0_i32_60 : BitVec 32) (X_arg14 : BufTy.Contents (Elt F) arg14.view.ty) (f : BufTy.Contents (Elt F) arg12.view.ty) (L : List (View.Piece (Elt F) S64x256 .f32)) (hL : Keeps arg12.view f L) (R : Vec F S1x12800 .f32)
    (hX : arg14.view.read (Elt F) X_arg14 = R) {off' : Fin 2 → ℕ} (inb' : ∀ a, off' a + S64x256.size a ≤ S64x256.size a) :
    arg12.view.readAt (Elt F) (Rect.unit (s := S64x256) off' S64x256.size inb').toLoadRect (arg12.view.writes (Elt F) f
      (pb_k0_t5 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v15 v17 v25 v62 v87 c0_i32_60 X_arg14 k0_t5_loop.trips ++ L)) = pad (arg12.view.read (Elt F) f) R :=
  rows_pad arg12.view f k0_off9 k0_off9_inb _ _ L (pb_k0_t5.eq_1 ..) (fun k => (pb_k0_t5_succ ..).trans (by rw [Trips.trip5]; rfl)) k0_off9_eq (by decide +kernel) hL R (fun k j => by
    rw [View.readAt_unit arg14.view X_arg14 _ (k0_off8_eq k) (by rw [← k0_off8_eq k]; exact k0_off8_inb k), hX]
    exact row_window R k.val j (lt_of_lt_of_eq k.isLt (by decide +kernel)) _) inb'

theorem gat6 (v15 : FVec F S384x128 .bf16) (v17 : FVec F S384x128 .bf16) (v25 : IVec S64x256 32) (v62 : IVec S64x256 1) (v87 : FVec F S128x256 .f32) (c0_i32_60 : BitVec 32) (v104 : Vec F S64x256 .f32) (x0 : Vec F S128x12800 .f32) (init : FVec F S128x256 .f32) (am : IVec S1x256 32) (hinit : init = k0_pay22)
    (hpay : ∀ (k : Fin k0_t6_loop.trips) (acc : FVec F S128x256 .f32) (u : Vec F S128x256 .f32), k0_pay35 v25 v62 v104 k acc (u) = k0_pay23 am 0#32 1#32 k acc u) :
    st_k0_t6 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v15 v17 v25 v62 v87 c0_i32_60 v104 (harg0.unread x0) init k0_t6_loop.trips = Model.gat x0 am :=
  Model.gather_all am x0 _ (fun k => View.readAt (Elt F) arg0.view (Rect.unit (s := S128x12800) (k0_off10 k) S128x256.size (k0_off10_inb k)).toLoadRect (harg0.unread x0))
    ((st_k0_t6_zero ..).trans hinit) (fun k => (st_k0_t6_succ ..).trans ((Trips.trip6 ..).trans (hpay ..))) (fun k i => by
    rw [View.readAt_unit arg0.view _ _ (k0_off10_eq k) (by rw [← k0_off10_eq k]; exact k0_off10_inb k), harg0.read_unread]
    exact gat_window x0 k.val i (lt_of_lt_of_eq k.isLt (by decide +kernel)) _)

theorem hid7 (v2 : FVec F S1x1 .bf16) (v5 : FVec F S1x1 .bf16) (v7 : FVec F S128x128 .bf16) (v11 : FVec F S512x128 .bf16) (v13 : FVec F S1x512 .bf16) (v25 : IVec S64x256 32) (v87 : FVec F S128x256 .f32) (v114 : IVec S1x256 32) (v121 : FVec F S1x256 .f32) (v124 : IVec S64x256 1) (v135 : FVec F S128x256 .f32) (v139 : FVec F S128x256 .f32) (v140 : FVec F S128x256 .f32) (v141 : FVec F S128x256 .f32) (X_arg11 : BufTy.Contents (Elt F) arg11.view.ty) (f : BufTy.Contents (Elt F) arg13.view.ty) (L : List (View.Piece (Elt F) S512x12800 .bf16)) (PT : Vec F S128x12800 .f32)
    (hX : arg11.view.read (Elt F) X_arg11 = PT) {off' : Fin 2 → ℕ} (inb' : ∀ a, off' a + S512x12800.size a ≤ S512x12800.size a) :
    arg13.view.readAt (Elt F) (Rect.unit (s := S512x12800) off' S512x12800.size inb').toLoadRect (arg13.view.writes (Elt F) f
      (pb_k0_t7 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v2 v5 v7 v11 v13 v25 v87 v114 v121 v124 v135 v139 v140 v141 X_arg11 k0_t7_loop.trips ++ L)) = join fun k => k0_pay44 v2 v5 v7 v11 v87 v135 v139 v140 v141 (Model.blk PT k) :=
  cols_join arg13.view f k0_off12 k0_off12_inb _ _ L (pb_k0_t7.eq_1 ..) (fun k => (pb_k0_t7_succ ..).trans (by rw [Trips.trip7]; rfl)) k0_off12_eq (by decide +kernel) _ (fun k => by
    rw [View.readAt_unit arg11.view X_arg11 _ (k0_off11_eq k) (by rw [← k0_off11_eq k]; exact k0_off11_inb k), hX, blk_window PT k.val (lt_of_lt_of_eq k.isLt (by decide +kernel))]) inb'

theorem keep8 (v2 : FVec F S1x1 .bf16) (v5 : FVec F S1x1 .bf16) (v7 : FVec F S128x128 .bf16) (v11 : FVec F S512x128 .bf16) (v13 : FVec F S1x512 .bf16) (v25 : IVec S64x256 32) (v87 : FVec F S128x256 .f32) (v114 : IVec S1x256 32) (v121 : FVec F S1x256 .f32) (v124 : IVec S64x256 1) (v135 : FVec F S128x256 .f32) (v139 : FVec F S128x256 .f32) (v140 : FVec F S128x256 .f32) (v141 : FVec F S128x256 .f32) (X_arg14 : BufTy.Contents (Elt F) arg14.view.ty) (f : BufTy.Contents (Elt F) arg12.view.ty) (L : List (View.Piece (Elt F) S64x256 .f32)) (hL : Keeps arg12.view f L) :
    Keeps arg12.view f (pb_k0_t8 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v2 v5 v7 v11 v13 v25 v87 v114 v121 v124 v135 v139 v140 v141 X_arg14 k0_t8_loop.trips ++ L) :=
  rows_keeps arg12.view f k0_off14 k0_off14_inb _ _ L (pb_k0_t8.eq_1 ..) (fun k => (pb_k0_t8_succ ..).trans (by rw [Trips.trip8]; rfl)) k0_off14_eq (by decide +kernel) hL

theorem scat8 (v2 : FVec F S1x1 .bf16) (v5 : FVec F S1x1 .bf16) (v7 : FVec F S128x128 .bf16) (v11 : FVec F S512x128 .bf16) (v13 : FVec F S1x512 .bf16) (v25 : IVec S64x256 32) (v87 : FVec F S128x256 .f32) (v114 : IVec S1x256 32) (v121 : FVec F S1x256 .f32) (v124 : IVec S64x256 1) (v135 : FVec F S128x256 .f32) (v139 : FVec F S128x256 .f32) (v140 : FVec F S128x256 .f32) (v141 : FVec F S128x256 .f32) (X_arg14 : BufTy.Contents (Elt F) arg14.view.ty) (f : BufTy.Contents (Elt F) arg12.view.ty) (L : List (View.Piece (Elt F) S64x256 .f32)) (hL : Keeps arg12.view f L) (R : Vec F S1x12800 .f32)
    (hX : arg14.view.read (Elt F) X_arg14 = R) {off' : Fin 2 → ℕ} (inb' : ∀ a, off' a + S64x256.size a ≤ S64x256.size a) :
    arg12.view.readAt (Elt F) (Rect.unit (s := S64x256) off' S64x256.size inb').toLoadRect (arg12.view.writes (Elt F) f
      (pb_k0_t8 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v2 v5 v7 v11 v13 v25 v87 v114 v121 v124 v135 v139 v140 v141 X_arg14 k0_t8_loop.trips ++ L)) = pad (arg12.view.read (Elt F) f) R :=
  rows_pad arg12.view f k0_off14 k0_off14_inb _ _ L (pb_k0_t8.eq_1 ..) (fun k => (pb_k0_t8_succ ..).trans (by rw [Trips.trip8]; rfl)) k0_off14_eq (by decide +kernel) hL R (fun k j => by
    rw [View.readAt_unit arg14.view X_arg14 _ (k0_off13_eq k) (by rw [← k0_off13_eq k]; exact k0_off13_inb k), hX]
    exact row_window R k.val j (lt_of_lt_of_eq k.isLt (by decide +kernel)) _) inb'

theorem gat9 (v15 : FVec F S384x128 .bf16) (v17 : FVec F S384x128 .bf16) (v25 : IVec S64x256 32) (v124 : IVec S64x256 1) (v149 : FVec F S128x256 .f32) (v168 : FVec F S64x256 .f32) (v170 : FVec F S1x256 .f32) (v172 : IVec S64x256 1) (x0 : Vec F S128x12800 .f32) (init : FVec F S128x256 .f32) (am : IVec S1x256 32) (hinit : init = k0_pay22)
    (hpay : ∀ (k : Fin k0_t9_loop.trips) (acc : FVec F S128x256 .f32) (u : Vec F S128x256 .f32), k0_pay54 v25 v172 k acc (u) = k0_pay23 am 0#32 1#32 k acc u) :
    st_k0_t9 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v15 v17 v25 v124 v149 v168 v170 v172 (harg0.unread x0) init k0_t9_loop.trips = Model.gat x0 am :=
  Model.gather_all am x0 _ (fun k => View.readAt (Elt F) arg0.view (Rect.unit (s := S128x12800) (k0_off15 k) S128x256.size (k0_off15_inb k)).toLoadRect (harg0.unread x0))
    ((st_k0_t9_zero ..).trans hinit) (fun k => (st_k0_t9_succ ..).trans ((Trips.trip9 ..).trans (hpay ..))) (fun k i => by
    rw [View.readAt_unit arg0.view _ _ (k0_off15_eq k) (by rw [← k0_off15_eq k]; exact k0_off15_inb k), harg0.read_unread]
    exact gat_window x0 k.val i (lt_of_lt_of_eq k.isLt (by decide +kernel)) _)

theorem hid10 (v2 : FVec F S1x1 .bf16) (v5 : FVec F S1x1 .bf16) (v7 : FVec F S128x128 .bf16) (v11 : FVec F S512x128 .bf16) (v13 : FVec F S1x512 .bf16) (v25 : IVec S64x256 32) (v186 : IVec S64x256 1) (v211 : FVec F S128x256 .f32) (X_arg11 : BufTy.Contents (Elt F) arg11.view.ty) (f : BufTy.Contents (Elt F) arg13.view.ty) (L : List (View.Piece (Elt F) S512x12800 .bf16)) (PT : Vec F S128x12800 .f32)
    (hX : arg11.view.read (Elt F) X_arg11 = PT) {off' : Fin 2 → ℕ} (inb' : ∀ a, off' a + S512x12800.size a ≤ S512x12800.size a) :
    arg13.view.readAt (Elt F) (Rect.unit (s := S512x12800) off' S512x12800.size inb').toLoadRect (arg13.view.writes (Elt F) f
      (pb_k0_t10 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v2 v5 v7 v11 v13 v25 v186 v211 X_arg11 k0_t10_loop.trips ++ L)) = join fun k => k0_pay57 v2 v5 v7 v11 v211 (Model.blk PT k) :=
  cols_join arg13.view f k0_off17 k0_off17_inb _ _ L (pb_k0_t10.eq_1 ..) (fun k => (pb_k0_t10_succ ..).trans (by rw [Trips.trip10]; rfl)) k0_off17_eq (by decide +kernel) _ (fun k => by
    rw [View.readAt_unit arg11.view X_arg11 _ (k0_off16_eq k) (by rw [← k0_off16_eq k]; exact k0_off16_inb k), hX, blk_window PT k.val (lt_of_lt_of_eq k.isLt (by decide +kernel))]) inb'

theorem keep11 (v2 : FVec F S1x1 .bf16) (v5 : FVec F S1x1 .bf16) (v7 : FVec F S128x128 .bf16) (v11 : FVec F S512x128 .bf16) (v13 : FVec F S1x512 .bf16) (v25 : IVec S64x256 32) (v186 : IVec S64x256 1) (v211 : FVec F S128x256 .f32) (X_arg14 : BufTy.Contents (Elt F) arg14.view.ty) (f : BufTy.Contents (Elt F) arg12.view.ty) (L : List (View.Piece (Elt F) S64x256 .f32)) (hL : Keeps arg12.view f L) :
    Keeps arg12.view f (pb_k0_t11 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v2 v5 v7 v11 v13 v25 v186 v211 X_arg14 k0_t11_loop.trips ++ L) :=
  rows_keeps arg12.view f k0_off19 k0_off19_inb _ _ L (pb_k0_t11.eq_1 ..) (fun k => (pb_k0_t11_succ ..).trans (by rw [Trips.trip11]; rfl)) k0_off19_eq (by decide +kernel) hL

theorem scat11 (v2 : FVec F S1x1 .bf16) (v5 : FVec F S1x1 .bf16) (v7 : FVec F S128x128 .bf16) (v11 : FVec F S512x128 .bf16) (v13 : FVec F S1x512 .bf16) (v25 : IVec S64x256 32) (v186 : IVec S64x256 1) (v211 : FVec F S128x256 .f32) (X_arg14 : BufTy.Contents (Elt F) arg14.view.ty) (f : BufTy.Contents (Elt F) arg12.view.ty) (L : List (View.Piece (Elt F) S64x256 .f32)) (hL : Keeps arg12.view f L) (R : Vec F S1x12800 .f32)
    (hX : arg14.view.read (Elt F) X_arg14 = R) {off' : Fin 2 → ℕ} (inb' : ∀ a, off' a + S64x256.size a ≤ S64x256.size a) :
    arg12.view.readAt (Elt F) (Rect.unit (s := S64x256) off' S64x256.size inb').toLoadRect (arg12.view.writes (Elt F) f
      (pb_k0_t11 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v2 v5 v7 v11 v13 v25 v186 v211 X_arg14 k0_t11_loop.trips ++ L)) = pad (arg12.view.read (Elt F) f) R :=
  rows_pad arg12.view f k0_off19 k0_off19_inb _ _ L (pb_k0_t11.eq_1 ..) (fun k => (pb_k0_t11_succ ..).trans (by rw [Trips.trip11]; rfl)) k0_off19_eq (by decide +kernel) hL R (fun k j => by
    rw [View.readAt_unit arg14.view X_arg14 _ (k0_off18_eq k) (by rw [← k0_off18_eq k]; exact k0_off18_inb k), hX]
    exact row_window R k.val j (lt_of_lt_of_eq k.isLt (by decide +kernel)) _) inb'

theorem gat12 (v2 : FVec F S1x1 .bf16) (v5 : FVec F S1x1 .bf16) (v7 : FVec F S128x128 .bf16) (v11 : FVec F S512x128 .bf16) (v13 : FVec F S1x512 .bf16) (v15 : FVec F S384x128 .bf16) (v17 : FVec F S384x128 .bf16) (v211 : FVec F S128x256 .f32) (v238 : IVec S1x256 32) (v245 : FVec F S1x256 .f32) (x0 : Vec F S128x12800 .f32) (init : FVec F S128x256 .f32) (am : IVec S1x256 32) (hinit : init = k0_pay22)
    (hpay : ∀ (k : Fin k0_t12_loop.trips) (acc : FVec F S128x256 .f32) (u : Vec F S128x256 .f32), k0_pay66 v238 k acc (u) = k0_pay23 am 0#32 1#32 k acc u) :
    st_k0_t12 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v2 v5 v7 v11 v13 v15 v17 v211 v238 v245 (harg0.unread x0) init k0_t12_loop.trips = Model.gat x0 am :=
  Model.gather_all am x0 _ (fun k => View.readAt (Elt F) arg0.view (Rect.unit (s := S128x12800) (k0_off20 k) S128x256.size (k0_off20_inb k)).toLoadRect (harg0.unread x0))
    ((st_k0_t12_zero ..).trans hinit) (fun k => (st_k0_t12_succ ..).trans ((Trips.trip12 ..).trans (hpay ..))) (fun k i => by
    rw [View.readAt_unit arg0.view _ _ (k0_off20_eq k) (by rw [← k0_off20_eq k]; exact k0_off20_inb k), harg0.read_unread]
    exact gat_window x0 k.val i (lt_of_lt_of_eq k.isLt (by decide +kernel)) _)

theorem hid13 (v2 : FVec F S1x1 .bf16) (v5 : FVec F S1x1 .bf16) (v7 : FVec F S128x128 .bf16) (v11 : FVec F S512x128 .bf16) (v13 : FVec F S1x512 .bf16) (v15 : FVec F S384x128 .bf16) (v17 : FVec F S384x128 .bf16) (v211 : FVec F S128x256 .f32) (v238 : IVec S1x256 32) (v245 : FVec F S1x256 .f32) (v251 : FVec F S128x256 .f32) (X_arg11 : BufTy.Contents (Elt F) arg11.view.ty) (f : BufTy.Contents (Elt F) arg13.view.ty) (L : List (View.Piece (Elt F) S512x12800 .bf16)) (PT : Vec F S128x12800 .f32)
    (hX : arg11.view.read (Elt F) X_arg11 = PT) {off' : Fin 2 → ℕ} (inb' : ∀ a, off' a + S512x12800.size a ≤ S512x12800.size a) :
    arg13.view.readAt (Elt F) (Rect.unit (s := S512x12800) off' S512x12800.size inb').toLoadRect (arg13.view.writes (Elt F) f
      (pb_k0_t13 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v2 v5 v7 v11 v13 v15 v17 v211 v238 v245 v251 X_arg11 k0_t13_loop.trips ++ L)) = join fun k => k0_pay69 v2 v5 v7 v11 v15 v17 v211 v251 (Model.blk PT k) :=
  cols_join arg13.view f k0_off22 k0_off22_inb _ _ L (pb_k0_t13.eq_1 ..) (fun k => (pb_k0_t13_succ ..).trans (by rw [Trips.trip13]; rfl)) k0_off22_eq (by decide +kernel) _ (fun k => by
    rw [View.readAt_unit arg11.view X_arg11 _ (k0_off21_eq k) (by rw [← k0_off21_eq k]; exact k0_off21_inb k), hX, blk_window PT k.val (lt_of_lt_of_eq k.isLt (by decide +kernel))]) inb'

theorem keep14 (v15 : FVec F S384x128 .bf16) (v17 : FVec F S384x128 .bf16) (v25 : IVec S64x256 32) (v248 : IVec S64x256 1) (v273 : FVec F S128x256 .f32) (v282 : FVec F S1x12800 .f32) (v283 : Vec F S1x12800 .f32) (X_arg14 : BufTy.Contents (Elt F) arg14.view.ty) (f : BufTy.Contents (Elt F) arg12.view.ty) (L : List (View.Piece (Elt F) S64x256 .f32)) (hL : Keeps arg12.view f L) :
    Keeps arg12.view f (pb_k0_t14 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v15 v17 v25 v248 v273 v282 v283 X_arg14 k0_t14_loop.trips ++ L) :=
  rows_keeps arg12.view f k0_off24 k0_off24_inb _ _ L (pb_k0_t14.eq_1 ..) (fun k => (pb_k0_t14_succ ..).trans (by rw [Trips.trip14]; rfl)) k0_off24_eq (by decide +kernel) hL

theorem scat14 (v15 : FVec F S384x128 .bf16) (v17 : FVec F S384x128 .bf16) (v25 : IVec S64x256 32) (v248 : IVec S64x256 1) (v273 : FVec F S128x256 .f32) (v282 : FVec F S1x12800 .f32) (v283 : Vec F S1x12800 .f32) (X_arg14 : BufTy.Contents (Elt F) arg14.view.ty) (f : BufTy.Contents (Elt F) arg12.view.ty) (L : List (View.Piece (Elt F) S64x256 .f32)) (hL : Keeps arg12.view f L) (R : Vec F S1x12800 .f32)
    (hX : arg14.view.read (Elt F) X_arg14 = R) {off' : Fin 2 → ℕ} (inb' : ∀ a, off' a + S64x256.size a ≤ S64x256.size a) :
    arg12.view.readAt (Elt F) (Rect.unit (s := S64x256) off' S64x256.size inb').toLoadRect (arg12.view.writes (Elt F) f
      (pb_k0_t14 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v15 v17 v25 v248 v273 v282 v283 X_arg14 k0_t14_loop.trips ++ L)) = pad (arg12.view.read (Elt F) f) R :=
  rows_pad arg12.view f k0_off24 k0_off24_inb _ _ L (pb_k0_t14.eq_1 ..) (fun k => (pb_k0_t14_succ ..).trans (by rw [Trips.trip14]; rfl)) k0_off24_eq (by decide +kernel) hL R (fun k j => by
    rw [View.readAt_unit arg14.view X_arg14 _ (k0_off23_eq k) (by rw [← k0_off23_eq k]; exact k0_off23_inb k), hX]
    exact row_window R k.val j (lt_of_lt_of_eq k.isLt (by decide +kernel)) _) inb'

theorem gat15 (v15 : FVec F S384x128 .bf16) (v17 : FVec F S384x128 .bf16) (v25 : IVec S64x256 32) (v248 : IVec S64x256 1) (v273 : FVec F S128x256 .f32) (v282 : FVec F S1x12800 .f32) (v283 : Vec F S1x12800 .f32) (v290 : Vec F S64x256 .f32) (x0 : Vec F S128x12800 .f32) (init : FVec F S128x256 .f32) (am : IVec S1x256 32) (hinit : init = k0_pay22)
    (hpay : ∀ (k : Fin k0_t15_loop.trips) (acc : FVec F S128x256 .f32) (u : Vec F S128x256 .f32), k0_pay79 v25 v248 v290 k acc (u) = k0_pay23 am 0#32 1#32 k acc u) :
    st_k0_t15 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v15 v17 v25 v248 v273 v282 v283 v290 (harg0.unread x0) init k0_t15_loop.trips = Model.gat x0 am :=
  Model.gather_all am x0 _ (fun k => View.readAt (Elt F) arg0.view (Rect.unit (s := S128x12800) (k0_off25 k) S128x256.size (k0_off25_inb k)).toLoadRect (harg0.unread x0))
    ((st_k0_t15_zero ..).trans hinit) (fun k => (st_k0_t15_succ ..).trans ((Trips.trip15 ..).trans (hpay ..))) (fun k i => by
    rw [View.readAt_unit arg0.view _ _ (k0_off25_eq k) (by rw [← k0_off25_eq k]; exact k0_off25_inb k), harg0.read_unread]
    exact gat_window x0 k.val i (lt_of_lt_of_eq k.isLt (by decide +kernel)) _)

theorem hid16 (v2 : FVec F S1x1 .bf16) (v5 : FVec F S1x1 .bf16) (v7 : FVec F S128x128 .bf16) (v11 : FVec F S512x128 .bf16) (v13 : FVec F S1x512 .bf16) (v25 : IVec S64x256 32) (v273 : FVec F S128x256 .f32) (v300 : IVec S1x256 32) (v307 : FVec F S1x256 .f32) (v310 : IVec S64x256 1) (v315 : FVec F S384x256 .f32) (v317 : FVec F S384x256 .f32) (v321 : FVec F S128x256 .f32) (X_arg11 : BufTy.Contents (Elt F) arg11.view.ty) (f : BufTy.Contents (Elt F) arg13.view.ty) (L : List (View.Piece (Elt F) S512x12800 .bf16)) (PT : Vec F S128x12800 .f32)
    (hX : arg11.view.read (Elt F) X_arg11 = PT) {off' : Fin 2 → ℕ} (inb' : ∀ a, off' a + S512x12800.size a ≤ S512x12800.size a) :
    arg13.view.readAt (Elt F) (Rect.unit (s := S512x12800) off' S512x12800.size inb').toLoadRect (arg13.view.writes (Elt F) f
      (pb_k0_t16 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v2 v5 v7 v11 v13 v25 v273 v300 v307 v310 v315 v317 v321 X_arg11 k0_t16_loop.trips ++ L)) = join fun k => k0_pay85 v2 v5 v7 v11 v273 v315 v317 v321 (Model.blk PT k) :=
  cols_join arg13.view f k0_off27 k0_off27_inb _ _ L (pb_k0_t16.eq_1 ..) (fun k => (pb_k0_t16_succ ..).trans (by rw [Trips.trip16]; rfl)) k0_off27_eq (by decide +kernel) _ (fun k => by
    rw [View.readAt_unit arg11.view X_arg11 _ (k0_off26_eq k) (by rw [← k0_off26_eq k]; exact k0_off26_inb k), hX, blk_window PT k.val (lt_of_lt_of_eq k.isLt (by decide +kernel))]) inb'

theorem keep17 (v2 : FVec F S1x1 .bf16) (v5 : FVec F S1x1 .bf16) (v7 : FVec F S128x128 .bf16) (v11 : FVec F S512x128 .bf16) (v13 : FVec F S1x512 .bf16) (v25 : IVec S64x256 32) (v273 : FVec F S128x256 .f32) (v300 : IVec S1x256 32) (v307 : FVec F S1x256 .f32) (v310 : IVec S64x256 1) (v315 : FVec F S384x256 .f32) (v317 : FVec F S384x256 .f32) (v321 : FVec F S128x256 .f32) (X_arg14 : BufTy.Contents (Elt F) arg14.view.ty) (f : BufTy.Contents (Elt F) arg12.view.ty) (L : List (View.Piece (Elt F) S64x256 .f32)) (hL : Keeps arg12.view f L) :
    Keeps arg12.view f (pb_k0_t17 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v2 v5 v7 v11 v13 v25 v273 v300 v307 v310 v315 v317 v321 X_arg14 k0_t17_loop.trips ++ L) :=
  rows_keeps arg12.view f k0_off29 k0_off29_inb _ _ L (pb_k0_t17.eq_1 ..) (fun k => (pb_k0_t17_succ ..).trans (by rw [Trips.trip17]; rfl)) k0_off29_eq (by decide +kernel) hL

theorem scat17 (v2 : FVec F S1x1 .bf16) (v5 : FVec F S1x1 .bf16) (v7 : FVec F S128x128 .bf16) (v11 : FVec F S512x128 .bf16) (v13 : FVec F S1x512 .bf16) (v25 : IVec S64x256 32) (v273 : FVec F S128x256 .f32) (v300 : IVec S1x256 32) (v307 : FVec F S1x256 .f32) (v310 : IVec S64x256 1) (v315 : FVec F S384x256 .f32) (v317 : FVec F S384x256 .f32) (v321 : FVec F S128x256 .f32) (X_arg14 : BufTy.Contents (Elt F) arg14.view.ty) (f : BufTy.Contents (Elt F) arg12.view.ty) (L : List (View.Piece (Elt F) S64x256 .f32)) (hL : Keeps arg12.view f L) (R : Vec F S1x12800 .f32)
    (hX : arg14.view.read (Elt F) X_arg14 = R) {off' : Fin 2 → ℕ} (inb' : ∀ a, off' a + S64x256.size a ≤ S64x256.size a) :
    arg12.view.readAt (Elt F) (Rect.unit (s := S64x256) off' S64x256.size inb').toLoadRect (arg12.view.writes (Elt F) f
      (pb_k0_t17 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v2 v5 v7 v11 v13 v25 v273 v300 v307 v310 v315 v317 v321 X_arg14 k0_t17_loop.trips ++ L)) = pad (arg12.view.read (Elt F) f) R :=
  rows_pad arg12.view f k0_off29 k0_off29_inb _ _ L (pb_k0_t17.eq_1 ..) (fun k => (pb_k0_t17_succ ..).trans (by rw [Trips.trip17]; rfl)) k0_off29_eq (by decide +kernel) hL R (fun k j => by
    rw [View.readAt_unit arg14.view X_arg14 _ (k0_off28_eq k) (by rw [← k0_off28_eq k]; exact k0_off28_inb k), hX]
    exact row_window R k.val j (lt_of_lt_of_eq k.isLt (by decide +kernel)) _) inb'

theorem gat18 (v15 : FVec F S384x128 .bf16) (v17 : FVec F S384x128 .bf16) (v25 : IVec S64x256 32) (v310 : IVec S64x256 1) (v335 : FVec F S128x256 .f32) (v351 : IVec S64x256 1) (v352 : Vec F S64x256 .f32) (v353 : FVec F S64x256 .f32) (x0 : Vec F S128x12800 .f32) (init : FVec F S128x256 .f32) (am : IVec S1x256 32) (hinit : init = k0_pay22)
    (hpay : ∀ (k : Fin k0_t18_loop.trips) (acc : FVec F S128x256 .f32) (u : Vec F S128x256 .f32), k0_pay96 v25 v351 v352 v353 k acc (u) = k0_pay23 am 0#32 1#32 k acc u) :
    st_k0_t18 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v15 v17 v25 v310 v335 v351 v352 v353 (harg0.unread x0) init k0_t18_loop.trips = Model.gat x0 am :=
  Model.gather_all am x0 _ (fun k => View.readAt (Elt F) arg0.view (Rect.unit (s := S128x12800) (k0_off30 k) S128x256.size (k0_off30_inb k)).toLoadRect (harg0.unread x0))
    ((st_k0_t18_zero ..).trans hinit) (fun k => (st_k0_t18_succ ..).trans ((Trips.trip18 ..).trans (hpay ..))) (fun k i => by
    rw [View.readAt_unit arg0.view _ _ (k0_off30_eq k) (by rw [← k0_off30_eq k]; exact k0_off30_inb k), harg0.read_unread]
    exact gat_window x0 k.val i (lt_of_lt_of_eq k.isLt (by decide +kernel)) _)

theorem hid19 (v2 : FVec F S1x1 .bf16) (v5 : FVec F S1x1 .bf16) (v7 : FVec F S128x128 .bf16) (v11 : FVec F S512x128 .bf16) (v13 : FVec F S1x512 .bf16) (v25 : IVec S64x256 32) (v369 : FVec F S1x256 .f32) (v372 : IVec S64x256 1) (v397 : FVec F S128x256 .f32) (v398 : FVec F S1x256 .f32) (X_arg11 : BufTy.Contents (Elt F) arg11.view.ty) (f : BufTy.Contents (Elt F) arg13.view.ty) (L : List (View.Piece (Elt F) S512x12800 .bf16)) (PT : Vec F S128x12800 .f32)
    (hX : arg11.view.read (Elt F) X_arg11 = PT) {off' : Fin 2 → ℕ} (inb' : ∀ a, off' a + S512x12800.size a ≤ S512x12800.size a) :
    arg13.view.readAt (Elt F) (Rect.unit (s := S512x12800) off' S512x12800.size inb').toLoadRect (arg13.view.writes (Elt F) f
      (pb_k0_t19 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v2 v5 v7 v11 v13 v25 v369 v372 v397 v398 X_arg11 k0_t19_loop.trips ++ L)) = join fun k => k0_pay99 v2 v5 v7 v11 v397 (Model.blk PT k) :=
  cols_join arg13.view f k0_off32 k0_off32_inb _ _ L (pb_k0_t19.eq_1 ..) (fun k => (pb_k0_t19_succ ..).trans (by rw [Trips.trip19]; rfl)) k0_off32_eq (by decide +kernel) _ (fun k => by
    rw [View.readAt_unit arg11.view X_arg11 _ (k0_off31_eq k) (by rw [← k0_off31_eq k]; exact k0_off31_inb k), hX, blk_window PT k.val (lt_of_lt_of_eq k.isLt (by decide +kernel))]) inb'

theorem keep20 (v2 : FVec F S1x1 .bf16) (v5 : FVec F S1x1 .bf16) (v7 : FVec F S128x128 .bf16) (v11 : FVec F S512x128 .bf16) (v13 : FVec F S1x512 .bf16) (v25 : IVec S64x256 32) (v369 : FVec F S1x256 .f32) (v372 : IVec S64x256 1) (v397 : FVec F S128x256 .f32) (v398 : FVec F S1x256 .f32) (X_arg14 : BufTy.Contents (Elt F) arg14.view.ty) (f : BufTy.Contents (Elt F) arg12.view.ty) (L : List (View.Piece (Elt F) S64x256 .f32)) (hL : Keeps arg12.view f L) :
    Keeps arg12.view f (pb_k0_t20 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v2 v5 v7 v11 v13 v25 v369 v372 v397 v398 X_arg14 k0_t20_loop.trips ++ L) :=
  rows_keeps arg12.view f k0_off34 k0_off34_inb _ _ L (pb_k0_t20.eq_1 ..) (fun k => (pb_k0_t20_succ ..).trans (by rw [Trips.trip20]; rfl)) k0_off34_eq (by decide +kernel) hL

theorem scat20 (v2 : FVec F S1x1 .bf16) (v5 : FVec F S1x1 .bf16) (v7 : FVec F S128x128 .bf16) (v11 : FVec F S512x128 .bf16) (v13 : FVec F S1x512 .bf16) (v25 : IVec S64x256 32) (v369 : FVec F S1x256 .f32) (v372 : IVec S64x256 1) (v397 : FVec F S128x256 .f32) (v398 : FVec F S1x256 .f32) (X_arg14 : BufTy.Contents (Elt F) arg14.view.ty) (f : BufTy.Contents (Elt F) arg12.view.ty) (L : List (View.Piece (Elt F) S64x256 .f32)) (hL : Keeps arg12.view f L) (R : Vec F S1x12800 .f32)
    (hX : arg14.view.read (Elt F) X_arg14 = R) {off' : Fin 2 → ℕ} (inb' : ∀ a, off' a + S64x256.size a ≤ S64x256.size a) :
    arg12.view.readAt (Elt F) (Rect.unit (s := S64x256) off' S64x256.size inb').toLoadRect (arg12.view.writes (Elt F) f
      (pb_k0_t20 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v2 v5 v7 v11 v13 v25 v369 v372 v397 v398 X_arg14 k0_t20_loop.trips ++ L)) = pad (arg12.view.read (Elt F) f) R :=
  rows_pad arg12.view f k0_off34 k0_off34_inb _ _ L (pb_k0_t20.eq_1 ..) (fun k => (pb_k0_t20_succ ..).trans (by rw [Trips.trip20]; rfl)) k0_off34_eq (by decide +kernel) hL R (fun k j => by
    rw [View.readAt_unit arg14.view X_arg14 _ (k0_off33_eq k) (by rw [← k0_off33_eq k]; exact k0_off33_inb k), hX]
    exact row_window R k.val j (lt_of_lt_of_eq k.isLt (by decide +kernel)) _) inb'

theorem gat21 (v2 : FVec F S1x1 .bf16) (v5 : FVec F S1x1 .bf16) (v7 : FVec F S128x128 .bf16) (v11 : FVec F S512x128 .bf16) (v15 : FVec F S384x128 .bf16) (v17 : FVec F S384x128 .bf16) (v25 : IVec S64x256 32) (v372 : IVec S64x256 1) (v397 : FVec F S128x256 .f32) (v424 : IVec S1x256 32) (v429 : FVec F S1x256 .f32) (x0 : Vec F S128x12800 .f32) (init : FVec F S128x256 .f32) (am : IVec S1x256 32) (hinit : init = k0_pay22)
    (hpay : ∀ (k : Fin k0_t21_loop.trips) (acc : FVec F S128x256 .f32) (u : Vec F S128x256 .f32), k0_pay109 v424 k acc (u) = k0_pay23 am 0#32 1#32 k acc u) :
    st_k0_t21 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v2 v5 v7 v11 v15 v17 v25 v372 v397 v424 v429 (harg0.unread x0) init k0_t21_loop.trips = Model.gat x0 am :=
  Model.gather_all am x0 _ (fun k => View.readAt (Elt F) arg0.view (Rect.unit (s := S128x12800) (k0_off35 k) S128x256.size (k0_off35_inb k)).toLoadRect (harg0.unread x0))
    ((st_k0_t21_zero ..).trans hinit) (fun k => (st_k0_t21_succ ..).trans ((Trips.trip21 ..).trans (hpay ..))) (fun k i => by
    rw [View.readAt_unit arg0.view _ _ (k0_off35_eq k) (by rw [← k0_off35_eq k]; exact k0_off35_inb k), harg0.read_unread]
    exact gat_window x0 k.val i (lt_of_lt_of_eq k.isLt (by decide +kernel)) _)

theorem hid22 (v2 : FVec F S1x1 .bf16) (v5 : FVec F S1x1 .bf16) (v7 : FVec F S128x128 .bf16) (v11 : FVec F S512x128 .bf16) (v15 : FVec F S384x128 .bf16) (v17 : FVec F S384x128 .bf16) (v25 : IVec S64x256 32) (v372 : IVec S64x256 1) (v397 : FVec F S128x256 .f32) (v424 : IVec S1x256 32) (v429 : FVec F S1x256 .f32) (v437 : FVec F S128x256 .f32) (X_arg11 : BufTy.Contents (Elt F) arg11.view.ty) (f : BufTy.Contents (Elt F) arg13.view.ty) (L : List (View.Piece (Elt F) S512x12800 .bf16)) (PT : Vec F S128x12800 .f32)
    (hX : arg11.view.read (Elt F) X_arg11 = PT) {off' : Fin 2 → ℕ} (inb' : ∀ a, off' a + S512x12800.size a ≤ S512x12800.size a) :
    arg13.view.readAt (Elt F) (Rect.unit (s := S512x12800) off' S512x12800.size inb').toLoadRect (arg13.view.writes (Elt F) f
      (pb_k0_t22 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v2 v5 v7 v11 v15 v17 v25 v372 v397 v424 v429 v437 X_arg11 k0_t22_loop.trips ++ L)) = join fun k => k0_pay112 v2 v5 v7 v11 v15 v17 v397 v437 (Model.blk PT k) :=
  cols_join arg13.view f k0_off37 k0_off37_inb _ _ L (pb_k0_t22.eq_1 ..) (fun k => (pb_k0_t22_succ ..).trans (by rw [Trips.trip22]; rfl)) k0_off37_eq (by decide +kernel) _ (fun k => by
    rw [View.readAt_unit arg11.view X_arg11 _ (k0_off36_eq k) (by rw [← k0_off36_eq k]; exact k0_off36_inb k), hX, blk_window PT k.val (lt_of_lt_of_eq k.isLt (by decide +kernel))]) inb'

theorem keep23 (v13 : FVec F S1x512 .bf16) (v15 : FVec F S384x128 .bf16) (v25 : IVec S64x256 32) (v434 : IVec S64x256 1) (v459 : FVec F S128x256 .f32) (X_arg14 : BufTy.Contents (Elt F) arg14.view.ty) (f : BufTy.Contents (Elt F) arg12.view.ty) (L : List (View.Piece (Elt F) S64x256 .f32)) (hL : Keeps arg12.view f L) :
    Keeps arg12.view f (pb_k0_t23 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v13 v15 v25 v434 v459 X_arg14 k0_t23_loop.trips ++ L) :=
  rows_keeps arg12.view f k0_off39 k0_off39_inb _ _ L (pb_k0_t23.eq_1 ..) (fun k => (pb_k0_t23_succ ..).trans (by rw [Trips.trip23]; rfl)) k0_off39_eq (by decide +kernel) hL

theorem scat23 (v13 : FVec F S1x512 .bf16) (v15 : FVec F S384x128 .bf16) (v25 : IVec S64x256 32) (v434 : IVec S64x256 1) (v459 : FVec F S128x256 .f32) (X_arg14 : BufTy.Contents (Elt F) arg14.view.ty) (f : BufTy.Contents (Elt F) arg12.view.ty) (L : List (View.Piece (Elt F) S64x256 .f32)) (hL : Keeps arg12.view f L) (R : Vec F S1x12800 .f32)
    (hX : arg14.view.read (Elt F) X_arg14 = R) {off' : Fin 2 → ℕ} (inb' : ∀ a, off' a + S64x256.size a ≤ S64x256.size a) :
    arg12.view.readAt (Elt F) (Rect.unit (s := S64x256) off' S64x256.size inb').toLoadRect (arg12.view.writes (Elt F) f
      (pb_k0_t23 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v13 v15 v25 v434 v459 X_arg14 k0_t23_loop.trips ++ L)) = pad (arg12.view.read (Elt F) f) R :=
  rows_pad arg12.view f k0_off39 k0_off39_inb _ _ L (pb_k0_t23.eq_1 ..) (fun k => (pb_k0_t23_succ ..).trans (by rw [Trips.trip23]; rfl)) k0_off39_eq (by decide +kernel) hL R (fun k j => by
    rw [View.readAt_unit arg14.view X_arg14 _ (k0_off38_eq k) (by rw [← k0_off38_eq k]; exact k0_off38_inb k), hX]
    exact row_window R k.val j (lt_of_lt_of_eq k.isLt (by decide +kernel)) _) inb'

theorem gat24 (v13 : FVec F S1x512 .bf16) (v15 : FVec F S384x128 .bf16) (v25 : IVec S64x256 32) (v434 : IVec S64x256 1) (v459 : FVec F S128x256 .f32) (v476 : Vec F S64x256 .f32) (x0 : Vec F S128x12800 .f32) (init : FVec F S128x256 .f32) (am : IVec S1x256 32) (hinit : init = k0_pay22)
    (hpay : ∀ (k : Fin k0_t24_loop.trips) (acc : FVec F S128x256 .f32) (u : Vec F S128x256 .f32), k0_pay121 v25 v434 v476 k acc (u) = k0_pay23 am 0#32 1#32 k acc u) :
    st_k0_t24 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v13 v15 v25 v434 v459 v476 (harg0.unread x0) init k0_t24_loop.trips = Model.gat x0 am :=
  Model.gather_all am x0 _ (fun k => View.readAt (Elt F) arg0.view (Rect.unit (s := S128x12800) (k0_off40 k) S128x256.size (k0_off40_inb k)).toLoadRect (harg0.unread x0))
    ((st_k0_t24_zero ..).trans hinit) (fun k => (st_k0_t24_succ ..).trans ((Trips.trip24 ..).trans (hpay ..))) (fun k i => by
    rw [View.readAt_unit arg0.view _ _ (k0_off40_eq k) (by rw [← k0_off40_eq k]; exact k0_off40_inb k), harg0.read_unread]
    exact gat_window x0 k.val i (lt_of_lt_of_eq k.isLt (by decide +kernel)) _)

theorem hid25 (v2 : FVec F S1x1 .bf16) (v5 : FVec F S1x1 .bf16) (v7 : FVec F S128x128 .bf16) (v11 : FVec F S512x128 .bf16) (v13 : FVec F S1x512 .bf16) (v17 : FVec F S384x128 .bf16) (v25 : IVec S64x256 32) (v459 : FVec F S128x256 .f32) (v486 : IVec S1x256 32) (v493 : FVec F S1x256 .f32) (v501 : FVec F S384x256 .f32) (v502 : FVec F S128x256 .bf16) (X_arg11 : BufTy.Contents (Elt F) arg11.view.ty) (f : BufTy.Contents (Elt F) arg13.view.ty) (L : List (View.Piece (Elt F) S512x12800 .bf16)) (PT : Vec F S128x12800 .f32)
    (hX : arg11.view.read (Elt F) X_arg11 = PT) {off' : Fin 2 → ℕ} (inb' : ∀ a, off' a + S512x12800.size a ≤ S512x12800.size a) :
    arg13.view.readAt (Elt F) (Rect.unit (s := S512x12800) off' S512x12800.size inb').toLoadRect (arg13.view.writes (Elt F) f
      (pb_k0_t25 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v2 v5 v7 v11 v13 v17 v25 v459 v486 v493 v501 v502 X_arg11 k0_t25_loop.trips ++ L)) = join fun k => k0_pay126 v2 v5 v7 v11 v17 v459 v501 v502 (Model.blk PT k) :=
  cols_join arg13.view f k0_off42 k0_off42_inb _ _ L (pb_k0_t25.eq_1 ..) (fun k => (pb_k0_t25_succ ..).trans (by rw [Trips.trip25]; rfl)) k0_off42_eq (by decide +kernel) _ (fun k => by
    rw [View.readAt_unit arg11.view X_arg11 _ (k0_off41_eq k) (by rw [← k0_off41_eq k]; exact k0_off41_inb k), hX, blk_window PT k.val (lt_of_lt_of_eq k.isLt (by decide +kernel))]) inb'

theorem keep26 (v2 : FVec F S1x1 .bf16) (v5 : FVec F S1x1 .bf16) (v7 : FVec F S128x128 .bf16) (v11 : FVec F S512x128 .bf16) (v13 : FVec F S1x512 .bf16) (v17 : FVec F S384x128 .bf16) (v25 : IVec S64x256 32) (v459 : FVec F S128x256 .f32) (v486 : IVec S1x256 32) (v493 : FVec F S1x256 .f32) (v501 : FVec F S384x256 .f32) (v502 : FVec F S128x256 .bf16) (X_arg14 : BufTy.Contents (Elt F) arg14.view.ty) (f : BufTy.Contents (Elt F) arg12.view.ty) (L : List (View.Piece (Elt F) S64x256 .f32)) (hL : Keeps arg12.view f L) :
    Keeps arg12.view f (pb_k0_t26 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v2 v5 v7 v11 v13 v17 v25 v459 v486 v493 v501 v502 X_arg14 k0_t26_loop.trips ++ L) :=
  rows_keeps arg12.view f k0_off44 k0_off44_inb _ _ L (pb_k0_t26.eq_1 ..) (fun k => (pb_k0_t26_succ ..).trans (by rw [Trips.trip26]; rfl)) k0_off44_eq (by decide +kernel) hL

theorem scat26 (v2 : FVec F S1x1 .bf16) (v5 : FVec F S1x1 .bf16) (v7 : FVec F S128x128 .bf16) (v11 : FVec F S512x128 .bf16) (v13 : FVec F S1x512 .bf16) (v17 : FVec F S384x128 .bf16) (v25 : IVec S64x256 32) (v459 : FVec F S128x256 .f32) (v486 : IVec S1x256 32) (v493 : FVec F S1x256 .f32) (v501 : FVec F S384x256 .f32) (v502 : FVec F S128x256 .bf16) (X_arg14 : BufTy.Contents (Elt F) arg14.view.ty) (f : BufTy.Contents (Elt F) arg12.view.ty) (L : List (View.Piece (Elt F) S64x256 .f32)) (hL : Keeps arg12.view f L) (R : Vec F S1x12800 .f32)
    (hX : arg14.view.read (Elt F) X_arg14 = R) {off' : Fin 2 → ℕ} (inb' : ∀ a, off' a + S64x256.size a ≤ S64x256.size a) :
    arg12.view.readAt (Elt F) (Rect.unit (s := S64x256) off' S64x256.size inb').toLoadRect (arg12.view.writes (Elt F) f
      (pb_k0_t26 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v2 v5 v7 v11 v13 v17 v25 v459 v486 v493 v501 v502 X_arg14 k0_t26_loop.trips ++ L)) = pad (arg12.view.read (Elt F) f) R :=
  rows_pad arg12.view f k0_off44 k0_off44_inb _ _ L (pb_k0_t26.eq_1 ..) (fun k => (pb_k0_t26_succ ..).trans (by rw [Trips.trip26]; rfl)) k0_off44_eq (by decide +kernel) hL R (fun k j => by
    rw [View.readAt_unit arg14.view X_arg14 _ (k0_off43_eq k) (by rw [← k0_off43_eq k]; exact k0_off43_inb k), hX]
    exact row_window R k.val j (lt_of_lt_of_eq k.isLt (by decide +kernel)) _) inb'

theorem gat27 (v15 : FVec F S384x128 .bf16) (v17 : FVec F S384x128 .bf16) (v25 : IVec S64x256 32) (v496 : IVec S64x256 1) (v521 : FVec F S128x256 .f32) (v536 : IVec S64x256 1) (v538 : Vec F S64x256 .f32) (x0 : Vec F S128x12800 .f32) (init : FVec F S128x256 .f32) (am : IVec S1x256 32) (hinit : init = k0_pay22)
    (hpay : ∀ (k : Fin k0_t27_loop.trips) (acc : FVec F S128x256 .f32) (u : Vec F S128x256 .f32), k0_pay136 v25 v496 v536 v538 k acc (u) = k0_pay23 am 0#32 1#32 k acc u) :
    st_k0_t27 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v15 v17 v25 v496 v521 v536 v538 (harg0.unread x0) init k0_t27_loop.trips = Model.gat x0 am :=
  Model.gather_all am x0 _ (fun k => View.readAt (Elt F) arg0.view (Rect.unit (s := S128x12800) (k0_off45 k) S128x256.size (k0_off45_inb k)).toLoadRect (harg0.unread x0))
    ((st_k0_t27_zero ..).trans hinit) (fun k => (st_k0_t27_succ ..).trans ((Trips.trip27 ..).trans (hpay ..))) (fun k i => by
    rw [View.readAt_unit arg0.view _ _ (k0_off45_eq k) (by rw [← k0_off45_eq k]; exact k0_off45_inb k), harg0.read_unread]
    exact gat_window x0 k.val i (lt_of_lt_of_eq k.isLt (by decide +kernel)) _)

theorem hid28 (v2 : FVec F S1x1 .bf16) (v5 : FVec F S1x1 .bf16) (v7 : FVec F S128x128 .bf16) (v11 : FVec F S512x128 .bf16) (v13 : FVec F S1x512 .bf16) (v25 : IVec S64x256 32) (v521 : FVec F S128x256 .f32) (v548 : IVec S1x256 32) (v555 : FVec F S1x256 .f32) (v558 : IVec S64x256 1) (v573 : FVec F S128x256 .f32) (v578 : FVec F S128x256 .f32) (v580 : FVec F S128x256 .f32) (X_arg11 : BufTy.Contents (Elt F) arg11.view.ty) (f : BufTy.Contents (Elt F) arg13.view.ty) (L : List (View.Piece (Elt F) S512x12800 .bf16)) (PT : Vec F S128x12800 .f32)
    (hX : arg11.view.read (Elt F) X_arg11 = PT) {off' : Fin 2 → ℕ} (inb' : ∀ a, off' a + S512x12800.size a ≤ S512x12800.size a) :
    arg13.view.readAt (Elt F) (Rect.unit (s := S512x12800) off' S512x12800.size inb').toLoadRect (arg13.view.writes (Elt F) f
      (pb_k0_t28 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v2 v5 v7 v11 v13 v25 v521 v548 v555 v558 v573 v578 v580 X_arg11 k0_t28_loop.trips ++ L)) = join fun k => k0_pay143 v2 v5 v7 v11 v521 v573 v578 v580 (Model.blk PT k) :=
  cols_join arg13.view f k0_off47 k0_off47_inb _ _ L (pb_k0_t28.eq_1 ..) (fun k => (pb_k0_t28_succ ..).trans (by rw [Trips.trip28]; rfl)) k0_off47_eq (by decide +kernel) _ (fun k => by
    rw [View.readAt_unit arg11.view X_arg11 _ (k0_off46_eq k) (by rw [← k0_off46_eq k]; exact k0_off46_inb k), hX, blk_window PT k.val (lt_of_lt_of_eq k.isLt (by decide +kernel))]) inb'

theorem keep29 (v2 : FVec F S1x1 .bf16) (v5 : FVec F S1x1 .bf16) (v7 : FVec F S128x128 .bf16) (v11 : FVec F S512x128 .bf16) (v13 : FVec F S1x512 .bf16) (v25 : IVec S64x256 32) (v521 : FVec F S128x256 .f32) (v548 : IVec S1x256 32) (v555 : FVec F S1x256 .f32) (v558 : IVec S64x256 1) (v573 : FVec F S128x256 .f32) (v578 : FVec F S128x256 .f32) (v580 : FVec F S128x256 .f32) (X_arg14 : BufTy.Contents (Elt F) arg14.view.ty) (f : BufTy.Contents (Elt F) arg12.view.ty) (L : List (View.Piece (Elt F) S64x256 .f32)) (hL : Keeps arg12.view f L) :
    Keeps arg12.view f (pb_k0_t29 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v2 v5 v7 v11 v13 v25 v521 v548 v555 v558 v573 v578 v580 X_arg14 k0_t29_loop.trips ++ L) :=
  rows_keeps arg12.view f k0_off49 k0_off49_inb _ _ L (pb_k0_t29.eq_1 ..) (fun k => (pb_k0_t29_succ ..).trans (by rw [Trips.trip29]; rfl)) k0_off49_eq (by decide +kernel) hL

theorem scat29 (v2 : FVec F S1x1 .bf16) (v5 : FVec F S1x1 .bf16) (v7 : FVec F S128x128 .bf16) (v11 : FVec F S512x128 .bf16) (v13 : FVec F S1x512 .bf16) (v25 : IVec S64x256 32) (v521 : FVec F S128x256 .f32) (v548 : IVec S1x256 32) (v555 : FVec F S1x256 .f32) (v558 : IVec S64x256 1) (v573 : FVec F S128x256 .f32) (v578 : FVec F S128x256 .f32) (v580 : FVec F S128x256 .f32) (X_arg14 : BufTy.Contents (Elt F) arg14.view.ty) (f : BufTy.Contents (Elt F) arg12.view.ty) (L : List (View.Piece (Elt F) S64x256 .f32)) (hL : Keeps arg12.view f L) (R : Vec F S1x12800 .f32)
    (hX : arg14.view.read (Elt F) X_arg14 = R) {off' : Fin 2 → ℕ} (inb' : ∀ a, off' a + S64x256.size a ≤ S64x256.size a) :
    arg12.view.readAt (Elt F) (Rect.unit (s := S64x256) off' S64x256.size inb').toLoadRect (arg12.view.writes (Elt F) f
      (pb_k0_t29 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v2 v5 v7 v11 v13 v25 v521 v548 v555 v558 v573 v578 v580 X_arg14 k0_t29_loop.trips ++ L)) = pad (arg12.view.read (Elt F) f) R :=
  rows_pad arg12.view f k0_off49 k0_off49_inb _ _ L (pb_k0_t29.eq_1 ..) (fun k => (pb_k0_t29_succ ..).trans (by rw [Trips.trip29]; rfl)) k0_off49_eq (by decide +kernel) hL R (fun k j => by
    rw [View.readAt_unit arg14.view X_arg14 _ (k0_off48_eq k) (by rw [← k0_off48_eq k]; exact k0_off48_inb k), hX]
    exact row_window R k.val j (lt_of_lt_of_eq k.isLt (by decide +kernel)) _) inb'

end Cert.KernelIdeal.LoopValues
-- ==== Proof.KernelIdealRun.lean ====
/- The kernel's body, with what it leaves in its two outputs found by the run. -/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Claim

@[expose] public section

-- membership in a rectangle of production extents recurses once per coordinate of the long axes
set_option maxRecDepth 16384

noncomputable section

namespace Cert.KernelIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 4000000 in
/-- The body runs, leaving in each output the pieces found here. -/
def bodyRun (c : Dev nD) (arg0 : Memref sig .tc .vmem S128x12800 .f32) (harg0 : arg0.IsWhole) (arg1 : Memref sig .tc .vmem S128x256 .f32) (harg1 : arg1.IsWhole) (arg2 : Memref sig .tc .vmem S128x256 .f32) (harg2 : arg2.IsWhole) (arg3 : Memref sig .tc .vmem S512x128 .f32) (harg3 : arg3.IsWhole) (arg4 : Memref sig .tc .vmem S1x512 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S384x128 .f32) (harg7 : arg7.IsWhole) (arg8 : Memref sig .tc .vmem S384x128 .f32) (harg8 : arg8.IsWhole) (arg9 : Memref sig .tc .vmem S10x256 .f32) (harg9 : arg9.IsWhole) (arg10 : Memref sig .tc .vmem S10x256 .f32) (harg10 : arg10.IsWhole) (arg11 : Memref sig .tc .vmem S128x12800 .f32) (harg11 : arg11.IsWhole) (arg12 : Memref sig .tc .vmem S64x256 .f32) (harg12 : arg12.IsWhole) (arg13 : Memref sig .tc .vmem S512x12800 .bf16) (harg13 : arg13.IsWhole) (arg14 : Memref sig .tc .vmem S1x12800 .f32) (harg14 : arg14.IsWhole)
    (x0 : Vec F S128x12800 .f32) (x1 : Vec F S128x256 .f32) (x2 : Vec F S128x256 .f32) (x3 : Vec F S512x128 .f32) (x4 : Vec F S1x512 .f32) (x5 : Vec F S1x1 .f32) (x6 : Vec F S1x1 .f32) (x7 : Vec F S384x128 .f32) (x8 : Vec F S384x128 .f32)  (fs1 : BufTy.Contents (Elt F) arg12.view.ty) (fs2 : BufTy.Contents (Elt F) arg13.view.ty) :
    { L : List (View.Piece (Elt F) S10x256 .f32) × List (View.Piece (Elt F) S10x256 .f32) //
      ∀ (f9 : BufTy.Contents (Elt F) arg9.view.ty) (f10 : BufTy.Contents (Elt F) arg10.view.ty) (fs0 : BufTy.Contents (Elt F) arg11.view.ty) (fs3 : BufTy.Contents (Elt F) arg14.view.ty) (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} fs0) ∗ (arg12.view.loc (c : Thread nD τ) ↦[arg12.view.set]{fullShare} fs1) ∗ (arg13.view.loc (c : Thread nD τ) ↦[arg13.view.set]{fullShare} fs2) ∗ (arg14.view.loc (c : Thread nD τ) ↦[arg14.view.set]{fullShare} fs3)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (arg9.view.loc (c : Thread nD τ) ↦[arg9.view.set]{fullShare} (arg9.view.writes (Elt F) f9 L.1)) ∗ (arg10.view.loc (c : Thread nD τ) ↦[arg10.view.set]{fullShare} (arg10.view.writes (Elt F) f10 L.2)) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0__mega_kernel arg0 harg0 arg1 harg1 arg2 harg2 arg3 harg3 arg4 harg4 arg5 harg5 arg6 harg6 arg7 harg7 arg8 harg8 arg9 harg9 arg10 harg10 arg11 harg11 arg12 harg12 arg13 harg13 arg14 harg14) K } := by
  refine ⟨(?_, ?_), fun f9 f10 fs0 fs3 E K => ?run⟩
  case run =>
    simp only [cc0__mega_kernel_eq_skeleton]; unfold cc0__mega_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%g0, %hg0, H0⟩, ⟨%g1, %hg1, H1⟩, ⟨%g2, %hg2, H2⟩, ⟨%g3, %hg3, H3⟩, ⟨%g4, %hg4, H4⟩, ⟨%g5, %hg5, H5⟩, ⟨%g6, %hg6, H6⟩, ⟨%g7, %hg7, H7⟩, ⟨%g8, %hg8, H8⟩, H9, H10, HS0, HS1, HS2, HS3, Hk⟩
    obtain rfl := harg0.eq_unread hg0; obtain rfl := harg1.eq_unread hg1; obtain rfl := harg2.eq_unread hg2; obtain rfl := harg3.eq_unread hg3; obtain rfl := harg4.eq_unread hg4; obtain rfl := harg5.eq_unread hg5; obtain rfl := harg6.eq_unread hg6; obtain rfl := harg7.eq_unread hg7; obtain rfl := harg8.eq_unread hg8
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexact H9
    isplitl [H10]; · iexact H10
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Launch

end
-- ==== Proof.Chain.lean ====
/- What the body leaves in its outputs, step by step. -/
module

public import proofs.«01_k».proof.Proof.LoopValues
public import proofs.«01_k».proof.Proof.KernelIdealRun

@[expose] public section

set_option maxRecDepth 16384

noncomputable section

namespace Cert.KernelIdeal.Chain

open Idealize.ShloMosaic Idealize.ShloMosaic.TcCoe
open Cert.KernelIdeal.Gen Cert.KernelIdeal.Blocks Cert.KernelIdeal.Model Cert.KernelIdeal.Launch Cert.KernelIdeal.LoopValues

variable {F : FTy → Type} [FloatOps F] [Named F]

section First

variable (𝒱 : Variants) (c : Dev nD) (bd : Option 𝒱.V) (arg0 : Memref sig .tc .vmem S128x12800 .f32) (harg0 : arg0.IsWhole) (arg1 : Memref sig .tc .vmem S128x256 .f32) (harg1 : arg1.IsWhole) (arg2 : Memref sig .tc .vmem S128x256 .f32) (harg2 : arg2.IsWhole) (arg3 : Memref sig .tc .vmem S512x128 .f32) (harg3 : arg3.IsWhole) (arg4 : Memref sig .tc .vmem S1x512 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S384x128 .f32) (harg7 : arg7.IsWhole) (arg8 : Memref sig .tc .vmem S384x128 .f32) (harg8 : arg8.IsWhole) (arg9 : Memref sig .tc .vmem S10x256 .f32) (harg9 : arg9.IsWhole) (arg10 : Memref sig .tc .vmem S10x256 .f32) (harg10 : arg10.IsWhole) (arg11 : Memref sig .tc .vmem S128x12800 .f32) (harg11 : arg11.IsWhole) (arg12 : Memref sig .tc .vmem S64x256 .f32) (harg12 : arg12.IsWhole) (arg13 : Memref sig .tc .vmem S512x12800 .bf16) (harg13 : arg13.IsWhole) (arg14 : Memref sig .tc .vmem S1x12800 .f32) (harg14 : arg14.IsWhole)

theorem hid1' (v2 : FVec F S1x1 .bf16) (v5 : FVec F S1x1 .bf16) (v11 : FVec F S512x128 .bf16) (v13 : FVec F S1x512 .bf16) (v25 : IVec S64x256 32) (v28 : IVec S64x256 1) (v31 : FVec F S128x6400 .f32) (c0_i32 : BitVec 32) (c2_i32 : BitVec 32) (X_arg11 : BufTy.Contents (Elt F) arg11.view.ty) (f : BufTy.Contents (Elt F) arg13.view.ty) (PT : Vec F S128x12800 .f32)
    (hX : arg11.view.read (Elt F) X_arg11 = PT) {off' : Fin 2 → ℕ} (inb' : ∀ a, off' a + S512x12800.size a ≤ S512x12800.size a) :
    arg13.view.readAt (Elt F) (Rect.unit (s := S512x12800) off' S512x12800.size inb').toLoadRect (arg13.view.writes (Elt F) f (pb_k0_t1 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v2 v5 v11 v13 v25 v28 v31 c0_i32 c2_i32 X_arg11 k0_t1_loop.trips)) = join fun k => k0_pay14 v2 v5 v11 v31 (Model.blk PT k) := by
  have h := hid1 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v2 v5 v11 v13 v25 v28 v31 c0_i32 c2_i32 X_arg11 f [] PT hX inb'
  rwa [List.append_nil] at h

theorem keep2' (v2 : FVec F S1x1 .bf16) (v5 : FVec F S1x1 .bf16) (v11 : FVec F S512x128 .bf16) (v13 : FVec F S1x512 .bf16) (v25 : IVec S64x256 32) (v28 : IVec S64x256 1) (v31 : FVec F S128x6400 .f32) (c0_i32 : BitVec 32) (c2_i32 : BitVec 32) (X_arg14 : BufTy.Contents (Elt F) arg14.view.ty) (f : BufTy.Contents (Elt F) arg12.view.ty) : Keeps arg12.view f (pb_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v2 v5 v11 v13 v25 v28 v31 c0_i32 c2_i32 X_arg14 k0_t2_loop.trips) := by
  have h := keep2 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v2 v5 v11 v13 v25 v28 v31 c0_i32 c2_i32 X_arg14 f [] (keeps_nil _ _)
  rwa [List.append_nil] at h

theorem scat2' (v2 : FVec F S1x1 .bf16) (v5 : FVec F S1x1 .bf16) (v11 : FVec F S512x128 .bf16) (v13 : FVec F S1x512 .bf16) (v25 : IVec S64x256 32) (v28 : IVec S64x256 1) (v31 : FVec F S128x6400 .f32) (c0_i32 : BitVec 32) (c2_i32 : BitVec 32) (X_arg14 : BufTy.Contents (Elt F) arg14.view.ty) (f : BufTy.Contents (Elt F) arg12.view.ty) (R : Vec F S1x12800 .f32)
    (hX : arg14.view.read (Elt F) X_arg14 = R) {off' : Fin 2 → ℕ} (inb' : ∀ a, off' a + S64x256.size a ≤ S64x256.size a) :
    arg12.view.readAt (Elt F) (Rect.unit (s := S64x256) off' S64x256.size inb').toLoadRect (arg12.view.writes (Elt F) f (pb_k0_t2 (F := F) 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v2 v5 v11 v13 v25 v28 v31 c0_i32 c2_i32 X_arg14 k0_t2_loop.trips)) = pad (arg12.view.read (Elt F) f) R := by
  have h := scat2 𝒱 c bd arg0 harg0 arg1 harg1 arg2 harg2 arg3 harg3 arg4 harg4 arg5 harg5 arg6 harg6 arg7 harg7 arg8 harg8 arg9 harg9 arg10 harg10 arg11 harg11 arg12 harg12 arg13 harg13 arg14 harg14 v2 v5 v11 v13 v25 v28 v31 c0_i32 c2_i32 X_arg14 f [] (keeps_nil _ _) R hX inb'
  rwa [List.append_nil] at h

end First

/-- The rows of the first output as they are stored, the last first. -/
def idsP (w : Wt F) (z : Vec F S64x256 .f32) (s0 : St F) : List (View.Piece (Elt F) S10x256 .f32) :=
  [⟨Rect.unit (s := S10x256) ![9, 0] S1x256.size inb_S10x256_S1x256_9_0, k0_pay25 (am w z (st w z s0 9))⟩, ⟨Rect.unit (s := S10x256) ![8, 0] S1x256.size inb_S10x256_S1x256_8_0, k0_pay25 (am w z (st w z s0 8))⟩, ⟨Rect.unit (s := S10x256) ![7, 0] S1x256.size inb_S10x256_S1x256_7_0, k0_pay25 (am w z (st w z s0 7))⟩, ⟨Rect.unit (s := S10x256) ![6, 0] S1x256.size inb_S10x256_S1x256_6_0, k0_pay25 (am w z (st w z s0 6))⟩, ⟨Rect.unit (s := S10x256) ![5, 0] S1x256.size inb_S10x256_S1x256_5_0, k0_pay25 (am w z (st w z s0 5))⟩, ⟨Rect.unit (s := S10x256) ![4, 0] S1x256.size inb_S10x256_S1x256_4_0, k0_pay25 (am w z (st w z s0 4))⟩, ⟨Rect.unit (s := S10x256) ![3, 0] S1x256.size inb_S10x256_S1x256_3_0, k0_pay25 (am w z (st w z s0 3))⟩, ⟨Rect.unit (s := S10x256) ![2, 0] S1x256.size inb_S10x256_S1x256_2_0, k0_pay25 (am w z (st w z s0 2))⟩, ⟨Rect.unit (s := S10x256) ![1, 0] S1x256.size inb_S10x256_S1x256_1_0, k0_pay25 (am w z (st w z s0 1))⟩, ⟨Rect.unit (s := S10x256) ![0, 0] S1x256.size inb_S10x256_S1x256_0_0, k0_pay25 (am w z (st w z s0 0))⟩]

/-- The rows of the second output as they are stored, the last first. -/
def pisP (w : Wt F) (z : Vec F S64x256 .f32) (s0 : St F) : List (View.Piece (Elt F) S10x256 .f32) :=
  [⟨Rect.unit (s := S10x256) ![9, 0] S1x256.size inb_S10x256_S1x256_9_0, pi w z (st w z s0 9)⟩, ⟨Rect.unit (s := S10x256) ![8, 0] S1x256.size inb_S10x256_S1x256_8_0, pi w z (st w z s0 8)⟩, ⟨Rect.unit (s := S10x256) ![7, 0] S1x256.size inb_S10x256_S1x256_7_0, pi w z (st w z s0 7)⟩, ⟨Rect.unit (s := S10x256) ![6, 0] S1x256.size inb_S10x256_S1x256_6_0, pi w z (st w z s0 6)⟩, ⟨Rect.unit (s := S10x256) ![5, 0] S1x256.size inb_S10x256_S1x256_5_0, pi w z (st w z s0 5)⟩, ⟨Rect.unit (s := S10x256) ![4, 0] S1x256.size inb_S10x256_S1x256_4_0, pi w z (st w z s0 4)⟩, ⟨Rect.unit (s := S10x256) ![3, 0] S1x256.size inb_S10x256_S1x256_3_0, pi w z (st w z s0 3)⟩, ⟨Rect.unit (s := S10x256) ![2, 0] S1x256.size inb_S10x256_S1x256_2_0, pi w z (st w z s0 2)⟩, ⟨Rect.unit (s := S10x256) ![1, 0] S1x256.size inb_S10x256_S1x256_1_0, pi w z (st w z s0 1)⟩, ⟨Rect.unit (s := S10x256) ![0, 0] S1x256.size inb_S10x256_S1x256_0_0, pi w z (st w z s0 0)⟩]

set_option maxHeartbeats 4000000 in
/-- The pieces the run found are the model's rows. -/
theorem run_pieces (c : Dev nD) (arg0 : Memref sig .tc .vmem S128x12800 .f32) (harg0 : arg0.IsWhole) (arg1 : Memref sig .tc .vmem S128x256 .f32) (harg1 : arg1.IsWhole) (arg2 : Memref sig .tc .vmem S128x256 .f32) (harg2 : arg2.IsWhole) (arg3 : Memref sig .tc .vmem S512x128 .f32) (harg3 : arg3.IsWhole) (arg4 : Memref sig .tc .vmem S1x512 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S384x128 .f32) (harg7 : arg7.IsWhole) (arg8 : Memref sig .tc .vmem S384x128 .f32) (harg8 : arg8.IsWhole) (arg9 : Memref sig .tc .vmem S10x256 .f32) (harg9 : arg9.IsWhole) (arg10 : Memref sig .tc .vmem S10x256 .f32) (harg10 : arg10.IsWhole) (arg11 : Memref sig .tc .vmem S128x12800 .f32) (harg11 : arg11.IsWhole) (arg12 : Memref sig .tc .vmem S64x256 .f32) (harg12 : arg12.IsWhole) (arg13 : Memref sig .tc .vmem S512x12800 .bf16) (harg13 : arg13.IsWhole) (arg14 : Memref sig .tc .vmem S1x12800 .f32) (harg14 : arg14.IsWhole) (x0 : Vec F S128x12800 .f32) (x1 : Vec F S128x256 .f32) (x2 : Vec F S128x256 .f32) (x3 : Vec F S512x128 .f32) (x4 : Vec F S1x512 .f32) (x5 : Vec F S1x1 .f32) (x6 : Vec F S1x1 .f32) (x7 : Vec F S384x128 .f32) (x8 : Vec F S384x128 .f32) (fs1 : BufTy.Contents (Elt F) arg12.view.ty) (fs2 : BufTy.Contents (Elt F) arg13.view.ty) (w : Wt F) (z : Vec F S64x256 .f32) (s0 : St F)
    (h2 : bodyRun.sl.r c arg5 harg5 x5 = w.v2) (h5 : bodyRun.sl.r_1 c arg6 harg6 x6 = w.v5) (h7 : bodyRun.sl.r_2 c arg2 harg2 x2 = w.v7) (h11 : bodyRun.sl.r_3 c arg3 harg3 x3 = w.v11) (h13 : bodyRun.sl.r_4 c arg4 harg4 x4 = w.v13) (h15 : bodyRun.sl.r_5 c arg7 harg7 x7 = w.v15) (h17 : bodyRun.sl.r_6 c arg8 harg8 x8 = w.v17) (hPT : arg11.view.read (Elt F) (arg11.view.writes (Elt F) arg11.view.junk (bodyRun.sl.HS0_1 c arg0 harg0 arg2 harg2 x0 x2)) = w.PT) (hx0 : x0 = w.X) (hz : arg12.view.read (Elt F) fs1 = z) (S0 : bodyRun.sl.r_7 c arg1 harg1 x1 = s0.S) (C0 : k0_pay12 = s0.C) (h8 : bodyRun.sl.r_8 c arg1 harg1 arg2 harg2 x1 x2 = sTc w.v7 s0.S) :
    (bodyRun c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2).1 = (idsP w z s0, pisP w z s0) := by
  replace S0 : _ = (st w z s0 0).S := S0
  replace C0 : _ = (st w z s0 0).C := C0
  have hv25 : bodyRun.sl.v25 = rowNo := rfl
  have H0 : bodyRun.sl.v33 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 fs2 = hid w (st w z s0 0).S := by
    unfold bodyRun.sl.v33
    refine (hid1' (PT := w.PT) (hX := hPT) ..).trans ?_
    simp only [h2, h5, h7, h11, h13, h15, h17, h8]
    rfl
  have L0 : bodyRun.sl.v42 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 fs1 fs2 = lg w z (st w z s0 0).S := by
    unfold bodyRun.sl.v42
    refine (scat2' (R := row w (st w z s0 0).S) (hX := ?_) ..).trans ?_
    · refine (View.read_writes_full ..).trans ?_
      try simp only [bodyRun.sl.HS3_1, bodyRun.sl.r_30]
      simp only [H0, h13]
      rfl
    · rw [hz]; rfl
  have G0 : (st_k0_t3 Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 (bodyRun.sl.r c arg5 harg5 x5) (bodyRun.sl.r_1 c arg6 harg6 x6) (bodyRun.sl.r_2 c arg2 harg2 x2) (bodyRun.sl.r_3 c arg3 harg3 x3) (bodyRun.sl.r_4 c arg4 harg4 x4) (bodyRun.sl.r_5 c arg7 harg7 x7) (bodyRun.sl.r_6 c arg8 harg8 x8) (bodyRun.sl.r_7 c arg1 harg1 x1) (bodyRun.sl.r_9 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 fs1 fs2) (bodyRun.sl.r_10 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 fs1 fs2) k0_pay22 (0#32) (1#32) (harg0.unread x0) k0_pay22 (Scf.trips k0_t3_loop.lb k0_t3_loop.ub k0_t3_loop.st)) = Model.gat w.X (am w z (st w z s0 0)) := by
    rw [← hx0]
    refine gat3 (hinit := rfl) (hpay := ?_) ..
    intro k acc u
    try simp only [bodyRun.sl.r_9, bodyRun.sl.r_10]
    simp only [C0, L0, hv25]
    rfl
  have C1 : bodyRun.sl.r_11 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 fs1 fs2 = (st w z s0 1).C := by
    simp only [bodyRun.sl.r_11]
    try simp only [bodyRun.sl.r_9, bodyRun.sl.r_10]
    simp only [C0, L0, hv25]
    refine Eq.trans ?_ (C_succ w z s0 0).symm
    rfl
  have S1 : bodyRun.sl.r_12 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2 = (st w z s0 1).S := by
    simp only [bodyRun.sl.r_12]
    simp only [G0]
    simp only [h2, h5, h7, h11, h13, h15, h17, S0]
    refine Eq.trans ?_ (S_succ w z s0 0).symm
    generalize (st w z s0 0).S = S
    generalize Model.gat w.X (am w z (st w z s0 0)) = g
    rfl
  have H1 : bodyRun.sl.v95 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2 = hid w (st w z s0 1).S := by
    unfold bodyRun.sl.v95
    refine (hid4 (PT := w.PT) (hX := hPT) ..).trans ?_
    try simp only [G0]
    simp only [h2, h5, h7, h11, h13, h15, h17, S0, S1]
    rfl
  have L1 : bodyRun.sl.v104 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2 = lg w z (st w z s0 1).S := by
    unfold bodyRun.sl.v104
    refine (scat5 (R := row w (st w z s0 1).S) (hL := keep2' ..) (hX := ?_) ..).trans ?_
    · refine (View.read_writes_full ..).trans ?_
      try simp only [bodyRun.sl.HS3_1, bodyRun.sl.r_30]
      simp only [H1, h13]
      rfl
    · rw [hz]; rfl
  have G1 : (st_k0_t6 Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 (bodyRun.sl.r_5 c arg7 harg7 x7) (bodyRun.sl.r_6 c arg8 harg8 x8) bodyRun.sl.v25 (bodyRun.sl.r_11 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 fs1 fs2) (bodyRun.sl.r_12 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2) (0#32) (bodyRun.sl.v104 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2) (harg0.unread x0) k0_pay34 (Scf.trips k0_t6_loop.lb k0_t6_loop.ub k0_t6_loop.st)) = Model.gat w.X (am w z (st w z s0 1)) := by
    rw [← hx0]
    refine gat6 (hinit := rfl) (hpay := ?_) ..
    intro k acc u
    try simp only [bodyRun.sl.r_13, bodyRun.sl.r_14]
    simp only [C1, L1, hv25]
    rfl
  have C2 : bodyRun.sl.r_15 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2 = (st w z s0 2).C := by
    simp only [bodyRun.sl.r_15]
    try simp only [bodyRun.sl.r_13, bodyRun.sl.r_14]
    simp only [C1, L1, hv25]
    refine Eq.trans ?_ (C_succ w z s0 1).symm
    rfl
  have S2 : bodyRun.sl.r_20 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2 = (st w z s0 2).S := by
    simp only [bodyRun.sl.r_20]
    try simp only [bodyRun.sl.r_16, bodyRun.sl.r_17, bodyRun.sl.r_18, bodyRun.sl.r_19]
    simp only [G1]
    simp only [h2, h5, h7, h11, h13, h15, h17, S1]
    refine Eq.trans ?_ (S_succ w z s0 1).symm
    generalize (st w z s0 1).S = S
    generalize Model.gat w.X (am w z (st w z s0 1)) = g
    rfl
  have H2 : bodyRun.sl.v157 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2 = hid w (st w z s0 2).S := by
    unfold bodyRun.sl.v157
    refine (hid7 (PT := w.PT) (hX := hPT) ..).trans ?_
    try simp only [bodyRun.sl.r_16, bodyRun.sl.r_17, bodyRun.sl.r_18, bodyRun.sl.r_19]
    try simp only [G1]
    simp only [h2, h5, h7, h11, h13, h15, h17, S1, S2]
    rfl
  have L2 : bodyRun.sl.v166 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2 = lg w z (st w z s0 2).S := by
    unfold bodyRun.sl.v166
    refine (scat8 (R := row w (st w z s0 2).S) (hL := keep5 (hL := keep2' ..) ..) (hX := ?_) ..).trans ?_
    · refine (View.read_writes_full ..).trans ?_
      try simp only [bodyRun.sl.HS3_1, bodyRun.sl.r_30]
      simp only [H2, h13]
      rfl
    · rw [hz]; rfl
  have G2 : (st_k0_t9 Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 (bodyRun.sl.r_5 c arg7 harg7 x7) (bodyRun.sl.r_6 c arg8 harg8 x8) bodyRun.sl.v25 (bodyRun.sl.r_15 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2) (bodyRun.sl.r_20 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2) (bodyRun.sl.r_21 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2) (bodyRun.sl.r_22 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2) (bodyRun.sl.r_23 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2) (harg0.unread x0) k0_pay53 (Scf.trips k0_t9_loop.lb k0_t9_loop.ub k0_t9_loop.st)) = Model.gat w.X (am w z (st w z s0 2)) := by
    rw [← hx0]
    refine gat9 (hinit := rfl) (hpay := ?_) ..
    intro k acc u
    try simp only [bodyRun.sl.r_21, bodyRun.sl.r_22, bodyRun.sl.r_23]
    simp only [C2, L2, hv25]
    rfl
  have C3 : bodyRun.sl.r_24 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2 = (st w z s0 3).C := by
    simp only [bodyRun.sl.r_24]
    try simp only [bodyRun.sl.r_21, bodyRun.sl.r_22, bodyRun.sl.r_23]
    simp only [C2, L2, hv25]
    refine Eq.trans ?_ (C_succ w z s0 2).symm
    rfl
  have S3 : bodyRun.sl.r_25 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2 = (st w z s0 3).S := by
    simp only [bodyRun.sl.r_25]
    simp only [G2]
    simp only [h2, h5, h7, h11, h13, h15, h17, S2]
    refine Eq.trans ?_ (S_succ w z s0 2).symm
    generalize (st w z s0 2).S = S
    generalize Model.gat w.X (am w z (st w z s0 2)) = g
    rfl
  have H3 : bodyRun.sl.v219 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2 = hid w (st w z s0 3).S := by
    unfold bodyRun.sl.v219
    refine (hid10 (PT := w.PT) (hX := hPT) ..).trans ?_
    try simp only [G2]
    simp only [h2, h5, h7, h11, h13, h15, h17, S2, S3]
    rfl
  have L3 : bodyRun.sl.v228 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2 = lg w z (st w z s0 3).S := by
    unfold bodyRun.sl.v228
    refine (scat11 (R := row w (st w z s0 3).S) (hL := keep8 (hL := keep5 (hL := keep2' ..) ..) ..) (hX := ?_) ..).trans ?_
    · refine (View.read_writes_full ..).trans ?_
      try simp only [bodyRun.sl.HS3_1, bodyRun.sl.r_30]
      simp only [H3, h13]
      rfl
    · rw [hz]; rfl
  have G3 : (st_k0_t12 Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 (bodyRun.sl.r c arg5 harg5 x5) (bodyRun.sl.r_1 c arg6 harg6 x6) (bodyRun.sl.r_2 c arg2 harg2 x2) (bodyRun.sl.r_3 c arg3 harg3 x3) (bodyRun.sl.r_4 c arg4 harg4 x4) (bodyRun.sl.r_5 c arg7 harg7 x7) (bodyRun.sl.r_6 c arg8 harg8 x8) (bodyRun.sl.r_25 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2) (bodyRun.sl.r_26 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2) (bodyRun.sl.r_27 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2) (harg0.unread x0) k0_pay65 (Scf.trips k0_t12_loop.lb k0_t12_loop.ub k0_t12_loop.st)) = Model.gat w.X (am w z (st w z s0 3)) := by
    rw [← hx0]
    refine gat12 (hinit := rfl) (hpay := ?_) ..
    intro k acc u
    try simp only [bodyRun.sl.r_26, bodyRun.sl.r_27]
    simp only [C3, L3, hv25]
    rfl
  have C4 : bodyRun.sl.r_28 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2 = (st w z s0 4).C := by
    simp only [bodyRun.sl.r_28]
    try simp only [bodyRun.sl.r_26, bodyRun.sl.r_27]
    simp only [C3, L3, hv25]
    refine Eq.trans ?_ (C_succ w z s0 3).symm
    rfl
  have S4 : bodyRun.sl.r_29 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2 = (st w z s0 4).S := by
    simp only [bodyRun.sl.r_29]
    simp only [G3]
    simp only [h2, h5, h7, h11, h13, h15, h17, S3]
    refine Eq.trans ?_ (S_succ w z s0 3).symm
    generalize (st w z s0 3).S = S
    generalize Model.gat w.X (am w z (st w z s0 3)) = g
    rfl
  have H4 : bodyRun.sl.v281 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2 = hid w (st w z s0 4).S := by
    unfold bodyRun.sl.v281
    refine (hid13 (PT := w.PT) (hX := hPT) ..).trans ?_
    try simp only [G3]
    simp only [h2, h5, h7, h11, h13, h15, h17, S3, S4]
    rfl
  have L4 : bodyRun.sl.v290 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2 = lg w z (st w z s0 4).S := by
    unfold bodyRun.sl.v290
    refine (scat14 (R := row w (st w z s0 4).S) (hL := keep11 (hL := keep8 (hL := keep5 (hL := keep2' ..) ..) ..) ..) (hX := ?_) ..).trans ?_
    · refine (View.read_writes_full ..).trans ?_
      try simp only [bodyRun.sl.HS3_1, bodyRun.sl.r_30]
      simp only [H4, h13]
      rfl
    · rw [hz]; rfl
  have G4 : (st_k0_t15 Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 (bodyRun.sl.r_5 c arg7 harg7 x7) (bodyRun.sl.r_6 c arg8 harg8 x8) bodyRun.sl.v25 (bodyRun.sl.r_28 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2) (bodyRun.sl.r_29 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2) (bodyRun.sl.r_30 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2) (bodyRun.sl.v283 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2) (bodyRun.sl.v290 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2) (harg0.unread x0) k0_pay78 (Scf.trips k0_t15_loop.lb k0_t15_loop.ub k0_t15_loop.st)) = Model.gat w.X (am w z (st w z s0 4)) := by
    rw [← hx0]
    refine gat15 (hinit := rfl) (hpay := ?_) ..
    intro k acc u
    try simp only [bodyRun.sl.r_31, bodyRun.sl.r_32]
    simp only [C4, L4, hv25]
    rfl
  have C5 : bodyRun.sl.r_33 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2 = (st w z s0 5).C := by
    simp only [bodyRun.sl.r_33]
    try simp only [bodyRun.sl.r_31, bodyRun.sl.r_32]
    simp only [C4, L4, hv25]
    refine Eq.trans ?_ (C_succ w z s0 4).symm
    rfl
  have S5 : bodyRun.sl.r_37 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2 = (st w z s0 5).S := by
    simp only [bodyRun.sl.r_37]
    try simp only [bodyRun.sl.r_34, bodyRun.sl.r_35, bodyRun.sl.r_36]
    simp only [G4]
    simp only [h2, h5, h7, h11, h13, h15, h17, S4]
    refine Eq.trans ?_ (S_succ w z s0 4).symm
    generalize (st w z s0 4).S = S
    generalize Model.gat w.X (am w z (st w z s0 4)) = g
    rfl
  have H5 : bodyRun.sl.v343 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2 = hid w (st w z s0 5).S := by
    unfold bodyRun.sl.v343
    refine (hid16 (PT := w.PT) (hX := hPT) ..).trans ?_
    try simp only [bodyRun.sl.r_34, bodyRun.sl.r_35, bodyRun.sl.r_36]
    try simp only [G4]
    simp only [h2, h5, h7, h11, h13, h15, h17, S4, S5]
    rfl
  have L5 : bodyRun.sl.v352 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2 = lg w z (st w z s0 5).S := by
    unfold bodyRun.sl.v352
    refine (scat17 (R := row w (st w z s0 5).S) (hL := keep14 (hL := keep11 (hL := keep8 (hL := keep5 (hL := keep2' ..) ..) ..) ..) ..) (hX := ?_) ..).trans ?_
    · refine (View.read_writes_full ..).trans ?_
      try simp only [bodyRun.sl.HS3_1, bodyRun.sl.r_30]
      simp only [H5, h13]
      rfl
    · rw [hz]; rfl
  have G5 : (st_k0_t18 Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 (bodyRun.sl.r_5 c arg7 harg7 x7) (bodyRun.sl.r_6 c arg8 harg8 x8) bodyRun.sl.v25 (bodyRun.sl.r_33 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2) (bodyRun.sl.r_37 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2) (bodyRun.sl.r_38 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2) (bodyRun.sl.v352 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2) k0_pay89 (harg0.unread x0) k0_pay95 (Scf.trips k0_t18_loop.lb k0_t18_loop.ub k0_t18_loop.st)) = Model.gat w.X (am w z (st w z s0 5)) := by
    rw [← hx0]
    refine gat18 (hinit := rfl) (hpay := ?_) ..
    intro k acc u
    try simp only [bodyRun.sl.r_38, bodyRun.sl.r_39, bodyRun.sl.r_42]
    simp only [C5, L5, hv25]
    rfl
  have C6 : bodyRun.sl.r_40 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2 = (st w z s0 6).C := by
    simp only [bodyRun.sl.r_40]
    try simp only [bodyRun.sl.r_38, bodyRun.sl.r_39, bodyRun.sl.r_42]
    simp only [C5, L5, hv25]
    refine Eq.trans ?_ (C_succ w z s0 5).symm
    rfl
  have S6 : bodyRun.sl.r_41 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2 = (st w z s0 6).S := by
    simp only [bodyRun.sl.r_41]
    simp only [G5]
    simp only [h2, h5, h7, h11, h13, h15, h17, S5]
    refine Eq.trans ?_ (S_succ w z s0 5).symm
    generalize (st w z s0 5).S = S
    generalize Model.gat w.X (am w z (st w z s0 5)) = g
    rfl
  have H6 : bodyRun.sl.v405 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2 = hid w (st w z s0 6).S := by
    unfold bodyRun.sl.v405
    refine (hid19 (PT := w.PT) (hX := hPT) ..).trans ?_
    try simp only [G5]
    simp only [h2, h5, h7, h11, h13, h15, h17, S5, S6]
    rfl
  have L6 : bodyRun.sl.v414 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2 = lg w z (st w z s0 6).S := by
    unfold bodyRun.sl.v414
    refine (scat20 (R := row w (st w z s0 6).S) (hL := keep17 (hL := keep14 (hL := keep11 (hL := keep8 (hL := keep5 (hL := keep2' ..) ..) ..) ..) ..) ..) (hX := ?_) ..).trans ?_
    · refine (View.read_writes_full ..).trans ?_
      try simp only [bodyRun.sl.HS3_1, bodyRun.sl.r_30]
      simp only [H6, h13]
      rfl
    · rw [hz]; rfl
  have G6 : (st_k0_t21 Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 (bodyRun.sl.r c arg5 harg5 x5) (bodyRun.sl.r_1 c arg6 harg6 x6) (bodyRun.sl.r_2 c arg2 harg2 x2) (bodyRun.sl.r_3 c arg3 harg3 x3) (bodyRun.sl.r_5 c arg7 harg7 x7) (bodyRun.sl.r_6 c arg8 harg8 x8) bodyRun.sl.v25 (bodyRun.sl.r_40 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2) (bodyRun.sl.r_41 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2) (bodyRun.sl.r_43 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2) (bodyRun.sl.r_44 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2) (harg0.unread x0) k0_pay108 (Scf.trips k0_t21_loop.lb k0_t21_loop.ub k0_t21_loop.st)) = Model.gat w.X (am w z (st w z s0 6)) := by
    rw [← hx0]
    refine gat21 (hinit := rfl) (hpay := ?_) ..
    intro k acc u
    try simp only [bodyRun.sl.r_43, bodyRun.sl.r_44]
    simp only [C6, L6, hv25]
    rfl
  have C7 : bodyRun.sl.r_45 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2 = (st w z s0 7).C := by
    simp only [bodyRun.sl.r_45]
    try simp only [bodyRun.sl.r_43, bodyRun.sl.r_44]
    simp only [C6, L6, hv25]
    refine Eq.trans ?_ (C_succ w z s0 6).symm
    rfl
  have S7 : bodyRun.sl.r_46 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2 = (st w z s0 7).S := by
    simp only [bodyRun.sl.r_46]
    simp only [G6]
    simp only [h2, h5, h7, h11, h13, h15, h17, S6]
    refine Eq.trans ?_ (S_succ w z s0 6).symm
    generalize (st w z s0 6).S = S
    generalize Model.gat w.X (am w z (st w z s0 6)) = g
    rfl
  have H7 : bodyRun.sl.v467 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2 = hid w (st w z s0 7).S := by
    unfold bodyRun.sl.v467
    refine (hid22 (PT := w.PT) (hX := hPT) ..).trans ?_
    try simp only [G6]
    simp only [h2, h5, h7, h11, h13, h15, h17, S6, S7]
    rfl
  have L7 : bodyRun.sl.v476 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2 = lg w z (st w z s0 7).S := by
    unfold bodyRun.sl.v476
    refine (scat23 (R := row w (st w z s0 7).S) (hL := keep20 (hL := keep17 (hL := keep14 (hL := keep11 (hL := keep8 (hL := keep5 (hL := keep2' ..) ..) ..) ..) ..) ..) ..) (hX := ?_) ..).trans ?_
    · refine (View.read_writes_full ..).trans ?_
      try simp only [bodyRun.sl.HS3_1, bodyRun.sl.r_30]
      simp only [H7, h13]
      rfl
    · rw [hz]; rfl
  have G7 : (st_k0_t24 Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 (bodyRun.sl.r_4 c arg4 harg4 x4) (bodyRun.sl.r_5 c arg7 harg7 x7) bodyRun.sl.v25 (bodyRun.sl.r_45 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2) (bodyRun.sl.r_46 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2) (bodyRun.sl.v476 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2) (harg0.unread x0) k0_pay120 (Scf.trips k0_t24_loop.lb k0_t24_loop.ub k0_t24_loop.st)) = Model.gat w.X (am w z (st w z s0 7)) := by
    rw [← hx0]
    refine gat24 (hinit := rfl) (hpay := ?_) ..
    intro k acc u
    try simp only [bodyRun.sl.r_47, bodyRun.sl.r_48]
    simp only [C7, L7, hv25]
    rfl
  have C8 : bodyRun.sl.r_49 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2 = (st w z s0 8).C := by
    simp only [bodyRun.sl.r_49]
    try simp only [bodyRun.sl.r_47, bodyRun.sl.r_48]
    simp only [C7, L7, hv25]
    refine Eq.trans ?_ (C_succ w z s0 7).symm
    rfl
  have S8 : bodyRun.sl.r_52 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2 = (st w z s0 8).S := by
    simp only [bodyRun.sl.r_52]
    try simp only [bodyRun.sl.r_50, bodyRun.sl.r_51]
    simp only [G7]
    simp only [h2, h5, h7, h11, h13, h15, h17, S7]
    refine Eq.trans ?_ (S_succ w z s0 7).symm
    generalize (st w z s0 7).S = S
    generalize Model.gat w.X (am w z (st w z s0 7)) = g
    rfl
  have H8 : bodyRun.sl.v529 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2 = hid w (st w z s0 8).S := by
    unfold bodyRun.sl.v529
    refine (hid25 (PT := w.PT) (hX := hPT) ..).trans ?_
    try simp only [bodyRun.sl.r_50, bodyRun.sl.r_51]
    try simp only [G7]
    simp only [h2, h5, h7, h11, h13, h15, h17, S7, S8]
    rfl
  have L8 : bodyRun.sl.v538 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2 = lg w z (st w z s0 8).S := by
    unfold bodyRun.sl.v538
    refine (scat26 (R := row w (st w z s0 8).S) (hL := keep23 (hL := keep20 (hL := keep17 (hL := keep14 (hL := keep11 (hL := keep8 (hL := keep5 (hL := keep2' ..) ..) ..) ..) ..) ..) ..) ..) (hX := ?_) ..).trans ?_
    · refine (View.read_writes_full ..).trans ?_
      try simp only [bodyRun.sl.HS3_1, bodyRun.sl.r_30]
      simp only [H8, h13]
      rfl
    · rw [hz]; rfl
  have G8 : (st_k0_t27 Variants.none c none arg0 harg0 arg1 harg1 arg2 harg2 arg3 harg3 arg4 harg4 arg5 harg5 arg6 harg6 arg7 harg7 arg8 harg8 arg9 harg9 arg10 harg10 arg11 harg11 arg12 harg12 arg13 harg13 arg14 harg14 (bodyRun.sl.r_5 c arg7 harg7 x7) (bodyRun.sl.r_6 c arg8 harg8 x8) bodyRun.sl.v25 (bodyRun.sl.r_49 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2) (bodyRun.sl.r_52 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2) (k0_pay129 bodyRun.sl.v25) (bodyRun.sl.v538 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2) (harg0.unread x0) k0_pay135 (Scf.trips k0_t27_loop.lb k0_t27_loop.ub k0_t27_loop.st)) = Model.gat w.X (am w z (st w z s0 8)) := by
    rw [← hx0]
    refine gat27 (hinit := rfl) (hpay := ?_) ..
    intro k acc u
    try simp only [bodyRun.sl.r_53, bodyRun.sl.r_54]
    simp only [C8, L8, hv25]
    rfl
  have C9 : bodyRun.sl.r_55 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2 = (st w z s0 9).C := by
    simp only [bodyRun.sl.r_55]
    try simp only [bodyRun.sl.r_53, bodyRun.sl.r_54]
    simp only [C8, L8, hv25]
    refine Eq.trans ?_ (C_succ w z s0 8).symm
    rfl
  have H9 : bodyRun.sl.v591 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2 = hid w (st w z s0 9).S := by
    unfold bodyRun.sl.v591
    refine (hid28 (PT := w.PT) (hX := hPT) ..).trans ?_
    try simp only [bodyRun.sl.r_56, bodyRun.sl.r_57, bodyRun.sl.r_58]
    try simp only [G8]
    simp only [h2, h5, h7, h11, h13, h15, h17, S8]
    rfl
  have L9 : bodyRun.sl.v600 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2 = lg w z (st w z s0 9).S := by
    unfold bodyRun.sl.v600
    refine (scat29 (R := row w (st w z s0 9).S) (hL := keep26 (hL := keep23 (hL := keep20 (hL := keep17 (hL := keep14 (hL := keep11 (hL := keep8 (hL := keep5 (hL := keep2' ..) ..) ..) ..) ..) ..) ..) ..) ..) (hX := ?_) ..).trans ?_
    · refine (View.read_writes_full ..).trans ?_
      try simp only [bodyRun.sl.HS3_1, bodyRun.sl.r_30]
      simp only [H9, h13]
      rfl
    · rw [hz]; rfl
  show (([⟨Rect.unit ![9, 0] ![1, 256] inb_S10x256_S1x256_9_0, k0_pay2 (bodyRun.sl.r_61 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2)⟩, ⟨Rect.unit ![8, 0] S1x256.size inb_S10x256_S1x256_8_0, k0_pay142 (bodyRun.sl.r_53 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2)⟩, ⟨Rect.unit ![7, 0] S1x256.size inb_S10x256_S1x256_7_0, k0_pay125 (bodyRun.sl.r_47 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2)⟩, ⟨Rect.unit ![6, 0] S1x256.size inb_S10x256_S1x256_6_0, k0_pay111 (bodyRun.sl.r_43 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2)⟩, ⟨Rect.unit ![5, 0] S1x256.size inb_S10x256_S1x256_5_0, bodyRun.sl.r_42 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2⟩, ⟨Rect.unit ![4, 0] S1x256.size inb_S10x256_S1x256_4_0, k0_pay84 (bodyRun.sl.r_31 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2)⟩, ⟨Rect.unit ![3, 0] S1x256.size inb_S10x256_S1x256_3_0, k0_pay68 (bodyRun.sl.r_26 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2)⟩, ⟨Rect.unit ![2, 0] S1x256.size inb_S10x256_S1x256_2_0, k0_pay56 bodyRun.sl.v25 (bodyRun.sl.r_23 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2)⟩, ⟨Rect.unit ![1, 0] S1x256.size inb_S10x256_S1x256_1_0, k0_pay43 (bodyRun.sl.r_13 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2)⟩, ⟨Rect.unit ![0, 0] S1x256.size inb_S10x256_S1x256_0_0, k0_pay25 (bodyRun.sl.r_9 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 fs1 fs2)⟩], [⟨Rect.unit ![9, 0] ![1, 256] inb_S10x256_S1x256_9_0, k0_pay1 (bodyRun.sl.r_59 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2) (bodyRun.sl.r_60 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2)⟩, ⟨Rect.unit ![8, 0] S1x256.size inb_S10x256_S1x256_8_0, bodyRun.sl.r_54 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2⟩, ⟨Rect.unit ![7, 0] S1x256.size inb_S10x256_S1x256_7_0, bodyRun.sl.r_48 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2⟩, ⟨Rect.unit ![6, 0] S1x256.size inb_S10x256_S1x256_6_0, k0_pay106 (bodyRun.sl.r_44 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2)⟩, ⟨Rect.unit ![5, 0] S1x256.size inb_S10x256_S1x256_5_0, bodyRun.sl.r_39 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2⟩, ⟨Rect.unit ![4, 0] S1x256.size inb_S10x256_S1x256_4_0, bodyRun.sl.r_32 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2⟩, ⟨Rect.unit ![3, 0] S1x256.size inb_S10x256_S1x256_3_0, bodyRun.sl.r_27 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2⟩, ⟨Rect.unit ![2, 0] S1x256.size inb_S10x256_S1x256_2_0, k0_pay51 (bodyRun.sl.r_21 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2) (bodyRun.sl.r_22 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2)⟩, ⟨Rect.unit ![1, 0] S1x256.size inb_S10x256_S1x256_1_0, bodyRun.sl.r_14 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2⟩, ⟨Rect.unit ![0, 0] S1x256.size inb_S10x256_S1x256_0_0, bodyRun.sl.r_10 c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 fs1 fs2⟩]) : List (View.Piece (Elt F) S10x256 .f32) × List (View.Piece (Elt F) S10x256 .f32)) = _
  simp only [bodyRun.sl.r_9, bodyRun.sl.r_10, bodyRun.sl.r_13, bodyRun.sl.r_14, bodyRun.sl.r_21, bodyRun.sl.r_22, bodyRun.sl.r_23, bodyRun.sl.r_26, bodyRun.sl.r_27, bodyRun.sl.r_31, bodyRun.sl.r_32, bodyRun.sl.r_38, bodyRun.sl.r_39, bodyRun.sl.r_42, bodyRun.sl.r_43, bodyRun.sl.r_44, bodyRun.sl.r_47, bodyRun.sl.r_48, bodyRun.sl.r_53, bodyRun.sl.r_54, bodyRun.sl.r_59, bodyRun.sl.r_60, bodyRun.sl.r_61]
  simp only [L0, C0, L1, C1, L2, C2, L3, C3, L4, C4, L5, C5, L6, C6, L7, C7, L8, C8, L9, C9, hv25]
  rfl

end Cert.KernelIdeal.Chain
-- ==== Proof.RunValue.lean ====
/- What the body leaves in its outputs, as functions of what it was given. -/
module

public import proofs.«01_k».proof.Proof.Chain

@[expose] public section

set_option maxRecDepth 16384

noncomputable section

namespace Cert.KernelIdeal.RunValue

open Idealize.ShloMosaic Idealize.ShloMosaic.TcCoe
open Cert.KernelIdeal.Gen Cert.KernelIdeal.Blocks Cert.KernelIdeal.Model Cert.KernelIdeal.Launch Cert.KernelIdeal.Chain

variable {F : FTy → Type} [FloatOps F] [Named F]

/-- The first 128 columns. -/
def left (x : Vec F S128x256 .f32) : Vec F S128x128 .f32 :=
  fun i => x (ix2 (i 0) ⟨(i 1).val, by have : (i 1).val < 128 := (i 1).isLt; omega⟩)

/-- The last 128 columns. -/
def right (x : Vec F S128x256 .f32) : Vec F S128x128 .f32 :=
  fun i => x (ix2 (i 0) ⟨128 + (i 1).val, by have : (i 1).val < 128 := (i 1).isLt; omega⟩)

/-- What the body reads once. -/
def wt (x0 : Vec F S128x12800 .f32) (x2 : Vec F S128x256 .f32) (x3 : Vec F S512x128 .f32) (x4 : Vec F S1x512 .f32)
    (x5 x6 : Vec F S1x1 .f32) (x7 x8 : Vec F S384x128 .f32) : Wt F :=
  ⟨k0_pay3 x5, k0_pay4 x6, k0_pay5 (left x2), k0_pay6 x3, k0_pay7 x4, k0_pay8 x7, k0_pay9 x8, k0_pay10 (right x2) x0, x0⟩

/-- Where the steps start. -/
def start (x1 : Vec F S128x256 .f32) : St F := ⟨k0_pay11 x1, k0_pay12⟩

/-! ## The rows past the fiftieth do not matter -/

theorem rowNo_apply (i : S64x256.Idx) : rowNo i = BitVec.ofNat 32 (i 0).val := by
  unfold rowNo
  idx_vars i
  pointwise

theorem masked_pad (C : IVec S64x256 1) (z z' : Vec F S64x256 .f32) (R : Vec F S1x12800 .f32) :
    k0_pay17 rowNo C (Blocks.pad z R) = k0_pay17 rowNo C (Blocks.pad z' R) := by
  funext i
  by_cases h : (i 0).val < 50
  · unfold k0_pay17
    have e : Blocks.pad z R i = Blocks.pad z' R i := by unfold Blocks.pad; rw [dif_pos h, dif_pos h]
    idx_vars i
    pointwise
    rw [e]
  · have e : ∀ L : Vec F S64x256 .f32, k0_pay17 rowNo C L i = k0_pay17 rowNo C z i := by
      intro L
      unfold k0_pay17
      have hr := rowNo_apply i
      idx_vars i
      have hi : i0.val < 64 := i0.isLt
      pointwise
      rw [hr]
      have hc : IntOp.cmpi .sge (BitVec.ofNat 32 i0.val) 50#32 = 1#1 := by
        have h' : 50 ≤ i0.val := Nat.le_of_not_lt h
        have : ∀ n : Fin 64, 50 ≤ n.val → IntOp.cmpi .sge (BitVec.ofNat 32 n.val) 50#32 = 1#1 := by decide +kernel
        exact this ⟨i0.val, hi⟩ h'
      rw [hc]
      have ho : ∀ b : BitVec 1, IntOp.ori b 1#1 = 1#1 := by decide
      simp only [ho]
      rfl
    rw [e, e (Blocks.pad z' R)]

theorem am_indep (w : Wt F) (z z' : Vec F S64x256 .f32) (s : St F) : am w z s = am w z' s := by
  unfold am lg
  unfold k0_pay19 k0_pay18
  rw [masked_pad s.C z z']

theorem pi_indep (w : Wt F) (z z' : Vec F S64x256 .f32) (s : St F) : pi w z s = pi w z' s := by
  unfold pi lg
  unfold k0_pay20 k0_pay18
  rw [masked_pad s.C z z']

theorem next_indep (w : Wt F) (z z' : Vec F S64x256 .f32) (s : St F) : next w z s = next w z' s := by
  have h := am_indep w z z' s
  unfold next
  rw [h]
  have e : k0_pay21 rowNo s.C (lg w z s.S) = k0_pay21 rowNo s.C (lg w z' s.S) := by
    unfold am at h
    unfold k0_pay21
    rw [h]
  rw [e]

theorem st_indep (w : Wt F) (z z' : Vec F S64x256 .f32) (s : St F) (t : ℕ) : st w z s t = st w z' s t := by
  induction t with
  | zero => rfl
  | succ t ih => rw [st, st, ih, next_indep w z z']

/-- Nothing in the rows past the fiftieth. -/
def none0 : Vec F S64x256 .f32 := constant S64x256 .f32 0x00000000#32

/-- The first output. -/
def ids (w : Wt F) (s : St F) : Vec F S10x256 .f32 := fun i => k0_pay25 (F := F) (am w none0 (st w none0 s (i 0).val)) (ix2 0 (i 1))

/-- The second output. -/
def pis (w : Wt F) (s : St F) : Vec F S10x256 .f32 := fun i => pi w none0 (st w none0 s (i 0).val) (ix2 0 (i 1))

theorem row_hit (v : View sig .tc .vmem S10x256 .f32) (f : v.ty.Contents (Elt F)) (t : ℕ) (inb : ∀ a, (![t, 0] : Fin 2 → ℕ) a + S1x256.size a ≤ S10x256.size a)
    (w : FVec F S1x256 .f32) (L : List (View.Piece (Elt F) S10x256 .f32)) (i : S10x256.Idx) (h : (i 0).val = t) :
    v.read (Elt F) (v.writes (Elt F) f (⟨Rect.unit (s := S10x256) ![t, 0] S1x256.size inb, w⟩ :: L)) i = w (ix2 0 (i 1)) := by
  refine View.read_writes_cons_hit_of_coords v f (Rect.unit (s := S10x256) ![t, 0] S1x256.size inb) w L (fun a => ix2 (n0 := 1) (n1 := 256) 0 (i 1) a) i fun a => ?_
  match a with
  | ⟨0, _⟩ => show (i 0).val = t + 1 * 0; omega
  | ⟨1, _⟩ => show (i 1).val = 0 + 1 * (i 1).val; omega

theorem row_miss (v : View sig .tc .vmem S10x256 .f32) (f : v.ty.Contents (Elt F)) (t : ℕ) (inb : ∀ a, (![t, 0] : Fin 2 → ℕ) a + S1x256.size a ≤ S10x256.size a)
    (w : FVec F S1x256 .f32) (L : List (View.Piece (Elt F) S10x256 .f32)) (i : S10x256.Idx) (h : (i 0).val ≠ t) :
    v.read (Elt F) (v.writes (Elt F) f (⟨Rect.unit (s := S10x256) ![t, 0] S1x256.size inb, w⟩ :: L)) i = v.read (Elt F) (v.writes (Elt F) f L) i := by
  refine View.read_writes_cons_miss_of_axis v f _ _ i 0 t 1 rfl rfl rfl ?_
  omega

/-- Ten rows stored one by one, read back. -/
theorem read_rows (v : View sig .tc .vmem S10x256 .f32) (f : v.ty.Contents (Elt F)) (r : ℕ → FVec F S1x256 .f32) :
    v.read (Elt F) (v.writes (Elt F) f [⟨Rect.unit (s := S10x256) ![9, 0] S1x256.size inb_S10x256_S1x256_9_0, r 9⟩, ⟨Rect.unit (s := S10x256) ![8, 0] S1x256.size inb_S10x256_S1x256_8_0, r 8⟩, ⟨Rect.unit (s := S10x256) ![7, 0] S1x256.size inb_S10x256_S1x256_7_0, r 7⟩, ⟨Rect.unit (s := S10x256) ![6, 0] S1x256.size inb_S10x256_S1x256_6_0, r 6⟩, ⟨Rect.unit (s := S10x256) ![5, 0] S1x256.size inb_S10x256_S1x256_5_0, r 5⟩, ⟨Rect.unit (s := S10x256) ![4, 0] S1x256.size inb_S10x256_S1x256_4_0, r 4⟩, ⟨Rect.unit (s := S10x256) ![3, 0] S1x256.size inb_S10x256_S1x256_3_0, r 3⟩, ⟨Rect.unit (s := S10x256) ![2, 0] S1x256.size inb_S10x256_S1x256_2_0, r 2⟩, ⟨Rect.unit (s := S10x256) ![1, 0] S1x256.size inb_S10x256_S1x256_1_0, r 1⟩, ⟨Rect.unit (s := S10x256) ![0, 0] S1x256.size inb_S10x256_S1x256_0_0, r 0⟩]) = fun i => r (i 0).val (ix2 0 (i 1)) := by
  funext i
  have hi : (i 0).val < 10 := (i 0).isLt
  have hc : (i 0).val = 0 ∨ (i 0).val = 1 ∨ (i 0).val = 2 ∨ (i 0).val = 3 ∨ (i 0).val = 4 ∨ (i 0).val = 5 ∨ (i 0).val = 6 ∨ (i 0).val = 7 ∨ (i 0).val = 8 ∨ (i 0).val = 9 := by omega
  rcases hc with h | h | h | h | h | h | h | h | h | h
  · rw [row_miss v f 9 _ _ _ i (by omega), row_miss v f 8 _ _ _ i (by omega), row_miss v f 7 _ _ _ i (by omega), row_miss v f 6 _ _ _ i (by omega), row_miss v f 5 _ _ _ i (by omega), row_miss v f 4 _ _ _ i (by omega), row_miss v f 3 _ _ _ i (by omega), row_miss v f 2 _ _ _ i (by omega), row_miss v f 1 _ _ _ i (by omega)]
    rw [row_hit v f 0 _ _ _ i h, h]
  · rw [row_miss v f 9 _ _ _ i (by omega), row_miss v f 8 _ _ _ i (by omega), row_miss v f 7 _ _ _ i (by omega), row_miss v f 6 _ _ _ i (by omega), row_miss v f 5 _ _ _ i (by omega), row_miss v f 4 _ _ _ i (by omega), row_miss v f 3 _ _ _ i (by omega), row_miss v f 2 _ _ _ i (by omega)]
    rw [row_hit v f 1 _ _ _ i h, h]
  · rw [row_miss v f 9 _ _ _ i (by omega), row_miss v f 8 _ _ _ i (by omega), row_miss v f 7 _ _ _ i (by omega), row_miss v f 6 _ _ _ i (by omega), row_miss v f 5 _ _ _ i (by omega), row_miss v f 4 _ _ _ i (by omega), row_miss v f 3 _ _ _ i (by omega)]
    rw [row_hit v f 2 _ _ _ i h, h]
  · rw [row_miss v f 9 _ _ _ i (by omega), row_miss v f 8 _ _ _ i (by omega), row_miss v f 7 _ _ _ i (by omega), row_miss v f 6 _ _ _ i (by omega), row_miss v f 5 _ _ _ i (by omega), row_miss v f 4 _ _ _ i (by omega)]
    rw [row_hit v f 3 _ _ _ i h, h]
  · rw [row_miss v f 9 _ _ _ i (by omega), row_miss v f 8 _ _ _ i (by omega), row_miss v f 7 _ _ _ i (by omega), row_miss v f 6 _ _ _ i (by omega), row_miss v f 5 _ _ _ i (by omega)]
    rw [row_hit v f 4 _ _ _ i h, h]
  · rw [row_miss v f 9 _ _ _ i (by omega), row_miss v f 8 _ _ _ i (by omega), row_miss v f 7 _ _ _ i (by omega), row_miss v f 6 _ _ _ i (by omega)]
    rw [row_hit v f 5 _ _ _ i h, h]
  · rw [row_miss v f 9 _ _ _ i (by omega), row_miss v f 8 _ _ _ i (by omega), row_miss v f 7 _ _ _ i (by omega)]
    rw [row_hit v f 6 _ _ _ i h, h]
  · rw [row_miss v f 9 _ _ _ i (by omega), row_miss v f 8 _ _ _ i (by omega)]
    rw [row_hit v f 7 _ _ _ i h, h]
  · rw [row_miss v f 9 _ _ _ i (by omega)]
    rw [row_hit v f 8 _ _ _ i h, h]
  · rw [row_hit v f 9 _ _ _ i h, h]

theorem ids_pieces (w : Wt F) (z : Vec F S64x256 .f32) (s : St F) (v : View sig .tc .vmem S10x256 .f32) (f : v.ty.Contents (Elt F)) :
    v.read (Elt F) (v.writes (Elt F) f (idsP w z s)) = ids w s := by
  refine (read_rows v f fun t => k0_pay25 (am w z (st w z s t))).trans ?_
  funext i
  show k0_pay25 (F := F) _ _ = k0_pay25 (F := F) _ _
  rw [st_indep w z none0, am_indep w z none0]

theorem pis_pieces (w : Wt F) (z : Vec F S64x256 .f32) (s : St F) (v : View sig .tc .vmem S10x256 .f32) (f : v.ty.Contents (Elt F)) :
    v.read (Elt F) (v.writes (Elt F) f (pisP w z s)) = pis w s := by
  refine (read_rows v f fun t => pi w z (st w z s t)).trans ?_
  funext i
  show pi _ _ _ _ = pi _ _ _ _
  rw [st_indep w z none0, pi_indep w z none0]

theorem window_left (x : Vec F S128x256 .f32) (inb : ∀ a, (![0, 0] : Fin 2 → ℕ) a + S128x128.size a ≤ S128x256.size a) :
    VecWindow.window (s := S128x256) x ![0, 0] S128x128.size inb = left x := by
  funext i
  refine congrArg x (funext fun a => Fin.ext ?_)
  match a with
  | ⟨0, _⟩ => show 0 + 1 * (i 0).val = (i 0).val; omega
  | ⟨1, _⟩ => show 0 + 1 * (i 1).val = (i 1).val; omega

theorem window_right (x : Vec F S128x256 .f32) (inb : ∀ a, (![0, 128] : Fin 2 → ℕ) a + S128x128.size a ≤ S128x256.size a) :
    VecWindow.window (s := S128x256) x ![0, 128] S128x128.size inb = right x := by
  funext i
  refine congrArg x (funext fun a => Fin.ext ?_)
  match a with
  | ⟨0, _⟩ => show 0 + 1 * (i 0).val = (i 0).val; omega
  | ⟨1, _⟩ => show 128 + 1 * (i 1).val = 128 + (i 1).val; omega

set_option maxHeartbeats 4000000 in
/-- The pieces the run found, as the model's rows from what the body was given. -/
theorem run_value (c : Dev nD) (arg0 : Memref sig .tc .vmem S128x12800 .f32) (harg0 : arg0.IsWhole) (arg1 : Memref sig .tc .vmem S128x256 .f32) (harg1 : arg1.IsWhole) (arg2 : Memref sig .tc .vmem S128x256 .f32) (harg2 : arg2.IsWhole) (arg3 : Memref sig .tc .vmem S512x128 .f32) (harg3 : arg3.IsWhole) (arg4 : Memref sig .tc .vmem S1x512 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S384x128 .f32) (harg7 : arg7.IsWhole) (arg8 : Memref sig .tc .vmem S384x128 .f32) (harg8 : arg8.IsWhole) (arg9 : Memref sig .tc .vmem S10x256 .f32) (harg9 : arg9.IsWhole) (arg10 : Memref sig .tc .vmem S10x256 .f32) (harg10 : arg10.IsWhole) (arg11 : Memref sig .tc .vmem S128x12800 .f32) (harg11 : arg11.IsWhole) (arg12 : Memref sig .tc .vmem S64x256 .f32) (harg12 : arg12.IsWhole) (arg13 : Memref sig .tc .vmem S512x12800 .bf16) (harg13 : arg13.IsWhole) (arg14 : Memref sig .tc .vmem S1x12800 .f32) (harg14 : arg14.IsWhole) (x0 : Vec F S128x12800 .f32) (x1 : Vec F S128x256 .f32) (x2 : Vec F S128x256 .f32) (x3 : Vec F S512x128 .f32) (x4 : Vec F S1x512 .f32) (x5 : Vec F S1x1 .f32) (x6 : Vec F S1x1 .f32) (x7 : Vec F S384x128 .f32) (x8 : Vec F S384x128 .f32) (fs1 : BufTy.Contents (Elt F) arg12.view.ty) (fs2 : BufTy.Contents (Elt F) arg13.view.ty) :
    (bodyRun c arg0 harg0 arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 fs1 fs2).1 = (idsP (wt x0 x2 x3 x4 x5 x6 x7 x8) (arg12.view.read (Elt F) fs1) (start x1), pisP (wt x0 x2 x3 x4 x5 x6 x7 x8) (arg12.view.read (Elt F) fs1) (start x1)) := by
  refine run_pieces (w := wt x0 x2 x3 x4 x5 x6 x7 x8) (z := arg12.view.read (Elt F) fs1) (s0 := start x1) (hx0 := rfl) (hz := rfl) (C0 := rfl)
    (h2 := ?_) (h5 := ?_) (h7 := ?_) (h11 := ?_) (h13 := ?_) (h15 := ?_) (h17 := ?_) (hPT := ?_) (S0 := ?_) (h8 := ?_) ..
  · unfold bodyRun.sl.r; rw [View.readAt_full (s := S1x1), harg5.read_unread]; rfl
  · unfold bodyRun.sl.r_1; rw [View.readAt_full (s := S1x1), harg6.read_unread]; rfl
  · unfold bodyRun.sl.r_2; rw [View.readAt_unit (s := S128x256) (inb := inb_S128x256_S128x128_0_0) (h := rfl) (inb' := inb_S128x256_S128x128_0_0), harg2.read_unread, window_left]; rfl
  · unfold bodyRun.sl.r_3; rw [View.readAt_full (s := S512x128), harg3.read_unread]; rfl
  · unfold bodyRun.sl.r_4; rw [View.readAt_full (s := S1x512), harg4.read_unread]; rfl
  · unfold bodyRun.sl.r_5; rw [View.readAt_full (s := S384x128), harg7.read_unread]; rfl
  · unfold bodyRun.sl.r_6; rw [View.readAt_full (s := S384x128), harg8.read_unread]; rfl
  · refine (View.read_writes_full ..).trans ?_
    rw [View.readAt_full (s := S128x12800), harg0.read_unread, View.readAt_unit (s := S128x256) (inb := inb_S128x256_S128x128_0_128) (h := rfl) (inb' := inb_S128x256_S128x128_0_128), harg2.read_unread, window_right]; rfl
  · unfold bodyRun.sl.r_7; rw [View.readAt_full (s := S128x256), harg1.read_unread]; rfl
  · unfold bodyRun.sl.r_8; rw [View.readAt_full (s := S128x256), harg1.read_unread, View.readAt_unit (s := S128x256) (inb := inb_S128x256_S128x128_0_0) (h := rfl) (inb' := inb_S128x256_S128x128_0_0), harg2.read_unread, window_left]; rfl

end Cert.KernelIdeal.RunValue

end
-- ==== Proof.KernelIdealValue.lean ====
/- The launch with its outputs named: what the two output arrays hold at the end. -/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Claim
public import proofs.«01_k».proof.Proof.KernelIdealLaunch
public import proofs.«01_k».proof.Proof.RunValue

@[expose] public section

-- membership in a rectangle of production extents recurses once per coordinate of the long axes
set_option maxRecDepth 16384

noncomputable section

namespace Cert.KernelIdeal.Value

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Launch Cert.KernelIdeal.RunValue

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body reads once, from the blocks it is handed. -/
def wtB (c : Dev nD) (t : Fin cfg0.N) : Model.Wt F := wt (iblk m c 0 t) (iblk m c 2 t) (iblk m c 3 t) (iblk m c 4 t) (iblk m c 5 t) (iblk m c 6 t) (iblk m c 7 t) (iblk m c 8 t)
/-- Where the steps start, from the block it is handed. -/
def startB (c : Dev nD) (t : Fin cfg0.N) : Model.St F := start (iblk m c 1 t)

/-- The proof data of the one pipeline: after the body each input's buffer at its block, and the outputs at the model's rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => ids (wtB m c t) (startB m c t)
    | ⟨10, _⟩ => pis (wtB m c t) (startB m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]

theorem after0_9 (c : Dev nD) (t : Fin cfg0.N) : (dats m 0 c).after 9 t = ids (wtB m c t) (startB m c t) := by dsimp only [dats]
theorem after0_10 (c : Dev nD) (t : Fin cfg0.N) : (dats m 0 c).after 10 t = pis (wtB m c t) (startB m c t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  rw [show (dats m 0 c).Φ t.castSucc = Pipeline.ΦA spec0 c from rfl, PhiA0_eq]
  unfold owns
  iintro ⟨⟨⟨⟨%e0, %g0, %hg0, HS0⟩, ⟨%e1, %g1, %hg1, HS1⟩, ⟨%e2, %g2, %hg2, HS2⟩, ⟨%e3, %g3, %hg3, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, %f9, -, H9⟩, ⟨%d10, %f10, -, H10⟩⟩
  iapply ((bodyRun c _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) g1 g2).2 f9 f10 g0 g3 Set.univ _)
  unfold owns
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  isplitl [HS2]; · iexact HS2
  isplitl [HS3]; · iexact HS3
  iintro ⟨H0, H1, H2, H3, H4, H5, H6, H7, H8, H9, H10, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists _; isplitr; swap; · iexact H9
    ipureintro
    rw [run_value]
    exact ids_pieces _ _ _ _ _
  iexists _; isplitr; swap; · iexact H10
  ipureintro
  rw [run_value]
  exact pis_pieces _ _ _ _ _

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- Every execution ends with each array of the region as the proof data leaves it and what the lines after the region compute from these. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.KernelIdeal.Value

end
-- ==== Proof.KernelIdealFinal.lean ====
/- What the body is handed, and what the two output arrays hold at the end. -/
module

public import proofs.«01_k».proof.Proof.KernelIdealValue
public import Idealize.ShloMosaic.Lib.Pipeline.ValueKit
public import Idealize.ShloMosaic.Lib.Pointwise

@[expose] public section

set_option maxRecDepth 16384

noncomputable section

namespace Cert.KernelIdeal.Final

open Idealize.ShloMosaic Idealize.ShloMosaic.TcCoe Idealize.SL.Sem
open Idealize.ShloMosaic.Pipeline (Dat)
open Cert.KernelIdeal Cert.KernelIdeal.Gen Cert.KernelIdeal.Value Cert.KernelIdeal.RunValue

variable (m : (ℓ : Loc nD τ sig) → Buf (Elt Ideal) ℓ) (c : Dev nD)

/-- At the one grid point every window is its array. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] :=
  (by decide +kernel : ∀ t : Fin grid0.N, _)

theorem iblk2 : iblk m c 2 t0_0 = m ((c : Thread nD τ).loc main_arg2) := by blk_ext! [iblk, V, idx t0_0]
theorem iblk3 : iblk m c 3 t0_0 = m ((c : Thread nD τ).loc main_arg5) := by blk_ext! [iblk, V, idx t0_0]
theorem iblk4 : iblk m c 4 t0_0 = m ((c : Thread nD τ).loc main_arg8) := by blk_ext! [iblk, V, idx t0_0]
theorem iblk7 : iblk m c 7 t0_0 = m ((c : Thread nD τ).loc main_arg10) := by blk_ext! [iblk, V, idx t0_0]
theorem iblk8 : iblk m c 8 t0_0 = m ((c : Thread nD τ).loc main_arg11) := by blk_ext! [iblk, V, idx t0_0]

theorem iblk5 : iblk m c 5 t0_0 = V m c main_v4 := by blk_ext! [iblk, idx t0_0]
theorem iblk6 : iblk m c 6 t0_0 = V m c main_v5 := by blk_ext! [iblk, idx t0_0]
theorem iblk0 : iblk m c 0 t0_0 = V m c main_v1 := by blk_ext! [iblk, idx t0_0]
theorem iblk1 : iblk m c 1 t0_0 = V m c main_v3 := by blk_ext! [iblk, idx t0_0]

/-- The operands the host prepares, read at an index. -/
theorem V4 : V m c main_v4 (ix2 0 0) = m ((c : Thread nD τ).loc main_arg4) (ix1 0) := by
  suffices h : ∀ x : FVec Ideal S1x1 .f32, V m c main_v4 = x → x _ = _ from h _ rfl
  simp only [V, V0, hostOps0, List.flatten_cons, List.flatten_nil, List.append_nil, StableHlo.after_cons, StableHlo.after_nil]
  after_results_simp
  rintro _ rfl
  pointwise
theorem V5 : V m c main_v5 (ix2 0 0) = m ((c : Thread nD τ).loc main_arg7) (ix1 0) := by
  suffices h : ∀ x : FVec Ideal S1x1 .f32, V m c main_v5 = x → x _ = _ from h _ rfl
  simp only [V, V0, hostOps0, List.flatten_cons, List.flatten_nil, List.append_nil, StableHlo.after_cons, StableHlo.after_nil]
  after_results_simp
  rintro _ rfl
  pointwise
theorem V3 (d : Fin 128) (b : Fin 256) : V m c main_v3 (ix2 d b) = m ((c : Thread nD τ).loc main_arg1) (ix3 0 b d) := by
  suffices h : ∀ x : FVec Ideal S128x256 .f32, V m c main_v3 = x → x _ = _ from h _ rfl
  simp only [V, V0, hostOps0, List.flatten_cons, List.flatten_nil, List.append_nil, StableHlo.after_cons, StableHlo.after_nil]
  after_results_simp
  rintro _ rfl
  pointwise
theorem V1 (a : Fin 50) (b : Fin 256) (d : Fin 128) :
    V m c main_v1 (ix2 d ⟨a.val * 256 + b.val, by omega⟩) = m ((c : Thread nD τ).loc main_arg0) (ix3 a b d) := by
  suffices h : ∀ x : FVec Ideal S128x12800 .f32, V m c main_v1 = x → x _ = _ from h _ rfl
  simp only [V, V0, hostOps0, List.flatten_cons, List.flatten_nil, List.append_nil, StableHlo.after_cons, StableHlo.after_nil]
  after_results_simp
  rintro _ rfl
  pointwise

theorem final9 : (dats m 0 c).arrAt 9 cfg0.N = ids (wtB m c t0_0) (startB m c t0_0) := by
  refine (dats m 0 c).arrAt_eq_of_after_last 9 t0_0 (by decide +kernel) _ fun j => ?_
  blk_simp
  rw [after0_9]

theorem final10 : (dats m 0 c).arrAt 10 cfg0.N = pis (wtB m c t0_0) (startB m c t0_0) := by
  refine (dats m 0 c).arrAt_eq_of_after_last 10 t0_0 (by decide +kernel) _ fun j => ?_
  blk_simp
  rw [after0_10]

theorem turn (Y : FVec Ideal S10x256 .f32) (b : Fin 256) (q : Fin 10) :
    transpose S256x10 [1, 0] Y transposes_S10x256_S256x10_1_0 (ix2 b q) = Y (ix2 q b) := by
  pointwise

/-- The host transposes the two arrays. -/
theorem tail7 (b : Fin 256) (q : Fin 10) :
    Pipeline.afterTail₀ cfgs (dats m) 0 (V0 m) [hostOps1] c main_v7 (ix2 b q) = (dats m 0 c).arrAt 9 cfg0.N (ix2 q b) := by
  suffices h : ∀ x : FVec Ideal S256x10 .f32, Pipeline.afterTail₀ cfgs (dats m) 0 (V0 m) [hostOps1] c main_v7 = x → x (ix2 b q) = (dats m 0 c).arrAt 9 cfg0.N (ix2 q b) from h _ rfl
  have e := Pipeline.withArrays_arr (cfgs 0).spec launch0.win.arr_inj c (V0 m c) (fun w => (dats m 0 c).arrAt w (cfgs 0).N) 9
  unfold Pipeline.afterTail₀
  simp only [hostOps1, List.flatten_cons, List.flatten_nil, List.append_nil, StableHlo.after_cons, StableHlo.after_nil]
  after_results_simp
  intro x hx
  rw [← hx]
  exact (turn _ b q).trans (congrFun e (ix2 q b))

theorem tail8 (b : Fin 256) (q : Fin 10) :
    Pipeline.afterTail₀ cfgs (dats m) 0 (V0 m) [hostOps1] c main_v8 (ix2 b q) = (dats m 0 c).arrAt 10 cfg0.N (ix2 q b) := by
  suffices h : ∀ x : FVec Ideal S256x10 .f32, Pipeline.afterTail₀ cfgs (dats m) 0 (V0 m) [hostOps1] c main_v8 = x → x (ix2 b q) = (dats m 0 c).arrAt 10 cfg0.N (ix2 q b) from h _ rfl
  have e := Pipeline.withArrays_arr (cfgs 0).spec launch0.win.arr_inj c (V0 m c) (fun w => (dats m 0 c).arrAt w (cfgs 0).N) 10
  unfold Pipeline.afterTail₀
  simp only [hostOps1, List.flatten_cons, List.flatten_nil, List.append_nil, StableHlo.after_cons, StableHlo.after_nil]
  after_results_simp
  intro x hx
  rw [← hx]
  exact (turn _ b q).trans (congrFun e (ix2 q b))

end Cert.KernelIdeal.Final

end
-- ==== Proof.Column.lean ====
/- The choice over one column: the softmax over what is left, its largest share, and the first index that has it. -/
module

public import Idealize.ShloMosaic.Lib.Pointwise
public import Idealize.ShloMosaic.Lib.SortNet.Extract

@[expose] public section

set_option maxRecDepth 16384

noncomputable section

namespace Cert.Column

open Idealize.ShloMosaic

/-- A finite number. -/
def IsReal (x : EReal) : Prop := ∃ r : ℝ, x = r

theorem IsReal.coe (r : ℝ) : IsReal r := ⟨r, rfl⟩
theorem IsReal.zero : IsReal 0 := ⟨0, rfl⟩
theorem IsReal.one : IsReal 1 := ⟨1, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

theorem IsReal.sum {ι : Type} (s : Finset ι) (f : ι → EReal) (h : ∀ i, IsReal (f i)) : IsReal (∑ i ∈ s, f i) := by
  classical
  induction s using Finset.induction_on with
  | empty => rw [Finset.sum_empty]; exact IsReal.zero
  | insert a s ha ih => rw [Finset.sum_insert ha]; exact (h a).add ih

theorem IsReal.of_abs_lt {x : EReal} (h : Max.max x (-x) < ⊤) : IsReal x := by
  induction x with
  | bot => simp at h
  | top => simp at h
  | coe r => exact ⟨r, rfl⟩

theorem IsReal.sigmoid (x : EReal) : IsReal (Ideal.div 1 (1 + Ideal.exp (-x))) := by
  induction x with
  | bot =>
    rw [EReal.neg_bot, Ideal.exp_top]
    unfold Ideal.div
    rw [show (1 : EReal) + ⊤ = ⊤ from EReal.coe_add_top 1, if_neg (by simp), EReal.inv_top, mul_zero]
    exact IsReal.zero
  | top =>
    rw [EReal.neg_top, Ideal.exp_bot, add_zero]
    unfold Ideal.div
    rw [if_neg (by simp)]
    exact ⟨1 * 1⁻¹, by rw [EReal.coe_mul, EReal.coe_inv]; rfl⟩
  | coe r =>
    rw [← EReal.coe_neg, Ideal.exp_coe]
    have hp : (0 : ℝ) < 1 + Real.exp (-r) := by positivity
    have e : (1 : EReal) + (Real.exp (-r) : EReal) = ((1 + Real.exp (-r) : ℝ) : EReal) := by push_cast; rfl
    rw [e]
    unfold Ideal.div
    rw [if_neg (by exact_mod_cast hp.ne')]
    exact ⟨1 * (1 + Real.exp (-r))⁻¹, by rw [EReal.coe_mul, EReal.coe_inv]; rfl⟩

theorem IsReal.tanh (x : EReal) : IsReal (Ideal.tanh x) := by
  induction x with
  | bot => exact ⟨-1, by rfl⟩
  | top => exact ⟨1, by rfl⟩
  | coe r => exact ⟨Real.tanh r, rfl⟩

/-- The largest of the value and a multiple of it is the leaky rectifier's value, for a slope of at most one. -/
theorem leaky {x a : EReal} (hx : IsReal x) (ha : IsReal a) (h1 : a ≤ 1) : (if 0 ≤ x then x else a * x) = max x (x * a) := by
  obtain ⟨x, rfl⟩ := hx
  obtain ⟨a, rfl⟩ := ha
  have h1 : a ≤ 1 := by exact_mod_cast h1
  rw [← EReal.coe_mul, ← EReal.coe_mul, mul_comm a x]
  split_ifs with h
  · have h : 0 ≤ x := by exact_mod_cast h
    rw [max_eq_left]
    exact_mod_cast (by nlinarith : x * a ≤ x)
  · have h : ¬ 0 ≤ x := by exact_mod_cast h
    rw [max_eq_right]
    exact_mod_cast (by nlinarith : x ≤ x * a)

theorem coe_sum {ι : Type} (s : Finset ι) (f : ι → ℝ) : ((∑ i ∈ s, f i : ℝ) : EReal) = ∑ i ∈ s, (f i : EReal) := by
  classical
  induction s using Finset.induction_on with
  | empty => rw [Finset.sum_empty, Finset.sum_empty]; rfl
  | insert a s ha ih => rw [Finset.sum_insert ha, Finset.sum_insert ha, EReal.coe_add, ih]

/-- A smallest word, folded. -/
theorem fold_minsi {n : ℕ} (f : Fin n → BitVec 32) (v : BitVec 32) (hv : ∃ i, f i = v) (hle : ∀ k, v.toInt ≤ (f k).toInt) (hb : v.toInt ≤ 2147483647) :
    Finset.univ.fold IntOp.minsi 2147483647#32 f = v := by
  apply BitVec.toInt_inj.mp
  have hm : ∀ x y : BitVec 32, (IntOp.minsi x y).toInt = min x.toInt y.toInt := fun x y => SortNet.toInt_minsi x y
  rw [← Finset.fold_hom (op := IntOp.minsi) (op' := (min : ℤ → ℤ → ℤ)) (m := BitVec.toInt) (fun x y => hm x y)]
  obtain ⟨i, hi⟩ := hv
  apply le_antisymm
  · rw [Finset.fold_min_le]
    exact Or.inr ⟨i, Finset.mem_univ _, by rw [hi]⟩
  · rw [Finset.le_fold_min]
    exact ⟨hb, fun k _ => hle k⟩

/-- A largest number, folded. -/
theorem fold_max {n : ℕ} (f : Fin n → EReal) (v : EReal) (hv : ∃ i, f i = v) (hle : ∀ k, f k ≤ v) : Finset.univ.fold max ⊥ f = v := by
  obtain ⟨i, hi⟩ := hv
  apply le_antisymm
  · rw [Finset.fold_max_le]
    exact ⟨bot_le, fun k _ => hle k⟩
  · rw [Finset.le_fold_max]
    exact Or.inr ⟨i, Finset.mem_univ _, by rw [hi]⟩

theorem toInt_ofNat {k : ℕ} (h : k ≤ 64) : (BitVec.ofNat 32 k).toInt = k := by
  rw [BitVec.toInt_eq_toNat_of_lt (by rw [BitVec.toNat_ofNat]; omega), BitVec.toNat_ofNat]
  omega

theorem toInt_ofNat' {k : ℕ} (h : k ≤ 256) : (BitVec.ofNat 32 k).toInt = k := by
  rw [BitVec.toInt_eq_toNat_of_lt (by rw [BitVec.toNat_ofNat]; omega), BitVec.toNat_ofNat]
  omega

variable (u : Fin 50 → Prop) [DecidablePred u] (l : Fin 50 → EReal) (c : EReal)

/-- The scores over 64 rows, nothing where there is no candidate or it is taken. -/
def K (k : Fin 64) : EReal := if h : k.val < 50 then (if u ⟨k.val, h⟩ then l ⟨k.val, h⟩ else ⊥) else ⊥
def mxK : EReal := Finset.univ.fold max ⊥ (K u l)
def piK : EReal := Ideal.div 1 (∑ k : Fin 64, Ideal.exp (K u l k - mxK u l))
def amK : BitVec 32 := Finset.univ.fold IntOp.minsi 2147483647#32 fun k : Fin 64 => if mxK u l ≤ K u l k then BitVec.ofNat 32 k.val else 64#32

/-- The scores over the 50 candidates, with the bias. -/
def R (a : Fin 50) : EReal := if u a then l a + c else ⊥
def mxR : EReal := max ⊥ (Finset.univ.fold max ⊥ (R u l c))
def ex (a : Fin 50) : EReal := Ideal.exp (R u l c a - mxR u l c)
def P (a : Fin 50) : EReal := if u a then Ideal.div (ex u l c a) (∑ x : Fin 50, if u x then ex u l c x else 0) else 0
def piR : EReal := Finset.univ.fold max ⊥ (P u l c)
def idR : BitVec 32 := Finset.univ.fold IntOp.minsi 2147483647#32 fun a : Fin 50 => if P u l c a = piR u l c then BitVec.ofNat 32 a.val else 50#32

/-- A place with the largest share, and the first such, is the one named. -/
theorem first_eq (a : Fin 50) (h : ∀ k : Fin 50, P u l c k ≤ P u l c a ∧ (P u l c k = P u l c a → a ≤ k)) :
    P u l c a = piR u l c ∧ BitVec.ofNat 32 a.val = idR u l c := by
  have hp : piR u l c = P u l c a := fold_max _ _ ⟨a, rfl⟩ fun k => (h k).1
  refine ⟨hp.symm, Eq.symm ?_⟩
  have ha : (BitVec.ofNat 32 a.val).toInt = a.val := toInt_ofNat (by omega)
  refine fold_minsi _ _ ⟨a, if_pos hp.symm⟩ (fun k => ?_) (by rw [ha]; omega)
  rw [ha]
  split_ifs with e
  · rw [toInt_ofNat (by omega)]
    have : a.val ≤ k.val := (h k).2 (e.trans hp)
    omega
  · have : (50#32 : BitVec 32).toInt = 50 := by decide
    omega

/-- The two choices agree, and name a candidate that is left. -/
theorem choice (hu : ∃ a, u a) (hl : ∀ a, IsReal (l a)) (hc : IsReal c) :
    piR u l c = piK u l ∧ idR u l c = amK u l ∧ ∃ a : Fin 50, u a ∧ amK u l = BitVec.ofNat 32 a.val := by
  obtain ⟨c, rfl⟩ := hc
  choose L hL using hl
  obtain rfl : l = fun a => (L a : EReal) := funext hL
  clear hL
  obtain ⟨m, hm, hmax⟩ := Finset.exists_max_image (Finset.univ.filter u) L (by obtain ⟨a, ha⟩ := hu; exact ⟨a, by simpa using ha⟩)
  have hum : u m := by simpa using hm
  have hmax : ∀ a, u a → L a ≤ L m := fun a ha => hmax a (by simpa using ha)
  have emxK : mxK u (fun a => (L a : EReal)) = (L m : EReal) := by
    refine fold_max _ _ ⟨⟨m.val, by omega⟩, ?_⟩ fun k => ?_
    · simp [K, hum]
    · unfold K
      split_ifs with h h'
      · show ((L ⟨k.val, h⟩ : ℝ) : EReal) ≤ (L m : EReal)
        exact_mod_cast hmax _ h'
      · exact bot_le
      · exact bot_le
  have emxR : mxR u (fun a => (L a : EReal)) c = ((L m + c : ℝ) : EReal) := by
    unfold mxR
    rw [max_eq_right bot_le]
    refine fold_max _ _ ⟨m, ?_⟩ fun k => ?_
    · simp [R, hum]
    · unfold R
      split_ifs with h
      · show ((L k : ℝ) : EReal) + (c : EReal) ≤ ((L m + c : ℝ) : EReal)
        rw [← EReal.coe_add, EReal.coe_le_coe_iff]
        linarith [hmax _ h]
      · exact bot_le
  have eex : ∀ a, u a → ex u (fun a => (L a : EReal)) c a = (Real.exp (L a - L m) : EReal) := fun a ha => by
    unfold ex
    rw [emxR, R, if_pos ha, ← EReal.coe_add, ← EReal.coe_sub, Ideal.exp_coe]
    congr 2
    ring
  let E : Fin 50 → ℝ := fun a => if u a then Real.exp (L a - L m) else 0
  have eE : ∀ a, (E a : EReal) = if u a then (Real.exp (L a - L m) : EReal) else 0 := fun a => by
    by_cases h : u a <;> simp [E, h]
  have hs : (∑ x : Fin 50, if u x then ex u (fun a => (L a : EReal)) c x else 0) = ((∑ x, E x : ℝ) : EReal) := by
    rw [coe_sum]
    refine Finset.sum_congr rfl fun x _ => ?_
    rw [eE]
    by_cases h : u x
    · rw [if_pos h, if_pos h, eex x h]
    · rw [if_neg h, if_neg h]
  have hpos : 0 < ∑ x, E x := by
    refine Finset.sum_pos' (fun x _ => ?_) ⟨m, Finset.mem_univ _, ?_⟩
    · by_cases h : u x
      · simp only [E, if_pos h]; positivity
      · simp only [E, if_neg h]; exact le_refl _
    · simp only [E, if_pos hum]; positivity
  have hsK : (∑ k : Fin 64, Ideal.exp (K u (fun a => (L a : EReal)) k - mxK u (fun a => (L a : EReal)))) = ((∑ x, E x : ℝ) : EReal) := by
    rw [coe_sum, emxK]
    refine (Fin.sum_univ_add (a := 50) (b := 14) (fun k : Fin (50 + 14) => Ideal.exp (K u (fun a => (L a : EReal)) k - (L m : EReal)))).trans ?_
    rw [Finset.sum_eq_zero (s := (Finset.univ : Finset (Fin 14))) fun k _ => ?_, add_zero]
    · refine Finset.sum_congr rfl fun x _ => ?_
      rw [eE]
      have hx : (Fin.castAdd 14 x).val < 50 := x.isLt
      have hKx : K u (fun a => (L a : EReal)) (Fin.castAdd 14 x) = if u x then (L x : EReal) else ⊥ := dif_pos hx
      rw [hKx]
      by_cases h : u x
      · rw [if_pos h, if_pos h, ← EReal.coe_sub, Ideal.exp_coe]
      · rw [if_neg h, if_neg h, EReal.bot_sub, Ideal.exp_bot]
    · have hx : ¬ (Fin.natAdd 50 k).val < 50 := by simp
      unfold K
      rw [dif_neg hx, EReal.bot_sub, Ideal.exp_bot]
  have hdiv : ∀ x : ℝ, Ideal.div (x : EReal) ((∑ x, E x : ℝ) : EReal) = ((x / ∑ x, E x : ℝ) : EReal) := fun x => by
    unfold Ideal.div
    rw [if_neg (by exact_mod_cast hpos.ne'), ← EReal.coe_inv, ← EReal.coe_mul, div_eq_mul_inv]
  have eP : ∀ a, P u (fun a => (L a : EReal)) c a = ((if u a then Real.exp (L a - L m) / ∑ x, E x else 0 : ℝ) : EReal) := fun a => by
    unfold P
    rw [hs]
    by_cases h : u a
    · rw [if_pos h, if_pos h, eex a h, hdiv]
    · rw [if_neg h, if_neg h]; rfl
  have epi : piR u (fun a => (L a : EReal)) c = ((1 / ∑ x, E x : ℝ) : EReal) := by
    refine fold_max _ _ ⟨m, ?_⟩ fun k => ?_
    · rw [eP, if_pos hum, sub_self, Real.exp_zero]
    · rw [eP]
      by_cases h : u k
      · rw [if_pos h]
        have : Real.exp (L k - L m) ≤ 1 := Real.exp_le_one_iff.mpr (by linarith [hmax k h])
        exact_mod_cast div_le_div_of_nonneg_right this hpos.le
      · rw [if_neg h]
        exact_mod_cast (by positivity : (0 : ℝ) ≤ 1 / ∑ x, E x)
  have hP : ∀ a, P u (fun a => (L a : EReal)) c a = piR u (fun a => (L a : EReal)) c ↔ (u a ∧ L a = L m) := fun a => by
    rw [eP, epi, EReal.coe_eq_coe_iff]
    by_cases h : u a
    · rw [if_pos h, div_left_inj' hpos.ne', Real.exp_eq_one_iff, sub_eq_zero]
      exact ⟨fun e => ⟨h, e⟩, fun e => e.2⟩
    · rw [if_neg h]
      refine ⟨fun e => absurd e ?_, fun e => absurd e.1 h⟩
      exact (by positivity : (0 : ℝ) < 1 / ∑ x, E x).ne
  have hK : ∀ k : Fin 64, mxK u (fun a => (L a : EReal)) ≤ K u (fun a => (L a : EReal)) k ↔ ∃ h : k.val < 50, u ⟨k.val, h⟩ ∧ L ⟨k.val, h⟩ = L m := fun k => by
    rw [emxK]
    unfold K
    by_cases h : k.val < 50
    · rw [dif_pos h]
      by_cases h' : u ⟨k.val, h⟩
      · rw [if_pos h', EReal.coe_le_coe_iff]
        exact ⟨fun e => ⟨h, h', le_antisymm (hmax _ h') e⟩, fun ⟨_, _, e⟩ => e.ge⟩
      · rw [if_neg h']
        exact ⟨fun e => absurd e (by simp), fun ⟨_, e, _⟩ => absurd e h'⟩
    · rw [dif_neg h]
      exact ⟨fun e => absurd e (by simp), fun ⟨e, _⟩ => absurd e h⟩
  obtain ⟨i, hi, hmin⟩ := Finset.exists_min_image (Finset.univ.filter fun a => u a ∧ L a = L m) (fun a => a.val) ⟨m, by simp [hum]⟩
  have hi : u i ∧ L i = L m := by simpa using hi
  have hmin : ∀ a, u a → L a = L m → i.val ≤ a.val := fun a h h' => hmin a (by simp [h, h'])
  have hi64 : (BitVec.ofNat 32 i.val).toInt = i.val := toInt_ofNat (by omega)
  have eid : idR u (fun a => (L a : EReal)) c = BitVec.ofNat 32 i.val := by
    refine fold_minsi _ _ ⟨i, if_pos ((hP i).mpr hi)⟩ (fun k => ?_) (by rw [hi64]; omega)
    rw [hi64]
    split_ifs with h
    · rw [toInt_ofNat (by omega)]
      have := hmin k ((hP k).mp h).1 ((hP k).mp h).2
      omega
    · have : (50#32 : BitVec 32).toInt = 50 := by decide
      omega
  have eam : amK u (fun a => (L a : EReal)) = BitVec.ofNat 32 i.val := by
    refine fold_minsi _ _ ⟨⟨i.val, by omega⟩, if_pos ((hK _).mpr ⟨i.isLt, hi⟩)⟩ (fun k => ?_) (by rw [hi64]; omega)
    rw [hi64]
    split_ifs with h
    · rw [toInt_ofNat (by omega)]
      obtain ⟨h50, h1, h2⟩ := (hK k).mp h
      have := hmin _ h1 h2
      dsimp only at this
      omega
    · have : (64#32 : BitVec 32).toInt = 64 := by decide
      omega
  refine ⟨?_, eid.trans eam.symm, i, hi.1, eam⟩
  rw [epi, piK, hsK]
  exact (hdiv 1).symm

end Cert.Column

end
-- ==== Proof.Precondition.lean ====
/- What the precondition says of the argument arrays, element by element. -/
module

public import proofs.«01_k».proof.Defs
public import proofs.«01_k».proof.Proof.Column
public import Idealize.ShloMosaic.Lib.Pointwise

@[expose] public section

set_option maxRecDepth 16384

noncomputable section

namespace Cert.Precondition

open Idealize.ShloMosaic Idealize.SL.Sem
open Cert.Column (IsReal)

/-- The broadcasts of the precondition are of a scalar. -/
instance facts : Cert.Pre_finite_unbiased.Facts where
  bcast_S_S50x256x128 := by decide
  bcast_S_S1x256x128 := by decide
  bcast_S_S128x256 := by decide
  bcast_S_S512x128 := by decide
  bcast_S_S1x512 := by decide
  bcast_S_S1 := by decide
  bcast_S_S128 := by decide
  bcast_S_S512 := by decide
  bcast_S_S384 := by decide

theorem posInf : (Ideal.ofBits FTy.f32 0x7F800000#32 : EReal) = ⊤ := by
  simp [Ideal.ofBits, Ideal.ieee]

theorem oneBits : (Ideal.ofBits FTy.f32 0x3F800000#32 : EReal) = 1 := by
  simp [Ideal.ofBits, Ideal.ieee]
  rw [← EReal.coe_mul]
  norm_num

theorem zeroBits : (Ideal.ofBits FTy.f32 0x00000000#32 : EReal) = 0 := by
  simp [Ideal.ofBits, Ideal.ieee]

/-- A truth value that is one was of a true sentence. -/
theorem of_bool {p : Prop} [Decidable p] (h : BitVec.ofBool (decide p) = 1#1) : p := by
  by_contra hp
  simp [hp] at h

variable {s : Shape} (x : FVec Ideal s .f32)
  (hb : (⟨0, ![]⟩ : Shape).BroadcastsInDim s (![] : Fin 0 → Fin s.rank))

theorem real_of (h : cmpf .olt (Host.absf x) (broadcastInDim s ![] hb (constant ⟨0, ![]⟩ .f32 0x7F800000#32)) = fun _ => 1#1) (i : s.Idx) :
    IsReal (x i) := by
  have e : BitVec.ofBool (decide (Max.max (x i) (-(x i)) < Ideal.ofBits FTy.f32 0x7F800000#32)) = 1#1 := congrFun h i
  rw [posInf] at e
  exact IsReal.of_abs_lt (of_bool e)

theorem le_of (h : cmpf .ole x (broadcastInDim s ![] hb (constant ⟨0, ![]⟩ .f32 0x3F800000#32)) = fun _ => 1#1) (i : s.Idx) :
    x i ≤ (1 : EReal) := by
  have e : BitVec.ofBool (decide (x i ≤ Ideal.ofBits FTy.f32 0x3F800000#32)) = 1#1 := congrFun h i
  rw [oneBits] at e
  exact of_bool e

theorem zero_of (h : cmpf .oeq x (broadcastInDim s ![] hb (constant ⟨0, ![]⟩ .f32 0x00000000#32)) = fun _ => 1#1) (i : s.Idx) :
    x i = (0 : EReal) := by
  have e : BitVec.ofBool (decide (x i = Ideal.ofBits FTy.f32 0x00000000#32)) = 1#1 := congrFun h i
  rw [zeroBits] at e
  exact of_bool e

end Cert.Precondition

end
-- ==== Proof.TopOne.lean ====
/- The first element of a stable sort, largest first: the largest, and of several the earliest. -/
module

public import Idealize.ShloMosaic.Lib.Pointwise

@[expose] public section

set_option maxRecDepth 16384

noncomputable section

namespace Cert.TopOne

open Idealize.ShloMosaic

variable {n : ℕ} (f : Fin n → EReal)

/-- `a` has the largest value of the list, and no earlier element has it. -/
def First (l : List (Fin n)) (a : Fin n) : Prop := ∀ b ∈ l, f b ≤ f a ∧ (f b = f a → a ≤ b)

/-- The head of the sorted list is the first of the largest. -/
theorem head_first (before : Fin n → Fin n → Bool) (hb : ∀ a b, before a b = true ↔ f b < f a) (l : List (Fin n))
    (hl : l.Pairwise (· < ·)) (h0 : l ≠ []) : ∃ a t, stableSort before l = a :: t ∧ a ∈ l ∧ First f l a := by
  induction l with
  | nil => exact absurd rfl h0
  | cons a l ih =>
    rw [List.pairwise_cons] at hl
    by_cases hn : l = []
    · subst hn
      refine ⟨a, [], rfl, List.mem_singleton.mpr rfl, fun b hb => ?_⟩
      rw [List.mem_singleton.mp hb]
      exact ⟨le_refl _, fun _ => le_refl _⟩
    · obtain ⟨c, t, e, hc, hf⟩ := ih hl.2 hn
      have es : stableSort before (a :: l) = if before c a then c :: insertBefore before a t else a :: c :: t := by
        show insertBefore before a (stableSort before l) = _
        rw [e]
        rfl
      by_cases h : before c a = true
      · refine ⟨c, insertBefore before a t, by rw [es, if_pos h], List.mem_cons_of_mem _ hc, fun b hm => ?_⟩
        rcases List.mem_cons.mp hm with rfl | hm
        · have := (hb c b).mp h
          exact ⟨this.le, fun e => absurd e this.ne⟩
        · exact hf b hm
      · refine ⟨a, c :: t, by rw [es, if_neg h], List.mem_cons_self, fun b hm => ?_⟩
        rcases List.mem_cons.mp hm with rfl | hm
        · exact ⟨le_refl _, fun _ => le_refl _⟩
        · have h' : f c ≤ f a := not_lt.mp fun hlt => h ((hb c a).mpr hlt)
          exact ⟨(hf b hm).1.trans h', fun _ => (hl.1 b hm).le⟩

/-- The position that a stable sort, largest first, puts at the first place. -/
theorem sortedFrom_first (before : Fin n → Fin n → Bool) (hb : ∀ a b, before a b = true ↔ f b < f a) (k : Fin n) (hk : k.val = 0) :
    ∀ b : Fin n, f b ≤ f (sortedFrom before k) ∧ (f b = f (sortedFrom before k) → sortedFrom before k ≤ b) := by
  have h0 : List.finRange n ≠ [] := List.ne_nil_of_mem (List.mem_finRange k)
  obtain ⟨a, t, e, ha, hf⟩ := head_first f before hb (List.finRange n) (List.pairwise_lt_finRange n) h0
  have ek : sortedFrom before k = a := by
    have e' : sortPositions n before = a :: t := e
    unfold sortedFrom
    simp [List.get_eq_getElem, e', hk]
  rw [ek]
  exact fun b => hf b (List.mem_finRange b)

end Cert.TopOne
-- ==== Proof.RefMath.lean ====
/- One step of the reference at an index, over the extended reals. -/
module

public import proofs.«01_k».proof.Proof.Gen.ReferenceIdeal.Step
public import proofs.«01_k».proof.Proof.Column
public import proofs.«01_k».proof.Proof.TopOne
public import Idealize.ShloMosaic.Lib.Pointwise

@[expose] public section

set_option maxRecDepth 16384

noncomputable section

namespace Cert.ReferenceIdeal.Math

open Idealize.ShloMosaic
open Cert.ReferenceIdeal.Gen Cert.ReferenceIdeal.Step

theorem negInf : (Ideal.ofBits FTy.f32 4286578688#32 : EReal) = ⊥ := by
  simp [Ideal.ofBits, Ideal.ieee]

theorem sitofp_int (x : BitVec 32) : (FloatOps.sitofp (F := Ideal) FTy.f32 x : EReal) = ((x.toInt : ℝ) : EReal) := rfl

theorem sitofp_nat {k : ℕ} (h : k ≤ 256) : (FloatOps.sitofp (F := Ideal) FTy.f32 (BitVec.ofNat 32 k) : EReal) = ((k : ℝ) : EReal) := by
  rw [sitofp_int, Cert.Column.toInt_ofNat' h]
  rfl

theorem sitofp_zero : (FloatOps.sitofp (F := Ideal) FTy.f32 0#32 : EReal) = 0 := by
  rw [sitofp_int, show (0#32 : BitVec 32).toInt = 0 by decide]
  simp

theorem select_eq {α : Type} (x y : BitVec 32) (p q : α) : Scalar.select (IntOp.cmpi CmpIPredicate.eq x y) p q = if x = y then p else q := by
  by_cases h : x = y
  · simp [Scalar.select, IntOp.cmpi, h]
  · have h' : (x == y) = false := beq_eq_false_iff_ne.mpr h
    simp only [Scalar.select, IntOp.cmpi, h', if_neg h]
    exact if_neg (by decide)

theorem select_slt {α : Type} (x y : BitVec 32) (p q : α) : Scalar.select (IntOp.cmpi CmpIPredicate.slt x y) p q = if x.slt y then p else q := by
  cases h : x.slt y <;> simp [Scalar.select, IntOp.cmpi, h]

theorem toInt_nonneg (b : Fin 256) : 0 ≤ (BitVec.ofNat 32 b.val).toInt := by
  rw [Cert.Column.toInt_ofNat' (by omega)]
  omega

variable (j : ℕ) (s : State Ideal)

theorem b5_apply (a : Fin 50) (b : Fin 256) (f : Fin 128) : b5 j s (ix3 a b f) = ∑ x : Fin 128, s.main_v7_17 (ix3 0 b x) * s.main_v7_1 (ix2 f ⟨x.val, by omega⟩) + ∑ x : Fin 128, s.main_v7_0 (ix3 a b x) * s.main_v7_1 (ix2 f ⟨128 + x.val, by omega⟩) := by
  pointwise [b2, b3, b4, b5]

theorem b15_apply (a : Fin 50) (b : Fin 256) (f : Fin 128) : b15 j s (ix3 a b f) = if 0 ≤ b5 j s (ix3 a b f) + s.main_v7_2 (ix1 f) then b5 j s (ix3 a b f) + s.main_v7_2 (ix1 f) else s.main_v7_3 (ix1 0) * (b5 j s (ix3 a b f) + s.main_v7_2 (ix1 f)) := by
  pointwise [b6, b7, b8, b9, b10, b11, b12, b13, b14, b15]

theorem b27_apply (a : Fin 50) (b : Fin 256) (g : Fin 512) : b27 j s (ix3 a b g) = if 0 ≤ (∑ x : Fin 128, b15 j s (ix3 a b x) * s.main_v7_4 (ix2 g x) + s.main_v7_5 (ix1 g)) then (∑ x : Fin 128, b15 j s (ix3 a b x) * s.main_v7_4 (ix2 g x) + s.main_v7_5 (ix1 g)) else s.main_v7_6 (ix1 0) * (∑ x : Fin 128, b15 j s (ix3 a b x) * s.main_v7_4 (ix2 g x) + s.main_v7_5 (ix1 g)) := by
  pointwise [b16, b17, b18, b19, b20, b21, b22, b23, b24, b25, b26, b27]

theorem b34_apply (a : Fin 50) (b : Fin 256) : b34 j s (ix2 b a) = ∑ g : Fin 512, b27 j s (ix3 a b g) * s.main_v7_7 (ix2 0 g) + s.main_v7_8 (ix1 0) := by
  pointwise [b28, b29, b30, b31, b32, b33, b34]

theorem b50_apply (a : Fin 50) (b : Fin 256) : b50 j s (ix2 b a) = if 0 ≤ s.main_v7_16 (ix2 b a) then b34 j s (ix2 b a) else ⊥ := by
  pointwise [b35, b36, b37, b47, b48, b49, b50]
  rw [negInf]

theorem b45_apply (b : Fin 256) : b45 j s (ix1 b) = max ⊥ (Finset.univ.fold max ⊥ fun a : Fin 50 => if 0 ≤ s.main_v7_16 (ix2 b a) then b34 j s (ix2 b a) else ⊥) := by
  pointwise [b35, b36, b37, b38, b39, b40, b41, b42, b43, b44, b45]
  rw [negInf]

theorem b53_apply (a : Fin 50) (b : Fin 256) : b53 j s (ix2 b a) = Ideal.exp (b50 j s (ix2 b a) - b45 j s (ix1 b)) := by
  pointwise [b46, b51, b52, b53]

theorem b58_apply (b : Fin 256) : b58 j s (ix1 b) = ∑ x : Fin 50, if 0 ≤ s.main_v7_16 (ix2 b x) then b53 j s (ix2 b x) else 0 := by
  pointwise [b35, b36, b37, b54, b55, b56, b57, b58]

theorem b65_apply (a : Fin 50) (b : Fin 256) : b65 j s (ix2 b a) = if 0 ≤ s.main_v7_16 (ix2 b a) then Ideal.div (b53 j s (ix2 b a)) (b58 j s (ix1 b)) else 0 := by
  pointwise [b35, b36, b37, b59, b60, b61, b62, b63, b64, b65]
  rw [sitofp_zero]

/-- The two results of a top-k along the second axis, at its first place. -/
theorem topK_apply (x : FVec Ideal S256x50 .f32) (b : Fin 256) :
    ∃ a : Fin 50, (∀ k : Fin 50, x (ix2 b k) ≤ x (ix2 b a) ∧ (x (ix2 b k) = x (ix2 b a) → a ≤ k)) ∧
      (Host.topK S256x1 1 (FloatOps.cmpfTotal .gt) x sliceFits_S256x50_S256x1).1 (ix2 b 0) = x (ix2 b a) ∧
      (Host.topK S256x1 1 (FloatOps.cmpfTotal .gt) x sliceFits_S256x50_S256x1).2 (ix2 b 0) = BitVec.ofNat 32 a.val := by
  have hd : 1 < S256x50.rank := by decide
  have along : ∀ k : Fin 50, (ix2 b (0 : Fin 50) : S256x50.Idx).along ⟨1, hd⟩ k = ix2 b k := fun k => by
    funext d
    match d with
    | ⟨0, _⟩ => rfl
    | ⟨1, _⟩ => rfl
  let before : Fin 50 → Fin 50 → Bool := fun k k' => FloatOps.cmpfTotal (F := Ideal) (φ := .f32) .gt
    (x ((ix2 b (0 : Fin 50) : S256x50.Idx).along ⟨1, hd⟩ k)) (x ((ix2 b (0 : Fin 50) : S256x50.Idx).along ⟨1, hd⟩ k')) == 1#1
  have hb : ∀ k k', before k k' = true ↔ x (ix2 b k') < x (ix2 b k) := fun k k' => by
    have e : before k k' = (BitVec.ofBool (decide (x (ix2 b k') < x (ix2 b k))) == 1#1) := by
      rw [← along k, ← along k']
      rfl
    rw [e]
    by_cases h : x (ix2 b k') < x (ix2 b k) <;> simp [h]
  have slice : ∀ {α : Type} (z : S256x50.Idx → α), extractStridedSlice S256x1 (fun _ => 0) z sliceFits_S256x50_S256x1 (ix2 b 0) = z (ix2 b 0) := fun z => by
    pointwise []
  refine ⟨sortedFrom before 0, Cert.TopOne.sortedFrom_first (fun k => x (ix2 b k)) before hb 0 rfl, ?_, ?_⟩
  · simp only [Host.topK, Host.sort2, dif_pos hd]
    refine (slice _).trans ?_
    exact congrArg x (along (sortedFrom before 0))
  · simp only [Host.topK, Host.sort2, dif_pos hd]
    refine (slice _).trans ?_
    refine (congrArg (iotaInDim S256x50 32 ⟨1, hd⟩) (along (sortedFrom before 0))).trans ?_
    rfl

/-- The share that a step takes is the largest, and its place is the first where it is so large. -/
theorem top_apply (b : Fin 256) :
    ∃ a : Fin 50, (∀ k : Fin 50, b65 j s (ix2 b k) ≤ b65 j s (ix2 b a) ∧ (b65 j s (ix2 b k) = b65 j s (ix2 b a) → a ≤ k)) ∧
      b68 j s (ix1 b) = b65 j s (ix2 b a) ∧ b69 j s (ix1 b) = BitVec.ofNat 32 a.val := by
  obtain ⟨a, ha, h1, h2⟩ := topK_apply (b65 j s) b
  refine ⟨a, ha, Eq.trans ?_ h1, Eq.trans ?_ h2⟩
  · show b68 j s (ix1 b) = b66 j s (ix2 b 0)
    pointwise [b68]
  · show b69 j s (ix1 b) = b67 j s (ix2 b 0)
    pointwise [b69]

theorem b81_apply (a : Fin 50) (b : Fin 256) : b81 j s (ix2 b a) = if BitVec.ofNat 32 a.val = b69 j s (ix1 b) then -(FloatOps.sitofp (F := Ideal) FTy.f32 (IntOp.addi (BitVec.ofNat 32 j) 1#32) : EReal) else s.main_v7_16 (ix2 b a) := by
  pointwise [b70, b71, b72, b73, b74, b75, b76, b77, b78, b79, b80, b81]
  exact select_eq _ _ _ _

theorem b98_0_apply (b : Fin 256) : b98 j s (ix2 b 0) = if (b69 j s (ix1 b)).slt 0#32 then b69 j s (ix1 b) + 50#32 else b69 j s (ix1 b) := by
  pointwise [b82, b83, b84, b85, b86, b87, b88, b96, b97, b98]
  rw [select_slt]
  rfl

theorem b98_1_apply (b : Fin 256) : b98 j s (ix2 b 1) = BitVec.ofNat 32 b.val := by
  pointwise [b89, b90, b91, b92, b93, b94, b95, b96, b97, b98, K_main_v0]
  rw [select_slt, if_neg (by rw [BitVec.slt_iff_toInt_lt, show (0#32 : BitVec 32).toInt = 0 by decide]; exact not_lt.mpr (toInt_nonneg b))]

theorem b99_apply (b : Fin 256) (d : Fin 128) (a : Fin 50) (h : b69 j s (ix1 b) = BitVec.ofNat 32 a.val) :
    b99 j s (ix2 b d) = s.main_v7_0 (ix3 a b d) := by
  have ha : (BitVec.ofNat 32 a.val).toInt = a.val := Cert.Column.toInt_ofNat' (by omega)
  have hb : (BitVec.ofNat 32 b.val).toInt = b.val := Cert.Column.toInt_ofNat' (by omega)
  have h0 : b98 j s (ix2 b 0) = BitVec.ofNat 32 a.val := by
    rw [b98_0_apply, h, if_neg]
    rw [BitVec.slt_iff_toInt_lt, ha, show (0#32 : BitVec 32).toInt = 0 by decide]
    omega
  have h1 := b98_1_apply j s b
  unfold b99 Host.gather
  refine congrArg s.main_v7_0 (funext fun q => Fin.ext ?_)
  show GatherDims.start _ (ix2 b d) (b98 j s) q + GatherDims.batchCoord _ (ix2 b d) q + GatherDims.offCoord _ (ix2 b d) q = _
  rw [GatherDims.batchCoord_eq_zero _ _ _ List.not_mem_nil]
  have hm0 : (0 : Fin 3) ∈ gather_S50x256x128_S256x2_S256x128_1_01_n_n_01_1_11128.startIndexMap := by decide
  have hsi0 : GatherDims.siIdx gather_S50x256x128_S256x2_S256x128_1_01_n_n_01_1_11128 (ix2 b d) ⟨List.idxOf (0 : Fin 3) gather_S50x256x128_S256x2_S256x128_1_01_n_n_01_1_11128.startIndexMap, List.idxOf_lt_length_iff.2 hm0⟩ = ix2 b 0 := by
    funext q
    refine Fin.ext ?_
    match q with
    | ⟨0, _⟩ => rfl
    | ⟨1, _⟩ => rfl
  have hm1 : (1 : Fin 3) ∈ gather_S50x256x128_S256x2_S256x128_1_01_n_n_01_1_11128.startIndexMap := by decide
  have hsi1 : GatherDims.siIdx gather_S50x256x128_S256x2_S256x128_1_01_n_n_01_1_11128 (ix2 b d) ⟨List.idxOf (1 : Fin 3) gather_S50x256x128_S256x2_S256x128_1_01_n_n_01_1_11128.startIndexMap, List.idxOf_lt_length_iff.2 hm1⟩ = ix2 b 1 := by
    funext q
    refine Fin.ext ?_
    match q with
    | ⟨0, _⟩ => rfl
    | ⟨1, _⟩ => rfl
  have hq : q = (0 : Fin 3) ∨ q = (1 : Fin 3) ∨ q = (2 : Fin 3) := by
    match q with
    | ⟨0, _⟩ => exact Or.inl rfl
    | ⟨1, _⟩ => exact Or.inr (Or.inl rfl)
    | ⟨2, _⟩ => exact Or.inr (Or.inr rfl)
  rcases hq with rfl | rfl | rfl
  · rw [GatherDims.offCoord_eq_zero _ _ _ (by decide)]
    unfold GatherDims.start
    rw [dif_pos hm0, hsi0, h0, ha]
    show min (a.val : ℤ).toNat (50 - 1) + 0 + 0 = a.val
    omega
  · rw [GatherDims.offCoord_eq_zero _ _ _ (by decide)]
    unfold GatherDims.start
    rw [dif_pos hm1, hsi1, h1, hb]
    show min (b.val : ℤ).toNat (256 - 1) + 0 + 0 = b.val
    omega
  · unfold GatherDims.start
    rw [dif_neg (by decide)]
    unfold GatherDims.offCoord
    rw [dif_pos (by decide)]
    show 0 + 0 + d.val = d.val
    omega

theorem b105_apply (b : Fin 256) (q : Fin 384) : b105 j s (ix2 b q) = ∑ x : Fin 128, b99 j s (ix2 b x) * s.main_v7_10 (ix2 q x) + s.main_v7_11 (ix1 q) := by
  pointwise [b101, b102, b103, b104, b105]

theorem b110_apply (b : Fin 256) (q : Fin 384) : b110 j s (ix2 b q) = ∑ x : Fin 128, s.main_v7_17 (ix3 0 b x) * s.main_v7_12 (ix2 q x) + s.main_v7_13 (ix1 q) := by
  pointwise [b100, b106, b107, b108, b109, b110]

theorem b144_apply (b : Fin 256) (d : Fin 128) : b144 j s (ix3 0 b d) = (1 - Ideal.div 1 (1 + Ideal.exp (-(b105 j s (ix2 b ⟨128 + d.val, by omega⟩) + b110 j s (ix2 b ⟨128 + d.val, by omega⟩))))) *
      Ideal.tanh (b105 j s (ix2 b ⟨256 + d.val, by omega⟩) + Ideal.div 1 (1 + Ideal.exp (-(b105 j s (ix2 b ⟨d.val, by omega⟩) + b110 j s (ix2 b ⟨d.val, by omega⟩)))) * b110 j s (ix2 b ⟨256 + d.val, by omega⟩)) +
      Ideal.div 1 (1 + Ideal.exp (-(b105 j s (ix2 b ⟨128 + d.val, by omega⟩) + b110 j s (ix2 b ⟨128 + d.val, by omega⟩)))) * s.main_v7_17 (ix3 0 b d) := by
  pointwise [b100, b111, b112, b113, b114, b115, b116, b117, b118, b119, b120, b121, b122, b123, b124, b125,
    b126, b127, b128, b129, b130, b131, b132, b133, b134, b135, b136, b137, b138, b139, b140, b141, b142, b143, b144]

theorem b154_apply (b : Fin 256) (q : Fin 10) : b154 j s (ix2 b q) = if BitVec.ofNat 32 q.val = BitVec.ofNat 32 j then (FloatOps.sitofp (F := Ideal) FTy.f32 (b69 j s (ix1 b)) : EReal) else s.main_v7_18 (ix2 b q) := by
  pointwise [b145, b146, b147, b148, b149, b150, b151, b152, b153, b154]
  exact select_eq _ _ _ _

theorem b158_apply (b : Fin 256) (q : Fin 10) : b158 j s (ix2 b q) = if BitVec.ofNat 32 q.val = BitVec.ofNat 32 j then b68 j s (ix1 b) else s.main_v7_19 (ix2 b q) := by
  pointwise [b145, b146, b147, b148, b149, b155, b156, b157, b158]
  exact select_eq _ _ _ _

theorem K5_apply (b : Fin 256) (a : Fin 50) : K_main_v5 (F := Ideal) (ix2 b a) = ((a.val : ℝ) : EReal) := by
  pointwise [K_main_v1, K_main_v2, K_main_v3, K_main_v4, K_main_v5]
  exact sitofp_nat (by omega)

end Cert.ReferenceIdeal.Math

end
-- ==== Proof.KernelMath.lean ====
/- The body's values at an index, over the extended reals. -/
module

public import proofs.«01_k».proof.Proof.RunValue
public import proofs.«01_k».proof.Proof.RefMath
public import Idealize.ShloMosaic.Lib.Pointwise

@[expose] public section

set_option maxRecDepth 16384

noncomputable section

namespace Cert.KernelIdeal.Math

open Idealize.ShloMosaic Idealize.ShloMosaic.TcCoe
open Cert.Column Cert.ReferenceIdeal.Math
open Cert.KernelIdeal.Gen Cert.KernelIdeal.Blocks Cert.KernelIdeal.Model Cert.KernelIdeal.RunValue

theorem sTc_apply (v7 : FVec Ideal S128x128 .bf16) (S : FVec Ideal S128x256 .f32) (f : Fin 128) (j : Fin 6400) :
    sTc v7 S (ix2 f j) = ∑ d : Fin 128, v7 (ix2 f d) * S (ix2 d ⟨j.val % 256, Nat.mod_lt _ (by decide)⟩) := by
  unfold sTc
  generalize hM : matmul (F := Ideal) dot_S128x128_S128x256_S128x256_1_0_0_1_n_n none v7 (truncf .bf16 S bitsLt_bf16_f32) (constant S128x256 .f32 0x00000000#32) = M
  have e : M (ix2 f ⟨j.val % 256, Nat.mod_lt _ (by decide)⟩) = ∑ d : Fin 128, v7 (ix2 f d) * S (ix2 d ⟨j.val % 256, Nat.mod_lt _ (by decide)⟩) := by
    rw [← hM]
    pointwise
  rw [← e]
  refine concatenate_replicate_apply (s₁ := S128x256) (t := S128x6400) 1 25 M _ rfl (ix2 f j) (ix2 f ⟨j.val % 256, Nat.mod_lt _ (by decide)⟩) rfl fun b hb => ?_
  match b with
  | ⟨0, _⟩ => rfl
  | ⟨1, _⟩ => exact absurd rfl hb

theorem PT_apply (v8 : Vec Ideal S128x128 .f32) (X : Vec Ideal S128x12800 .f32) (f : Fin 128) (j : Fin 12800) :
    k0_pay10 v8 X (ix2 f j) = ∑ d : Fin 128, v8 (ix2 f d) * X (ix2 d j) := by
  pointwise [k0_pay10]

theorem pay14_apply (v2 v5 : FVec Ideal S1x1 .bf16) (v11 : FVec Ideal S512x128 .bf16) (T P : FVec Ideal S128x6400 .f32) (g : Fin 512) (j : Fin 6400) :
    k0_pay14 v2 v5 v11 T P (ix2 g j) = max (∑ f : Fin 128, v11 (ix2 g f) * max (P (ix2 f j) + T (ix2 f j)) ((P (ix2 f j) + T (ix2 f j)) * v2 (ix2 0 0))) ((∑ f : Fin 128, v11 (ix2 g f) * max (P (ix2 f j) + T (ix2 f j)) ((P (ix2 f j) + T (ix2 f j)) * v2 (ix2 0 0))) * v5 (ix2 0 0)) := by
  pointwise [k0_pay14]

theorem pay15_apply (v13 : FVec Ideal S1x512 .bf16) (H : Vec Ideal S512x12800 .bf16) (j : Fin 12800) :
    k0_pay15 v13 H (ix2 0 j) = ∑ g : Fin 512, v13 (ix2 0 g) * H (ix2 g j) := by
  pointwise [k0_pay15]

theorem mask_bot : (Named.named (F := Ideal) (φ := FTy.f32) Cert.KernelIdeal.κ "mask" 4048155338#32 : EReal) = ⊥ := rfl

theorem or_eq_one (x y : BitVec 1) : IntOp.ori x y = 1#1 ↔ x = 1#1 ∨ y = 1#1 := by
  revert x y
  decide

theorem not_zero (x : BitVec 1) : x = 1#1 ↔ ¬ x = 0#1 := by
  revert x
  decide

theorem eq_eq_one (x y : BitVec 32) : IntOp.cmpi CmpIPredicate.eq x y = 1#1 ↔ x = y := by
  by_cases h : x = y
  · simp [IntOp.cmpi, h]
  · have h' : (x == y) = false := beq_eq_false_iff_ne.mpr h
    simp only [IntOp.cmpi, h', h, iff_false]
    decide

theorem sge_eq_one (k : Fin 64) : IntOp.cmpi CmpIPredicate.sge (BitVec.ofNat 32 k.val) 50#32 = 1#1 ↔ 50 ≤ k.val := by
  revert k
  decide

theorem rowNo_at (k : Fin 64) (b : Fin 256) : rowNo (ix2 k b) = BitVec.ofNat 32 k.val := rowNo_apply (ix2 k b)

theorem pay17_apply (C : IVec S64x256 1) (L : Vec Ideal S64x256 .f32) (k : Fin 64) (b : Fin 256) :
    k0_pay17 rowNo C L (ix2 k b) = if h : k.val < 50 then (if C (ix2 k b) = 0#1 then L (ix2 k b) else ⊥) else ⊥ := by
  pointwise [k0_pay17]
  rw [rowNo_at, mask_bot]
  have h1 := sge_eq_one k
  unfold Scalar.select
  by_cases h : k.val < 50
  · rw [dif_pos h]
    by_cases hC : C (ix2 k b) = 0#1
    · rw [if_pos hC]
      refine if_neg fun e => ?_
      rcases (or_eq_one _ _).mp e with e | e
      · rw [hC] at e; exact absurd e (by decide)
      · have := h1.mp e; omega
    · rw [if_neg hC]
      exact if_pos ((or_eq_one _ _).mpr (Or.inl ((not_zero _).mpr hC)))
  · rw [dif_neg h]
    exact if_pos ((or_eq_one _ _).mpr (Or.inr (h1.mpr (by omega))))

theorem pay18_apply (C : IVec S64x256 1) (L : Vec Ideal S64x256 .f32) (b : Fin 256) :
    k0_pay18 rowNo C L (ix2 0 b) = Finset.univ.fold max ⊥ fun k : Fin 64 => k0_pay17 rowNo C L (ix2 k b) := by
  pointwise [k0_pay18]
  rw [negInf]

theorem pay19_apply (C : IVec S64x256 1) (L : Vec Ideal S64x256 .f32) (b : Fin 256) :
    k0_pay19 rowNo C L (ix2 0 b) = Finset.univ.fold IntOp.minsi 2147483647#32 fun k : Fin 64 => if k0_pay18 rowNo C L (ix2 0 b) ≤ k0_pay17 rowNo C L (ix2 k b) then BitVec.ofNat 32 k.val else 64#32 := by
  pointwise [k0_pay19]
  refine congrArg (fun f => Finset.univ.fold IntOp.minsi 2147483647#32 f) (funext fun k => ?_)
  rw [rowNo_at]

theorem pay20_apply (C : IVec S64x256 1) (L : Vec Ideal S64x256 .f32) (b : Fin 256) :
    k0_pay20 rowNo C L (ix2 0 b) = Ideal.div 1 (∑ k : Fin 64, Ideal.exp (k0_pay17 rowNo C L (ix2 k b) - k0_pay18 rowNo C L (ix2 0 b))) := by
  pointwise [k0_pay20]

theorem pay21_apply (C : IVec S64x256 1) (L : Vec Ideal S64x256 .f32) (k : Fin 64) (b : Fin 256) :
    k0_pay21 rowNo C L (ix2 k b) = 0#1 ↔ C (ix2 k b) = 0#1 ∧ BitVec.ofNat 32 k.val ≠ k0_pay19 rowNo C L (ix2 0 b) := by
  pointwise [k0_pay21]
  rw [rowNo_at, ← not_iff_not, ← not_zero, or_eq_one, eq_eq_one, not_zero, not_and_or, not_not]

theorem pay24_apply (v15 v17 : FVec Ideal S384x128 .bf16) (S X : Vec Ideal S128x256 .f32) (d : Fin 128) (b : Fin 256) :
    k0_pay24 v15 v17 S X (ix2 d b) = (1 - Ideal.logistic (∑ x : Fin 128, v15 (ix2 ⟨128 + d.val, by omega⟩ x) * X (ix2 x b) + ∑ x : Fin 128, v17 (ix2 ⟨128 + d.val, by omega⟩ x) * S (ix2 x b))) *
      Ideal.tanh (∑ x : Fin 128, v15 (ix2 ⟨256 + d.val, by omega⟩ x) * X (ix2 x b) + Ideal.logistic (∑ x : Fin 128, v15 (ix2 ⟨d.val, by omega⟩ x) * X (ix2 x b) + ∑ x : Fin 128, v17 (ix2 ⟨d.val, by omega⟩ x) * S (ix2 x b)) * ∑ x : Fin 128, v17 (ix2 ⟨256 + d.val, by omega⟩ x) * S (ix2 x b)) +
      Ideal.logistic (∑ x : Fin 128, v15 (ix2 ⟨128 + d.val, by omega⟩ x) * X (ix2 x b) + ∑ x : Fin 128, v17 (ix2 ⟨128 + d.val, by omega⟩ x) * S (ix2 x b)) * S (ix2 d b) := by
  pointwise [k0_pay24]

/-- A column's scores over the rows, nothing where there is no candidate or it is taken. -/
def col (L : Vec Ideal S64x256 .f32) (b : Fin 256) (a : Fin 50) : EReal := L (ix2 ⟨a.val, by omega⟩ b)

/-- A column's candidates that are left. -/
def left (C : IVec S64x256 1) (b : Fin 256) (a : Fin 50) : Prop := C (ix2 ⟨a.val, by omega⟩ b) = 0#1

instance (C : IVec S64x256 1) (b : Fin 256) : DecidablePred (left C b) := fun a => inferInstanceAs (Decidable (C (ix2 ⟨a.val, by omega⟩ b) = 0#1))

theorem pay17_col (C : IVec S64x256 1) (L : Vec Ideal S64x256 .f32) (b : Fin 256) :
    (fun k : Fin 64 => k0_pay17 rowNo C L (ix2 k b)) = K (left C b) (col L b) := by
  funext k
  rw [pay17_apply]
  rfl

theorem pay18_col (C : IVec S64x256 1) (L : Vec Ideal S64x256 .f32) (b : Fin 256) :
    k0_pay18 rowNo C L (ix2 0 b) = mxK (left C b) (col L b) := by
  rw [pay18_apply, pay17_col]
  rfl

theorem pay19_col (C : IVec S64x256 1) (L : Vec Ideal S64x256 .f32) (b : Fin 256) :
    k0_pay19 rowNo C L (ix2 0 b) = amK (left C b) (col L b) := by
  rw [pay19_apply, pay18_col]
  refine congrArg (fun f => Finset.univ.fold IntOp.minsi 2147483647#32 f) (funext fun k => ?_)
  rw [congrFun (pay17_col C L b) k]

theorem pay20_col (C : IVec S64x256 1) (L : Vec Ideal S64x256 .f32) (b : Fin 256) :
    k0_pay20 rowNo C L (ix2 0 b) = piK (left C b) (col L b) := by
  rw [pay20_apply, pay18_col]
  refine congrArg (Ideal.div 1) (Finset.sum_congr rfl fun k _ => ?_)
  rw [congrFun (pay17_col C L b) k]

/-- The first layer's value at a candidate's column. -/
def lay1 (w : Wt Ideal) (S : FVec Ideal S128x256 .f32) (q : Fin 12800) (f : Fin 128) : EReal :=
  w.PT (ix2 f q) + ∑ d : Fin 128, w.v7 (ix2 f d) * S (ix2 d ⟨q.val % 256, Nat.mod_lt _ (by decide)⟩)

/-- The second layer's value at a candidate's column. -/
def lay2 (w : Wt Ideal) (S : FVec Ideal S128x256 .f32) (q : Fin 12800) (g : Fin 512) : EReal :=
  ∑ f : Fin 128, w.v11 (ix2 g f) * max (lay1 w S q f) (lay1 w S q f * w.v2 (ix2 0 0))

theorem hid_apply (w : Wt Ideal) (S : FVec Ideal S128x256 .f32) (g : Fin 512) (q : Fin 12800) :
    hid w S (ix2 g q) = max (lay2 w S q g) (lay2 w S q g * w.v5 (ix2 0 0)) := by
  have hq := q.isLt
  have h1 : ∀ f : Fin 128, blk w.PT (q.val / 6400) (ix2 f ⟨q.val % 6400, Nat.mod_lt _ (by decide)⟩)
      + sTc w.v7 S (ix2 f ⟨q.val % 6400, Nat.mod_lt _ (by decide)⟩) = lay1 w S q f := by
    intro f
    rw [sTc_apply]
    unfold lay1 blk
    congr 1
    · refine congrArg w.PT (congrArg (ix2 f) (Fin.ext ?_))
      show (q.val / 6400 * 6400 + q.val % 6400) % 12800 = q.val
      omega
    · refine Finset.sum_congr rfl fun d _ => ?_
      congr 3
      refine Fin.ext ?_
      show q.val % 6400 % 256 = q.val % 256
      omega
  show k0_pay14 w.v2 w.v5 w.v11 (sTc w.v7 S) (blk w.PT (q.val / 6400)) (ix2 g ⟨q.val % 6400, Nat.mod_lt _ (by decide)⟩) = _
  rw [pay14_apply]
  simp only [h1]
  rfl

/-- A candidate's score. -/
theorem lg_apply (w : Wt Ideal) (z : Vec Ideal S64x256 .f32) (S : FVec Ideal S128x256 .f32) (b : Fin 256) (a : Fin 50) :
    col (lg w z S) b a = ∑ g : Fin 512, w.v13 (ix2 0 g) * max (lay2 w S ⟨a.val * 256 + b.val, by omega⟩ g) (lay2 w S ⟨a.val * 256 + b.val, by omega⟩ g * w.v5 (ix2 0 0)) := by
  unfold col lg Blocks.pad
  rw [dif_pos (show ((ix2 (⟨a.val, by omega⟩ : Fin 64) b) 0).val < 50 from a.isLt)]
  show row w S (ix2 0 ⟨a.val * 256 + b.val, by omega⟩) = _
  unfold row
  rw [pay15_apply]
  refine Finset.sum_congr rfl fun g _ => ?_
  rw [hid_apply]

end Cert.KernelIdeal.Math

end
-- ==== Proof.Steps.lean ====
/- The body's steps and the reference's steps, side by side. -/
module

public import proofs.«01_k».proof.Proof.KernelMath

@[expose] public section

set_option maxRecDepth 16384

noncomputable section

namespace Cert.Steps

open Idealize.ShloMosaic
open Cert.Column Cert.KernelIdeal.Math Cert.ReferenceIdeal.Math
open Cert.KernelIdeal.Model (Wt St lg am pi next st gat)
open Cert.KernelIdeal.RunValue (none0)

/-- The reference's state of one step. -/
abbrev RState := Cert.ReferenceIdeal.Step.State Ideal

/-- The body's weights are the reference's. -/
structure Same (w : Wt Ideal) (s : RState) : Prop where
  a1 : w.v2 (ix2 0 0) = s.main_v7_3 (ix1 0)
  a2 : w.v5 (ix2 0 0) = s.main_v7_6 (ix1 0)
  W1 : ∀ f d : Fin 128, w.v7 (ix2 f d) = s.main_v7_1 (ix2 f ⟨d.val, by omega⟩)
  W2 : ∀ (g : Fin 512) (f : Fin 128), w.v11 (ix2 g f) = s.main_v7_4 (ix2 g f)
  W3 : ∀ g : Fin 512, w.v13 (ix2 0 g) = s.main_v7_7 (ix2 0 g)
  Wih : ∀ (q : Fin 384) (d : Fin 128), w.v15 (ix2 q d) = s.main_v7_10 (ix2 q d)
  Whh : ∀ (q : Fin 384) (d : Fin 128), w.v17 (ix2 q d) = s.main_v7_12 (ix2 q d)
  PT : ∀ (f : Fin 128) (q : Fin 12800), w.PT (ix2 f q) = ∑ d : Fin 128, s.main_v7_1 (ix2 f ⟨128 + d.val, by omega⟩) * w.X (ix2 d q)
  X : ∀ (a : Fin 50) (b : Fin 256) (d : Fin 128), w.X (ix2 d ⟨a.val * 256 + b.val, by omega⟩) = s.main_v7_0 (ix3 a b d)

/-- What is asked of the arguments. -/
structure Good (s : RState) : Prop where
  rf : ∀ i, IsReal (s.main_v7_0 i)
  W1 : ∀ i, IsReal (s.main_v7_1 i)
  W2 : ∀ i, IsReal (s.main_v7_4 i)
  W3 : ∀ i, IsReal (s.main_v7_7 i)
  a1 : IsReal (s.main_v7_3 (ix1 0))
  a2 : IsReal (s.main_v7_6 (ix1 0))
  b3 : IsReal (s.main_v7_8 (ix1 0))
  a1_le : s.main_v7_3 (ix1 0) ≤ 1
  a2_le : s.main_v7_6 (ix1 0) ≤ 1
  b1 : ∀ f, s.main_v7_2 (ix1 f) = 0
  b2 : ∀ g, s.main_v7_5 (ix1 g) = 0
  bih : ∀ q, s.main_v7_11 (ix1 q) = 0
  bhh : ∀ q, s.main_v7_13 (ix1 q) = 0

/-- Before step `t` the two states stand for the same. -/
structure Rel (t : ℕ) (k : St Ideal) (s : RState) : Prop where
  S : ∀ (d : Fin 128) (b : Fin 256), k.S (ix2 d b) = s.main_v7_17 (ix3 0 b d)
  real : ∀ (d : Fin 128) (b : Fin 256), IsReal (k.S (ix2 d b))
  C : ∀ (a : Fin 50) (b : Fin 256), 0 ≤ s.main_v7_16 (ix2 b a) ↔ left k.C b a
  few : ∀ b : Fin 256, (Finset.univ.filter fun a : Fin 50 => ¬ left k.C b a).card ≤ t

section Step

variable {w : Wt Ideal} {s : RState} {k : St Ideal} {t : ℕ} (hw : Same w s) (hg : Good s) (hr : Rel t k s) (j : ℕ)

include hw hg hr

theorem lay1_eq (a : Fin 50) (b : Fin 256) (f : Fin 128) :
    lay1 w k.S ⟨a.val * 256 + b.val, by omega⟩ f = Cert.ReferenceIdeal.Step.b5 j s (ix3 a b f) := by
  rw [b5_apply]
  refine Eq.trans ?_ (add_comm _ _)
  unfold lay1
  rw [hw.PT]
  congr 1
  · refine Finset.sum_congr rfl fun d _ => ?_
    rw [hw.X, mul_comm]
  · refine Finset.sum_congr rfl fun d _ => ?_
    have e : (⟨(a.val * 256 + b.val) % 256, Nat.mod_lt _ (by decide)⟩ : Fin 256) = b := Fin.ext (by show (a.val * 256 + b.val) % 256 = b.val; omega)
    rw [hw.W1, e, hr.S, mul_comm]

theorem lay1_real (a : Fin 50) (b : Fin 256) (f : Fin 128) : IsReal (lay1 w k.S ⟨a.val * 256 + b.val, by omega⟩ f) := by
  unfold lay1
  refine IsReal.add ?_ (IsReal.sum _ _ fun d => ?_)
  · rw [hw.PT]
    refine IsReal.sum _ _ fun d => ?_
    rw [hw.X]
    exact (hg.W1 _).mul (hg.rf _)
  · rw [hw.W1]
    exact (hg.W1 _).mul (hr.real _ _)

theorem act1_eq (a : Fin 50) (b : Fin 256) (f : Fin 128) :
    max (lay1 w k.S ⟨a.val * 256 + b.val, by omega⟩ f) (lay1 w k.S ⟨a.val * 256 + b.val, by omega⟩ f * w.v2 (ix2 0 0))
      = Cert.ReferenceIdeal.Step.b15 j s (ix3 a b f) := by
  rw [b15_apply, hg.b1, add_zero, ← lay1_eq hw hg hr, hw.a1]
  exact (leaky (lay1_real hw hg hr a b f) hg.a1 hg.a1_le).symm

theorem lay2_eq (a : Fin 50) (b : Fin 256) (g : Fin 512) :
    lay2 w k.S ⟨a.val * 256 + b.val, by omega⟩ g = ∑ x : Fin 128, Cert.ReferenceIdeal.Step.b15 j s (ix3 a b x) * s.main_v7_4 (ix2 g x) := by
  unfold lay2
  refine Finset.sum_congr rfl fun f _ => ?_
  rw [act1_eq hw hg hr j, hw.W2, mul_comm]

theorem lay2_real (a : Fin 50) (b : Fin 256) (g : Fin 512) : IsReal (lay2 w k.S ⟨a.val * 256 + b.val, by omega⟩ g) := by
  unfold lay2
  refine IsReal.sum _ _ fun f => ?_
  rw [hw.W2, hw.a1]
  have h := lay1_real hw hg hr a b f
  exact (hg.W2 _).mul (h.max (h.mul hg.a1))

theorem act2_eq (a : Fin 50) (b : Fin 256) (g : Fin 512) :
    max (lay2 w k.S ⟨a.val * 256 + b.val, by omega⟩ g) (lay2 w k.S ⟨a.val * 256 + b.val, by omega⟩ g * w.v5 (ix2 0 0))
      = Cert.ReferenceIdeal.Step.b27 j s (ix3 a b g) := by
  rw [b27_apply, hg.b2, add_zero, ← lay2_eq hw hg hr, hw.a2]
  exact (leaky (lay2_real hw hg hr a b g) hg.a2 hg.a2_le).symm

theorem score_eq (a : Fin 50) (b : Fin 256) :
    col (lg w none0 k.S) b a + s.main_v7_8 (ix1 0) = Cert.ReferenceIdeal.Step.b34 j s (ix2 b a) := by
  rw [b34_apply, lg_apply]
  congr 1
  refine Finset.sum_congr rfl fun g _ => ?_
  rw [act2_eq hw hg hr j, hw.W3, mul_comm]

theorem score_real (b : Fin 256) (a : Fin 50) : IsReal (col (lg w none0 k.S) b a) := by
  rw [lg_apply]
  refine IsReal.sum _ _ fun g => ?_
  rw [hw.W3, hw.a2]
  have h := lay2_real hw hg hr a b g
  exact (hg.W3 _).mul (h.max (h.mul hg.a2))

theorem ite_left {α : Type} (b : Fin 256) (a : Fin 50) (x y : α) [Decidable (0 ≤ s.main_v7_16 (ix2 b a))] :
    (if 0 ≤ s.main_v7_16 (ix2 b a) then x else y) = if left k.C b a then x else y := by
  by_cases h : left k.C b a
  · rw [if_pos h, if_pos ((hr.C a b).mpr h)]
  · rw [if_neg h, if_neg (fun e => h ((hr.C a b).mp e))]

theorem b50_eq (b : Fin 256) (a : Fin 50) :
    Cert.ReferenceIdeal.Step.b50 j s (ix2 b a) = R (left k.C b) (col (lg w none0 k.S) b) (s.main_v7_8 (ix1 0)) a := by
  rw [b50_apply, ite_left hw hg hr, ← score_eq hw hg hr]
  rfl

theorem b45_eq (b : Fin 256) :
    Cert.ReferenceIdeal.Step.b45 j s (ix1 b) = mxR (left k.C b) (col (lg w none0 k.S) b) (s.main_v7_8 (ix1 0)) := by
  rw [b45_apply]
  unfold mxR
  congr 1
  refine congrArg (fun f => Finset.univ.fold max ⊥ f) (funext fun a => ?_)
  rw [← b50_apply, b50_eq hw hg hr]

theorem b53_eq (b : Fin 256) (a : Fin 50) :
    Cert.ReferenceIdeal.Step.b53 j s (ix2 b a) = ex (left k.C b) (col (lg w none0 k.S) b) (s.main_v7_8 (ix1 0)) a := by
  rw [b53_apply, b50_eq hw hg hr, b45_eq hw hg hr]
  rfl

theorem b65_eq (b : Fin 256) (a : Fin 50) :
    Cert.ReferenceIdeal.Step.b65 j s (ix2 b a) = P (left k.C b) (col (lg w none0 k.S) b) (s.main_v7_8 (ix1 0)) a := by
  rw [b65_apply, ite_left hw hg hr, b58_apply, b53_eq hw hg hr]
  unfold P
  refine congrArg (fun x => if left k.C b a then Ideal.div _ x else 0) (Finset.sum_congr rfl fun x _ => ?_)
  rw [ite_left hw hg hr, b53_eq hw hg hr]

/-- The share and the place that the reference takes. -/
theorem top_eq (b : Fin 256) :
    Cert.ReferenceIdeal.Step.b68 j s (ix1 b) = piR (left k.C b) (col (lg w none0 k.S) b) (s.main_v7_8 (ix1 0)) ∧
    Cert.ReferenceIdeal.Step.b69 j s (ix1 b) = idR (left k.C b) (col (lg w none0 k.S) b) (s.main_v7_8 (ix1 0)) := by
  obtain ⟨a, ha, h1, h2⟩ := top_apply j s b
  obtain ⟨e1, e2⟩ := first_eq (left k.C b) (col (lg w none0 k.S) b) (s.main_v7_8 (ix1 0)) a fun x => by
    rw [← b65_eq hw hg hr j b x, ← b65_eq hw hg hr j b a]
    exact ha x
  rw [h1, h2, b65_eq hw hg hr, e1, e2]
  exact ⟨rfl, rfl⟩

/-- Before the tenth step, a candidate is left in every column. -/
theorem some_left (ht : t < 50) (b : Fin 256) : ∃ a, left k.C b a := by
  by_contra h
  have h := not_exists.mp h
  have := hr.few b
  rw [Finset.filter_true_of_mem fun a _ => h a, Finset.card_univ, Fintype.card_fin] at this
  omega

/-- A step's choice. -/
theorem choose_eq (ht : t < 50) (b : Fin 256) :
    Cert.ReferenceIdeal.Step.b68 j s (ix1 b) = pi w none0 k (ix2 0 b) ∧
    Cert.ReferenceIdeal.Step.b69 j s (ix1 b) = am w none0 k (ix2 0 b) ∧
    ∃ a : Fin 50, left k.C b a ∧ am w none0 k (ix2 0 b) = BitVec.ofNat 32 a.val := by
  obtain ⟨h1, h2, h3⟩ := choice (left k.C b) (col (lg w none0 k.S) b) (s.main_v7_8 (ix1 0)) (some_left hw hg hr ht b)
    (score_real hw hg hr b) hg.b3
  have e1 : pi w none0 k (ix2 0 b) = piK (left k.C b) (col (lg w none0 k.S) b) := pay20_col _ _ _
  have e2 : am w none0 k (ix2 0 b) = amK (left k.C b) (col (lg w none0 k.S) b) := pay19_col _ _ _
  rw [e1, e2, (top_eq hw hg hr j b).1, (top_eq hw hg hr j b).2]
  exact ⟨h1, h2, h3⟩

/-- A step's candidate, gathered. -/
theorem gat_eq (ht : t < 50) (b : Fin 256) (d : Fin 128) :
    gat w.X (am w none0 k) (ix2 d b) = Cert.ReferenceIdeal.Step.b99 j s (ix2 b d) := by
  obtain ⟨_, h2, a, _, h3⟩ := choose_eq hw hg hr j ht b
  rw [b99_apply j s b d a (h2.trans h3), ← hw.X]
  unfold gat
  have e : (am w none0 k (ix2 0 b)).toNat = a.val := by
    rw [h3, BitVec.toNat_ofNat]
    omega
  have h : (am w none0 k (ix2 0 ((ix2 d b) 1))).toNat < 50 := e.trans_lt a.isLt
  refine (dif_pos h).trans (congrArg w.X (congrArg (ix2 d) (Fin.ext ?_)))
  show (am w none0 k (ix2 0 b)).toNat * 256 + b.val = a.val * 256 + b.val
  rw [e]

/-- A step's next state. -/
theorem S_eq (ht : t < 50) (d : Fin 128) (b : Fin 256) :
    (next w none0 k).S (ix2 d b) = Cert.ReferenceIdeal.Step.b144 j s (ix3 0 b d) := by
  have gi : ∀ q : Fin 384, (∑ x : Fin 128, w.v15 (ix2 q x) * gat w.X (am w none0 k) (ix2 x b)) = Cert.ReferenceIdeal.Step.b105 j s (ix2 b q) := by
    intro q
    rw [b105_apply, hg.bih, add_zero]
    refine Finset.sum_congr rfl fun x _ => ?_
    rw [gat_eq hw hg hr j ht, hw.Wih, mul_comm]
  have gh : ∀ q : Fin 384, (∑ x : Fin 128, w.v17 (ix2 q x) * k.S (ix2 x b)) = Cert.ReferenceIdeal.Step.b110 j s (ix2 b q) := by
    intro q
    rw [b110_apply, hg.bhh, add_zero]
    refine Finset.sum_congr rfl fun x _ => ?_
    rw [hr.S, hw.Whh, mul_comm]
  rw [b144_apply]
  refine (pay24_apply w.v15 w.v17 k.S (gat w.X (am w none0 k)) d b).trans ?_
  rw [gi, gi, gi, gh, gh, gh, hr.S]
  rfl

theorem S_real (d : Fin 128) (b : Fin 256) : IsReal ((next w none0 k).S (ix2 d b)) := by
  show IsReal (Cert.KernelIdeal.Gen.k0_pay24 w.v15 w.v17 k.S (gat w.X (am w none0 k)) (ix2 d b))
  rw [pay24_apply]
  exact ((IsReal.one.sub (IsReal.sigmoid _)).mul (IsReal.tanh _)).add ((IsReal.sigmoid _).mul (hr.real _ _))

theorem C_iff (a : Fin 50) (b : Fin 256) :
    left (next w none0 k).C b a ↔ left k.C b a ∧ BitVec.ofNat 32 a.val ≠ am w none0 k (ix2 0 b) :=
  pay21_apply _ _ _ _

/-- One step keeps the relation. -/
theorem rel_next (ht : t < 50) (hj : j < 10) : Rel (t + 1) (next w none0 k) (Cert.ReferenceIdeal.Step.step j s) where
  S d b := by
    rw [Cert.ReferenceIdeal.Step.step_main_v7_17]
    exact S_eq hw hg hr j ht d b
  real := S_real hw hg hr
  C a b := by
    rw [Cert.ReferenceIdeal.Step.step_main_v7_16, b81_apply, C_iff hw hg hr, ← hr.C, ← (choose_eq hw hg hr j ht b).2.1]
    by_cases h : BitVec.ofNat 32 a.val = Cert.ReferenceIdeal.Step.b69 j s (ix1 b)
    · rw [if_pos h]
      refine ⟨fun e => absurd e ?_, fun e => absurd h e.2⟩
      have e : (IntOp.addi (BitVec.ofNat 32 j) 1#32).toInt = j + 1 := by
        interval_cases j <;> rfl
      rw [sitofp_int, e, ← EReal.coe_neg, ← EReal.coe_zero, EReal.coe_le_coe_iff]
      push_cast
      have : (0 : ℝ) ≤ j := Nat.cast_nonneg j
      linarith
    · rw [if_neg h]
      exact ⟨fun e => ⟨e, h⟩, fun e => e.1⟩
  few b := by
    obtain ⟨_, _, a, _, h3⟩ := choose_eq hw hg hr j ht b
    refine le_trans (Finset.card_le_card (t := insert a (Finset.univ.filter fun a : Fin 50 => ¬ left k.C b a)) fun x hx => ?_) ?_
    · have hx := (Finset.mem_filter.mp hx).2
      rw [C_iff hw hg hr, not_and_or, not_not, h3] at hx
      rcases hx with hx | hx
      · exact Finset.mem_insert_of_mem (Finset.mem_filter.mpr ⟨Finset.mem_univ _, hx⟩)
      · have e : x = a := Fin.ext (by
          have := congrArg BitVec.toNat hx
          rw [BitVec.toNat_ofNat, BitVec.toNat_ofNat] at this
          omega)
        rw [e]
        exact Finset.mem_insert_self _ _
    · exact (Finset.card_insert_le _ _).trans (Nat.add_le_add_right (hr.few b) 1)

end Step

theorem Same.step {w : Wt Ideal} {s : RState} (h : Same w s) (j : ℕ) : Same w (Cert.ReferenceIdeal.Step.step j s) := ⟨h.a1, h.a2, h.W1, h.W2, h.W3, h.Wih, h.Whh, h.PT, h.X⟩

theorem Good.step {s : RState} (h : Good s) (j : ℕ) : Good (Cert.ReferenceIdeal.Step.step j s) :=
  ⟨h.rf, h.W1, h.W2, h.W3, h.a1, h.a2, h.b3, h.a1_le, h.a2_le, h.b1, h.b2, h.bih, h.bhh⟩

/-- What holds before step `n`: the weights, what is asked, the states, and the columns written so far. -/
structure Upto (w : Wt Ideal) (s0 : St Ideal) (n : ℕ) (s : RState) : Prop where
  same : Same w s
  good : Good s
  rel : Rel n (st w none0 s0 n) s
  ids : ∀ (b : Fin 256) (q : Fin 10), q.val < n → s.main_v7_18 (ix2 b q) = Cert.KernelIdeal.RunValue.ids w s0 (ix2 q b)
  pis : ∀ (b : Fin 256) (q : Fin 10), q.val < n → s.main_v7_19 (ix2 b q) = Cert.KernelIdeal.RunValue.pis w s0 (ix2 q b)

theorem col_iff {n : ℕ} (hn : n < 10) (q : Fin 10) : BitVec.ofNat 32 q.val = BitVec.ofNat 32 n ↔ q.val = n := by
  constructor
  · intro h
    have := congrArg BitVec.toNat h
    rw [BitVec.toNat_ofNat, BitVec.toNat_ofNat] at this
    omega
  · intro h
    rw [h]

theorem ids_apply (w : Wt Ideal) (s0 : St Ideal) (q : Fin 10) (b : Fin 256) :
    Cert.KernelIdeal.RunValue.ids w s0 (ix2 q b) = (FloatOps.sitofp (F := Ideal) FTy.f32 (am w none0 (st w none0 s0 q.val) (ix2 0 b)) : EReal) := rfl

theorem pis_apply (w : Wt Ideal) (s0 : St Ideal) (q : Fin 10) (b : Fin 256) :
    Cert.KernelIdeal.RunValue.pis w s0 (ix2 q b) = pi w none0 (st w none0 s0 q.val) (ix2 0 b) := rfl

theorem Upto.next {w : Wt Ideal} {s0 : St Ideal} {n : ℕ} {s : RState} (h : Upto w s0 n s) (hn : n < 10) :
    Upto w s0 (n + 1) (Cert.ReferenceIdeal.Step.step n s) where
  same := h.same.step n
  good := h.good.step n
  rel := rel_next h.same h.good h.rel n (by omega) hn
  ids b q hq := by
    rw [Cert.ReferenceIdeal.Step.step_main_v7_18, b154_apply]
    by_cases e : q.val = n
    · rw [if_pos ((col_iff hn q).mpr e), (choose_eq h.same h.good h.rel n (by omega) b).2.1, ids_apply, e]
    · rw [if_neg (fun x => e ((col_iff hn q).mp x)), h.ids b q (by omega)]
  pis b q hq := by
    rw [Cert.ReferenceIdeal.Step.step_main_v7_19, b158_apply]
    by_cases e : q.val = n
    · rw [if_pos ((col_iff hn q).mpr e), (choose_eq h.same h.good h.rel n (by omega) b).1, pis_apply, e]
    · rw [if_neg (fun x => e ((col_iff hn q).mp x)), h.pis b q (by omega)]

/-- Ten steps: what the reference returns is what the body stores, transposed. -/
theorem results {w : Wt Ideal} {s0 : St Ideal} (it : ℕ → RState) (hs : ∀ n, it (n + 1) = Cert.ReferenceIdeal.Step.step n (it n))
    (hw : Same w (it 0)) (hg : Good (it 0)) (hr : Rel 0 s0 (it 0)) (b : Fin 256) (q : Fin 10) :
    (it 10).main_v7_18 (ix2 b q) = Cert.KernelIdeal.RunValue.ids w s0 (ix2 q b) ∧
    (it 10).main_v7_19 (ix2 b q) = Cert.KernelIdeal.RunValue.pis w s0 (ix2 q b) := by
  have key : ∀ n, n ≤ 10 → Upto w s0 n (it n) := by
    intro n
    induction n with
    | zero => exact fun _ => ⟨hw, hg, hr, fun _ _ h => absurd h (Nat.not_lt_zero _), fun _ _ h => absurd h (Nat.not_lt_zero _)⟩
    | succ n ih =>
      intro hn
      rw [hs]
      exact (ih (by omega)).next (by omega)
  exact ⟨(key 10 (le_refl _)).ids b q q.isLt, (key 10 (le_refl _)).pis b q q.isLt⟩

end Cert.Steps

end
-- ==== Proof.Algebraic.lean ====
/- The idealized kernel and the idealized reference return equal arrays. -/
module

public import proofs.«01_k».proof.Defs
public import proofs.«01_k».proof.Proof.Gen.ReferenceIdeal.StepRun
public import proofs.«01_k».proof.Proof.KernelIdealFinal
public import proofs.«01_k».proof.Proof.Precondition
public import proofs.«01_k».proof.Proof.Steps

@[expose] public section

set_option maxRecDepth 16384

noncomputable section

namespace Cert.Algebraic

open Idealize.ShloMosaic Idealize.ShloMosaic.TcCoe Idealize.SL.Sem
open Cert.KernelIdeal Cert.KernelIdeal.Gen Cert.KernelIdeal.Value
open Cert.Column Cert.Steps

section Start

variable (A0 : FVec Ideal Cert.ReferenceIdeal.S50x256x128 .f32) (A1 : FVec Ideal Cert.ReferenceIdeal.S1x256x128 .f32)
  (A2 : FVec Ideal Cert.ReferenceIdeal.S128x256 .f32) (A3 : FVec Ideal Cert.ReferenceIdeal.S128 .f32) (A4 : FVec Ideal Cert.ReferenceIdeal.S1 .f32)
  (A5 : FVec Ideal Cert.ReferenceIdeal.S512x128 .f32) (A6 : FVec Ideal Cert.ReferenceIdeal.S512 .f32) (A7 : FVec Ideal Cert.ReferenceIdeal.S1 .f32)
  (A8 : FVec Ideal Cert.ReferenceIdeal.S1x512 .f32) (A9 : FVec Ideal Cert.ReferenceIdeal.S1 .f32)
  (A10 A11 : FVec Ideal Cert.ReferenceIdeal.S384x128 .f32) (A12 A13 : FVec Ideal Cert.ReferenceIdeal.S384 .f32)

/-- The reference's state before the first step. -/
abbrev begin₀ : RState := Cert.ReferenceIdeal.Step.init A1 A0 A2 A3 A4 A5 A6 A7 A8 A9 A10 A12 A11 A13

/-- What the body reads once is what the reference reads. -/
theorem same (x0 : FVec Ideal S128x12800 .f32) (x5 x6 : FVec Ideal S1x1 .f32)
    (h0 : ∀ (a : Fin 50) (b : Fin 256) (d : Fin 128), x0 (ix2 d ⟨a.val * 256 + b.val, by omega⟩) = A0 (ix3 a b d))
    (h5 : x5 (ix2 0 0) = A4 (ix1 0)) (h6 : x6 (ix2 0 0) = A7 (ix1 0)) :
    Same (RunValue.wt x0 A2 A5 A8 x5 x6 A10 A11) (begin₀ A0 A1 A2 A3 A4 A5 A6 A7 A8 A9 A10 A11 A12 A13) where
  a1 := by
    refine Eq.trans ?_ h5
    show k0_pay3 (F := Ideal) x5 (ix2 0 0) = _
    pointwise [k0_pay3]
  a2 := by
    refine Eq.trans ?_ h6
    show k0_pay4 (F := Ideal) x6 (ix2 0 0) = _
    pointwise [k0_pay4]
  W1 f d := rfl
  W2 g f := rfl
  W3 g := rfl
  Wih q d := rfl
  Whh q d := rfl
  PT f q := Cert.KernelIdeal.Math.PT_apply _ _ f q
  X := h0

/-- Where the steps start is where the reference's do. -/
theorem rel (x1 : FVec Ideal S128x256 .f32) (h1 : ∀ (d : Fin 128) (b : Fin 256), x1 (ix2 d b) = A1 (ix3 0 b d))
    (hA1 : ∀ i, IsReal (A1 i)) :
    Rel 0 (RunValue.start x1) (begin₀ A0 A1 A2 A3 A4 A5 A6 A7 A8 A9 A10 A11 A12 A13) where
  S d b := by
    refine Eq.trans ?_ (h1 d b)
    show k0_pay11 (F := Ideal) x1 (ix2 d b) = _
    pointwise [k0_pay11]
  real d b := by
    have e : (RunValue.start x1).S (ix2 d b) = A1 (ix3 0 b d) := by
      refine Eq.trans ?_ (h1 d b)
      show k0_pay11 (F := Ideal) x1 (ix2 d b) = _
      pointwise [k0_pay11]
    rw [e]
    exact hA1 _
  C a b := by
    refine iff_of_true ?_ rfl
    show (0 : EReal) ≤ Cert.ReferenceIdeal.Step.K_main_v5 (F := Ideal) (ix2 b a)
    rw [Cert.ReferenceIdeal.Math.K5_apply b a]
    exact EReal.coe_nonneg.mpr (Nat.cast_nonneg _)
  few b := by
    refine (Finset.card_eq_zero.mpr (Finset.filter_eq_empty_iff.mpr fun a _ h => h rfl)).le

end Start

/-- What the precondition says of the reference's first state. -/
theorem good [Cert.Pre_finite_unbiased.Facts] (m : (ℓ : Loc Cert.KernelIdeal.nD Cert.KernelIdeal.τ Cert.KernelIdeal.sig) → Buf (Elt Ideal) ℓ)
    (h : Cert.Pre_KernelIdeal_finite_unbiased m) (c : Dev Cert.KernelIdeal.nD) :
    Good (begin₀ (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)) (m ((c : Thread nD τ).loc main_arg13)))
    ∧ ∀ i, IsReal ((m ((c : Thread nD τ).loc main_arg1) : FVec Ideal S1x256x128 .f32) i) := by
  obtain ⟨h0, h1, h2, h3, h4, h5, h6, h7, h8, h9, h10, h11, h12, h13⟩ := h c
  exact ⟨{ rf := Precondition.real_of _ _ h0
           W1 := Precondition.real_of _ _ h2
           W2 := Precondition.real_of _ _ h3
           W3 := Precondition.real_of _ _ h4
           a1 := Precondition.real_of _ _ h5 _
           a2 := Precondition.real_of _ _ h6 _
           b3 := Precondition.real_of _ _ h7 _
           a1_le := Precondition.le_of _ _ h8 _
           a2_le := Precondition.le_of _ _ h9 _
           b1 := fun f => Precondition.zero_of _ _ h10 _
           b2 := fun f => Precondition.zero_of _ _ h11 _
           bih := fun f => Precondition.zero_of _ _ h12 _
           bhh := fun f => Precondition.zero_of _ _ h13 _ }, Precondition.real_of _ _ h1⟩

/-- The states of the reference's loop, from its first. -/
def states (s : RState) : ℕ → RState
  | 0 => s
  | n + 1 => Cert.ReferenceIdeal.Step.step n (states s n)

/-- What the two programs return on one device. -/
theorem agree [Cert.Pre_finite_unbiased.Facts] (m : (ℓ : Loc Cert.KernelIdeal.nD Cert.KernelIdeal.τ Cert.KernelIdeal.sig) → Buf (Elt Ideal) ℓ)
    (h : Cert.Pre_KernelIdeal_finite_unbiased m) (c : Dev Cert.KernelIdeal.nD) (b : Fin 256) (q : Fin 10) (s : RState)
    (hs : s = begin₀ (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)) (m ((c : Thread nD τ).loc main_arg13))) :
    (states s 10).main_v7_18 (ix2 b q) = (dats m 0 c).arrAt 9 cfg0.N (ix2 q b)
    ∧ (states s 10).main_v7_19 (ix2 b q) = (dats m 0 c).arrAt 10 cfg0.N (ix2 q b) := by
  rw [Final.final9, Final.final10]
  unfold wtB startB
  rw [Final.iblk0, Final.iblk1, Final.iblk2, Final.iblk3, Final.iblk4, Final.iblk5, Final.iblk6, Final.iblk7, Final.iblk8]
  obtain ⟨hg, hr⟩ := good m h c
  subst hs
  exact results (states _) (fun _ => rfl)
    (same _ _ _ _ _ _ _ _ _ _ _ _ _ _ _ _ _ (Final.V1 m c) (Final.V4 m c) (Final.V5 m c)) hg
    (rel _ _ _ _ _ _ _ _ _ _ _ _ _ _ _ (Final.V3 m c) hr) b q

/-- The idealized kernel and the idealized reference return equal arrays. -/
theorem algebraic [Cert.Pre_finite_unbiased.Facts] : Cert.algebraic_KernelIdeal_ReferenceIdeal_pre_finite_unbiased := by
  pair_intro
  · run_from Cert.KernelIdeal.Value.run_main m g
    all_goals first
      | with_reducible exact W_main_arg0 m _ c
      | with_reducible exact W_main_arg1 m _ c
      | with_reducible exact W_main_arg3 m _ c
      | with_reducible exact W_main_arg4 m _ c
      | with_reducible exact W_main_arg6 m _ c
      | with_reducible exact W_main_arg7 m _ c
      | with_reducible exact W_main_arg9 m _ c
      | with_reducible exact W_main_arg12 m _ c
      | with_reducible exact W_main_arg13 m _ c
  · obtain ⟨it, hit⟩ : ∃ it : Dev Cert.ReferenceIdeal.nD → ℕ → RState, it = fun c => states (Cert.ReferenceIdeal.StepRun.initState m' c) := ⟨_, rfl⟩
    have start : ∀ c : Dev Cert.KernelIdeal.nD, it c = states (begin₀ (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)) (m ((c : Thread nD τ).loc main_arg13))) := by
      intro c
      obtain ⟨h0, h1, h2, h3, h4, h5, h6, h7, h8, h9, h10, h11, h12, h13⟩ := hagree c
      rw [hit]
      dsimp only
      unfold Cert.ReferenceIdeal.StepRun.initState begin₀
      rw [h0, h1, h2, h3, h4, h5, h6, h7, h8, h9, h10, h11, h12, h13]
    run_from Cert.ReferenceIdeal.StepRun.run_iter m' g' it (fun c => by rw [hit]; rfl) (fun c n => by rw [hit]; rfl)
    · funext i
      idx_vars i
      refine Eq.trans ?_ (Final.tail7 m c _ _).symm
      rw [start c]
      exact (agree m hpre c _ _ _ rfl).1
    · funext i
      idx_vars i
      refine Eq.trans ?_ (Final.tail8 m c _ _).symm
      rw [start c]
      exact (agree m hpre c _ _ _ rfl).2

end Cert.Algebraic

end
-- ==== Proof.lean ====
/- The claims of this certificate: the kernel, its idealization and the idealized reference run and leave their
   arguments; the idealization is the kernel's up to its named constant; and the idealizations return equal results. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.StepRun
public import proofs.«01_k».proof.Proof.KernelLaunch
public import proofs.«01_k».proof.Proof.KernelIdealLaunch
public import proofs.«01_k».proof.Proof.Algebraic
public import Idealize.ShloMosaic.Lib.Quiescent

@[expose] public section

noncomputable section

namespace Cert.Proof

open Idealize.ShloMosaic Idealize.SL.Sem

/-- The kernel runs, leaves its arguments, and ends with every counter at zero. -/
theorem frame_kernel : Cert.quiescent_Kernel := fun m ρ _ => Cert.Kernel.Launch.frame m ρ

/-- So does its idealization. -/
theorem frame_ideal : Cert.quiescent_KernelIdeal := fun m ρ _ => Cert.KernelIdeal.Launch.frame m ρ

/-- So does the reference: it has no semaphores at all. -/
theorem frame_reference_any (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0) :=
  (θ_run _ _ _).mono (fun r h => ⟨fun c => (h c).2.2, sem_eq_zero_of_no_sems rfl r.2⟩) (Cert.ReferenceIdeal.Value.run m ρ)

theorem frame_reference : Cert.quiescent_ReferenceIdeal := fun m ρ _ => frame_reference_any m ρ

/-- The mask constant is named for the value the idealization reads. -/
theorem preserves : Cert.preserves_Kernel_KernelIdeal :=
  IdealRules.named_const.statement Cert.KernelIdeal.κ "mask" .f32 0xF149F2CA#32 ⊥ rfl

/-- The claims that state the precondition do not need it to run. -/
theorem frame_ideal_pre : Cert.quiescent_KernelIdeal_pre_finite_unbiased := fun m ρ _ => Cert.KernelIdeal.Launch.frame m ρ
theorem frame_reference_pre : Cert.quiescent_ReferenceIdeal_pre_finite_unbiased := fun m ρ _ => frame_reference_any m ρ

theorem claim : Cert.Claim :=
  ⟨Cert.Kernel.Gen.facts, Cert.KernelIdeal.Gen.facts, Cert.ReferenceIdeal.Gen.facts, Cert.Precondition.facts,
    frame_kernel, frame_ideal, frame_ideal_pre, frame_reference, frame_reference_pre, preserves, Cert.Algebraic.algebraic⟩

end Cert.Proof

end
